-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)) (v1 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_v6) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v6) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)) (v1 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_v6) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v67) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x5x4 : Shape := ⟨3, ![4, 5, 4]⟩
abbrev S4x128x80x80 : Shape := ⟨4, ![4, 128, 80, 80]⟩
abbrev S4x256x40x40 : Shape := ⟨4, ![4, 256, 40, 40]⟩
abbrev S4x512x20x20 : Shape := ⟨4, ![4, 512, 20, 20]⟩
abbrev S4 : Shape := ⟨1, ![4]⟩
abbrev S6272x1024 : Shape := ⟨2, ![6272, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S12544x1024 : Shape := ⟨2, ![12544, 1024]⟩
abbrev S25088x1024 : Shape := ⟨2, ![25088, 1024]⟩
abbrev S4x5 : Shape := ⟨2, ![4, 5]⟩
abbrev S20 : Shape := ⟨1, ![20]⟩
abbrev S4x80x128x80 : Shape := ⟨4, ![4, 80, 128, 80]⟩
abbrev S4x80x10240 : Shape := ⟨3, ![4, 80, 10240]⟩
abbrev S20x128x49 : Shape := ⟨3, ![20, 128, 49]⟩
abbrev S1x80x10240 : Shape := ⟨3, ![1, 80, 10240]⟩
abbrev S1x128x49 : Shape := ⟨3, ![1, 128, 49]⟩
abbrev S8x128x80 : Shape := ⟨3, ![8, 128, 80]⟩
abbrev S1x1x1 : Shape := ⟨3, ![1, 1, 1]⟩
abbrev S8x80 : Shape := ⟨2, ![8, 80]⟩
abbrev S80x10240 : Shape := ⟨2, ![80, 10240]⟩
abbrev S8x10240 : Shape := ⟨2, ![8, 10240]⟩
abbrev S1024x80 : Shape := ⟨2, ![1024, 80]⟩
abbrev S80x8 : Shape := ⟨2, ![80, 8]⟩
abbrev S1024x8 : Shape := ⟨2, ![1024, 8]⟩
abbrev S8x128x8 : Shape := ⟨3, ![8, 128, 8]⟩
abbrev S1x128x7 : Shape := ⟨3, ![1, 128, 7]⟩
abbrev S128x7 : Shape := ⟨2, ![128, 7]⟩
abbrev S20x6272 : Shape := ⟨2, ![20, 6272]⟩
abbrev S1x1024 : Shape := ⟨2, ![1, 1024]⟩
abbrev S20x1 : Shape := ⟨2, ![20, 1]⟩
abbrev S1x1 : Shape := ⟨2, ![1, 1]⟩
abbrev S20x896 : Shape := ⟨2, ![20, 896]⟩
abbrev S896x1024 : Shape := ⟨2, ![896, 1024]⟩
abbrev S20x1024 : Shape := ⟨2, ![20, 1024]⟩
abbrev S1x20x1 : Shape := ⟨3, ![1, 20, 1]⟩
abbrev S_ : Shape := ⟨0, ![]⟩
abbrev S4x40x256x40 : Shape := ⟨4, ![4, 40, 256, 40]⟩
abbrev S4x40x10240 : Shape := ⟨3, ![4, 40, 10240]⟩
abbrev S20x256x49 : Shape := ⟨3, ![20, 256, 49]⟩
abbrev S1x40x10240 : Shape := ⟨3, ![1, 40, 10240]⟩
abbrev S1x256x49 : Shape := ⟨3, ![1, 256, 49]⟩
abbrev S8x128x40 : Shape := ⟨3, ![8, 128, 40]⟩
abbrev S8x40 : Shape := ⟨2, ![8, 40]⟩
abbrev S1x40x5120 : Shape := ⟨3, ![1, 40, 5120]⟩
abbrev S40x5120 : Shape := ⟨2, ![40, 5120]⟩
abbrev S8x5120 : Shape := ⟨2, ![8, 5120]⟩
abbrev S1024x40 : Shape := ⟨2, ![1024, 40]⟩
abbrev S40x8 : Shape := ⟨2, ![40, 8]⟩
abbrev S20x12544 : Shape := ⟨2, ![20, 12544]⟩
abbrev S4x20x512x20 : Shape := ⟨4, ![4, 20, 512, 20]⟩
abbrev S4x20x10240 : Shape := ⟨3, ![4, 20, 10240]⟩
abbrev S20x512x49 : Shape := ⟨3, ![20, 512, 49]⟩
abbrev S1x20x10240 : Shape := ⟨3, ![1, 20, 10240]⟩
abbrev S1x512x49 : Shape := ⟨3, ![1, 512, 49]⟩
abbrev S8x128x20 : Shape := ⟨3, ![8, 128, 20]⟩
abbrev S8x20 : Shape := ⟨2, ![8, 20]⟩
abbrev S1x20x2560 : Shape := ⟨3, ![1, 20, 2560]⟩
abbrev S20x2560 : Shape := ⟨2, ![20, 2560]⟩
abbrev S8x2560 : Shape := ⟨2, ![8, 2560]⟩
abbrev S1024x20 : Shape := ⟨2, ![1024, 20]⟩
abbrev S20x8 : Shape := ⟨2, ![20, 8]⟩
abbrev S20x25088 : Shape := ⟨2, ![20, 25088]⟩

abbrev nBuf : Space → Nat
  | .hbm => 63
  | .vmem => 48
  | .smem => 6
  | _ => 0

abbrev bufTy : (tb : Table) → Fin (tcTables nBuf tb) → BufTy
  | .hbm, ⟨0, _⟩ => ⟨S4x5x4, .f32⟩
  | .hbm, ⟨1, _⟩ => ⟨S4x5x4, .f32⟩
  | .hbm, ⟨2, _⟩ => ⟨S4x5x4, .f32⟩
  | .hbm, ⟨3, _⟩ => ⟨S4x128x80x80, .f32⟩
  | .hbm, ⟨4, _⟩ => ⟨S4x256x40x40, .f32⟩
  | .hbm, ⟨5, _⟩ => ⟨S4x512x20x20, .f32⟩
  | .hbm, ⟨6, _⟩ => ⟨S4, .f32⟩
  | .hbm, ⟨7, _⟩ => ⟨S6272x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1, .f32⟩
  | .hbm, ⟨12, _⟩ => ⟨S1, .f32⟩
  | .hbm, ⟨13, _⟩ => ⟨S12544x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1, .f32⟩
  | .hbm, ⟨18, _⟩ => ⟨S1, .f32⟩
  | .hbm, ⟨19, _⟩ => ⟨S25088x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024x1, .f32⟩
  | .hbm, ⟨24, _⟩ => ⟨S1, .f32⟩
  | .hbm, ⟨25, _⟩ => ⟨S4x5, .f32⟩
  | .hbm, ⟨26, _⟩ => ⟨S20, .f32⟩
  | .hbm, ⟨27, _⟩ => ⟨S4x80x128x80, .f32⟩
  | .hbm, ⟨28, _⟩ => ⟨S4x80x10240, .f32⟩
  | .hbm, ⟨29, _⟩ => ⟨S20x128x49, .f32⟩
  | .hbm, ⟨30, _⟩ => ⟨S20x6272, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S20x1, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x40x256x40, .f32⟩
  | .hbm, ⟨40, _⟩ => ⟨S4x40x10240, .f32⟩
  | .hbm, ⟨41, _⟩ => ⟨S20x256x49, .f32⟩
  | .hbm, ⟨42, _⟩ => ⟨S20x12544, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S20x1, .f32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S4x20x512x20, .f32⟩
  | .hbm, ⟨51, _⟩ => ⟨S4x20x10240, .f32⟩
  | .hbm, ⟨52, _⟩ => ⟨S20x512x49, .f32⟩
  | .hbm, ⟨53, _⟩ => ⟨S20x25088, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S20x1, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1x80x10240, .f32⟩
  | .local _ .vmem, ⟨1, _⟩ => ⟨S1x80x10240, .f32⟩
  | .local _ .vmem, ⟨2, _⟩ => ⟨S1x128x49, .f32⟩
  | .local _ .vmem, ⟨3, _⟩ => ⟨S1x128x49, .f32⟩
  | .local _ .vmem, ⟨4, _⟩ => ⟨S8x128x80, .f32⟩
  | .local _ .vmem, ⟨5, _⟩ => ⟨S20x896, .f32⟩
  | .local _ .vmem, ⟨6, _⟩ => ⟨S20x896, .f32⟩
  | .local _ .vmem, ⟨7, _⟩ => ⟨S896x1024, .f32⟩
  | .local _ .vmem, ⟨8, _⟩ => ⟨S896x1024, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S20x1, .f32⟩
  | .local _ .vmem, ⟨14, _⟩ => ⟨S1x1, .f32⟩
  | .local _ .vmem, ⟨15, _⟩ => ⟨S20x1024, .f32⟩
  | .local _ .vmem, ⟨16, _⟩ => ⟨S1x40x10240, .f32⟩
  | .local _ .vmem, ⟨17, _⟩ => ⟨S1x40x10240, .f32⟩
  | .local _ .vmem, ⟨18, _⟩ => ⟨S1x256x49, .f32⟩
  | .local _ .vmem, ⟨19, _⟩ => ⟨S1x256x49, .f32⟩
  | .local _ .vmem, ⟨20, _⟩ => ⟨S8x128x40, .f32⟩
  | .local _ .vmem, ⟨21, _⟩ => ⟨S20x896, .f32⟩
  | .local _ .vmem, ⟨22, _⟩ => ⟨S20x896, .f32⟩
  | .local _ .vmem, ⟨23, _⟩ => ⟨S896x1024, .f32⟩
  | .local _ .vmem, ⟨24, _⟩ => ⟨S896x1024, .f32⟩
  | .local _ .vmem, ⟨25, _⟩ => ⟨S1x1024, .f32⟩
  | .local _ .vmem, ⟨26, _⟩ => ⟨S1024x1024, .f32⟩
  | .local _ .vmem, ⟨27, _⟩ => ⟨S1x1024, .f32⟩
  | .local _ .vmem, ⟨28, _⟩ => ⟨S1x1024, .f32⟩
  | .local _ .vmem, ⟨29, _⟩ => ⟨S20x1, .f32⟩
  | .local _ .vmem, ⟨30, _⟩ => ⟨S1x1, .f32⟩
  | .local _ .vmem, ⟨31, _⟩ => ⟨S20x1024, .f32⟩
  | .local _ .vmem, ⟨32, _⟩ => ⟨S1x20x10240, .f32⟩
  | .local _ .vmem, ⟨33, _⟩ => ⟨S1x20x10240, .f32⟩
  | .local _ .vmem, ⟨34, _⟩ => ⟨S1x512x49, .f32⟩
  | .local _ .vmem, ⟨35, _⟩ => ⟨S1x512x49, .f32⟩
  | .local _ .vmem, ⟨36, _⟩ => ⟨S8x128x20, .f32⟩
  | .local _ .vmem, ⟨37, _⟩ => ⟨S20x896, .f32⟩
  | .local _ .vmem, ⟨38, _⟩ => ⟨S20x896, .f32⟩
  | .local _ .vmem, ⟨39, _⟩ => ⟨S896x1024, .f32⟩
  | .local _ .vmem, ⟨40, _⟩ => ⟨S896x1024, .f32⟩
  | .local _ .vmem, ⟨41, _⟩ => ⟨S1x1024, .f32⟩
  | .local _ .vmem, ⟨42, _⟩ => ⟨S1024x1024, .f32⟩
  | .local _ .vmem, ⟨43, _⟩ => ⟨S1x1024, .f32⟩
  | .local _ .vmem, ⟨44, _⟩ => ⟨S1x1024, .f32⟩
  | .local _ .vmem, ⟨45, _⟩ => ⟨S20x1, .f32⟩
  | .local _ .vmem, ⟨46, _⟩ => ⟨S1x1, .f32⟩
  | .local _ .vmem, ⟨47, _⟩ => ⟨S20x1024, .f32⟩
  | .local _ .smem, ⟨0, _⟩ => ⟨S4x5x4, .f32⟩
  | .local _ .smem, ⟨1, _⟩ => ⟨S1, .f32⟩
  | .local _ .smem, ⟨2, _⟩ => ⟨S4x5x4, .f32⟩
  | .local _ .smem, ⟨3, _⟩ => ⟨S1, .f32⟩
  | .local _ .smem, ⟨4, _⟩ => ⟨S4x5x4, .f32⟩
  | .local _ .smem, ⟨5, _⟩ => ⟨S1, .f32⟩
  | _, _ => ⟨S4x5x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_0 : Ref sig .tc := ⟨.hbm, 61, rfl⟩
abbrev main_v35 : Ref sig .tc := ⟨.hbm, 62, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_scratch0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_scratch0 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg7_0 : Ref sig .tc := ⟨.vmem, 45, rfl⟩
abbrev cc5_stg8_0 : Ref sig .tc := ⟨.vmem, 46, rfl⟩
abbrev cc5_scratch0 : Ref sig .tc := ⟨.vmem, 47, rfl⟩
abbrev cc0_stg0_0 : Ref sig .tc := ⟨.smem, 0, rfl⟩
abbrev cc1_stg6_0 : Ref sig .tc := ⟨.smem, 1, rfl⟩
abbrev cc2_stg0_0 : Ref sig .tc := ⟨.smem, 2, rfl⟩
abbrev cc3_stg6_0 : Ref sig .tc := ⟨.smem, 3, rfl⟩
abbrev cc4_stg0_0 : Ref sig .tc := ⟨.smem, 4, rfl⟩
abbrev cc5_stg6_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc4_sem0_0 : DmaSem sig := 32
abbrev cc4_sem1_0 : DmaSem sig := 33
abbrev cc4_sem1_1 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem3_0 : DmaSem sig := 42
abbrev cc5_sem4_0 : DmaSem sig := 43
abbrev cc5_sem5_0 : DmaSem sig := 44
abbrev cc5_sem6_0 : DmaSem sig := 45
abbrev cc5_sem7_0 : DmaSem sig := 46
abbrev cc5_sem8_0 : DmaSem sig := 47

abbrev nD : Nat := 1
abbrev τ : Topo := Topo.v7x

variable {F : FTy → Type} [FloatOps F]

abbrev grid0 : Pipeline.Grid := ⟨2, ![4, 5], ![false, false]⟩

def k0_off1 (i : grid0.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c0 : Index := 0#32
  ![v0.toNat, v1.toNat, 0]
def k0_off2 (i : grid0.Coords) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  let c1 : Index := 1#32
  ![v3.toNat, v4.toNat, 1]
def k0_off3 (i : grid0.Coords) : Fin 3 → Nat :=
  let arg0 : BitVec 32 := BitVec.ofNat 32 (i 0).val
  let v6 : Index := Scalar.indexCast arg0
  let arg1 : BitVec 32 := BitVec.ofNat 32 (i 1).val
  let v7 : Index := Scalar.indexCast arg1
  let c2 : Index := 2#32
  ![v6.toNat, v7.toNat, 2]
def k0_off4 (i : grid0.Coords) : Fin 3 → Nat :=
  let arg0 : BitVec 32 := BitVec.ofNat 32 (i 0).val
  let v9 : Index := Scalar.indexCast arg0
  let arg1 : BitVec 32 := BitVec.ofNat 32 (i 1).val
  let v10 : Index := Scalar.indexCast arg1
  let c3 : Index := 3#32
  ![v9.toNat, v10.toNat, 3]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .smem S4x5x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x80x10240 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![7], ![false]⟩

def k1_cond2 (i : grid1.Coords) : BitVec 1 :=
  let arg0 : BitVec 32 := BitVec.ofNat 32 (i 0).val
  let c6_i32 : BitVec 32 := 6#32
  let v12 : BitVec 1 := Scalar.cmpi .eq arg0 c6_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20x896 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S896x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S20x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨2, ![4, 5], ![false, false]⟩

def k2_off1 (i : grid2.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c0 : Index := 0#32
  ![v0.toNat, v1.toNat, 0]
def k2_off2 (i : grid2.Coords) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  let c1 : Index := 1#32
  ![v3.toNat, v4.toNat, 1]
def k2_off3 (i : grid2.Coords) : Fin 3 → Nat :=
  let arg0 : BitVec 32 := BitVec.ofNat 32 (i 0).val
  let v6 : Index := Scalar.indexCast arg0
  let arg1 : BitVec 32 := BitVec.ofNat 32 (i 1).val
  let v7 : Index := Scalar.indexCast arg1
  let c2 : Index := 2#32
  ![v6.toNat, v7.toNat, 2]
def k2_off4 (i : grid2.Coords) : Fin 3 → Nat :=
  let arg0 : BitVec 32 := BitVec.ofNat 32 (i 0).val
  let v9 : Index := Scalar.indexCast arg0
  let arg1 : BitVec 32 := BitVec.ofNat 32 (i 1).val
  let v10 : Index := Scalar.indexCast arg1
  let c3 : Index := 3#32
  ![v9.toNat, v10.toNat, 3]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage2_0 : Fin 1 → Memref sig .tc .smem S4x5x4 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x40x10240 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x49 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![14], ![false]⟩

def k3_cond2 (i : grid3.Coords) : BitVec 1 :=
  let arg0 : BitVec 32 := BitVec.ofNat 32 (i 0).val
  let c13_i32 : BitVec 32 := 13#32
  let v12 : BitVec 1 := Scalar.cmpi .eq arg0 c13_i32
  let v13 : BitVec 32 := Scalar.extui v12
  let c0_i32_8 : BitVec 32 := 0#32
  let v14 : BitVec 1 := Scalar.cmpi .ne v13 c0_i32_8
  v14

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S20x896 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S896x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .smem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S20x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev grid4 : Pipeline.Grid := ⟨2, ![4, 5], ![false, false]⟩

def k4_off1 (i : grid4.Coords) : Fin 3 → Nat :=
  let arg0 : BitVec 32 := BitVec.ofNat 32 (i 0).val
  let v0 : Index := Scalar.indexCast arg0
  let arg1 : BitVec 32 := BitVec.ofNat 32 (i 1).val
  let v1 : Index := Scalar.indexCast arg1
  let c0 : Index := 0#32
  ![v0.toNat, v1.toNat, 0]
def k4_off2 (i : grid4.Coords) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  let c1 : Index := 1#32
  ![v3.toNat, v4.toNat, 1]
def k4_off3 (i : grid4.Coords) : Fin 3 → Nat :=
  let arg0 : BitVec 32 := BitVec.ofNat 32 (i 0).val
  let v6 : Index := Scalar.indexCast arg0
  let arg1 : BitVec 32 := BitVec.ofNat 32 (i 1).val
  let v7 : Index := Scalar.indexCast arg1
  let c2 : Index := 2#32
  ![v6.toNat, v7.toNat, 2]
def k4_off4 (i : grid4.Coords) : Fin 3 → Nat :=
  let arg0 : BitVec 32 := BitVec.ofNat 32 (i 0).val
  let v9 : Index := Scalar.indexCast arg0
  let arg1 : BitVec 32 := BitVec.ofNat 32 (i 1).val
  let v10 : Index := Scalar.indexCast arg1
  let c3 : Index := 3#32
  ![v9.toNat, v10.toNat, 3]
def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage4_0 : Fin 1 → Memref sig .tc .smem S4x5x4 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1x20x10240 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x512x49 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![28], ![false]⟩

def k5_cond2 (i : grid5.Coords) : BitVec 1 :=
  let arg0 : BitVec 32 := BitVec.ofNat 32 (i 0).val
  let c27_i32 : BitVec 32 := 27#32
  let v12 : BitVec 1 := Scalar.cmpi .eq arg0 c27_i32
  let v13 : BitVec 32 := Scalar.extui v12
  let c0_i32_8 : BitVec 32 := 0#32
  let v14 : BitVec 1 := Scalar.cmpi .ne v13 c0_i32_8
  v14

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S20x896 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S896x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .smem S1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S20x1 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x1 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]
-- ==== ReferenceIdeal.lean ====
abbrev S4x5x4 : Shape := ⟨3, ![4, 5, 4]⟩
abbrev S4x128x80x80 : Shape := ⟨4, ![4, 128, 80, 80]⟩
abbrev S4x256x40x40 : Shape := ⟨4, ![4, 256, 40, 40]⟩
abbrev S4x512x20x20 : Shape := ⟨4, ![4, 512, 20, 20]⟩
abbrev S4 : Shape := ⟨1, ![4]⟩
abbrev S6272x1024 : Shape := ⟨2, ![6272, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S12544x1024 : Shape := ⟨2, ![12544, 1024]⟩
abbrev S25088x1024 : Shape := ⟨2, ![25088, 1024]⟩
abbrev S4x5x2 : Shape := ⟨3, ![4, 5, 2]⟩
abbrev S_ : Shape := ⟨0, ![]⟩
abbrev S7 : Shape := ⟨1, ![7]⟩
abbrev S2 : Shape := ⟨1, ![2]⟩
abbrev S7x1 : Shape := ⟨2, ![7, 1]⟩
abbrev S1x2 : Shape := ⟨2, ![1, 2]⟩
abbrev S7x2 : Shape := ⟨2, ![7, 2]⟩
abbrev S4x5x2x1x1 : Shape := ⟨5, ![4, 5, 2, 1, 1]⟩
abbrev S1x1x7x2 : Shape := ⟨4, ![1, 1, 7, 2]⟩
abbrev S1x1x1x7x2 : Shape := ⟨5, ![1, 1, 1, 7, 2]⟩
abbrev S4x5x2x7x2 : Shape := ⟨5, ![4, 5, 2, 7, 2]⟩
abbrev S4x5x2x7x2x1 : Shape := ⟨6, ![4, 5, 2, 7, 2, 1]⟩
abbrev S1x1x1x1x2 : Shape := ⟨5, ![1, 1, 1, 1, 2]⟩
abbrev S1x1x1x1x1x2 : Shape := ⟨6, ![1, 1, 1, 1, 1, 2]⟩
abbrev S4x5x2x7x2x2 : Shape := ⟨6, ![4, 5, 2, 7, 2, 2]⟩
abbrev S5x2x7x2x2 : Shape := ⟨5, ![5, 2, 7, 2, 2]⟩
abbrev S4x5x1x7x2x2 : Shape := ⟨6, ![4, 5, 1, 7, 2, 2]⟩
abbrev S4x5x7x2x2 : Shape := ⟨5, ![4, 5, 7, 2, 2]⟩
abbrev S4x5x1x1x1x7x2x2 : Shape := ⟨8, ![4, 5, 1, 1, 1, 7, 2, 2]⟩
abbrev S4x5x7x2x2x1x1x1 : Shape := ⟨8, ![4, 5, 7, 2, 2, 1, 1, 1]⟩
abbrev S4x5x7x2x2x7x2x2 : Shape := ⟨8, ![4, 5, 7, 2, 2, 7, 2, 2]⟩
abbrev S4x5x7x2x2x7x2x2x1 : Shape := ⟨9, ![4, 5, 7, 2, 2, 7, 2, 2, 1]⟩
abbrev S4x5x7x2x2x7x2x2x2 : Shape := ⟨9, ![4, 5, 7, 2, 2, 7, 2, 2, 2]⟩
abbrev S4x128x5x7x2x2x7x2x2 : Shape := ⟨9, ![4, 128, 5, 7, 2, 2, 7, 2, 2]⟩
abbrev S4x1x5x7x2x2x1x1x1 : Shape := ⟨9, ![4, 1, 5, 7, 2, 2, 1, 1, 1]⟩
abbrev S4x1x5x1x1x1x7x2x2 : Shape := ⟨9, ![4, 1, 5, 1, 1, 1, 7, 2, 2]⟩
abbrev S4x128x5x7x7 : Shape := ⟨5, ![4, 128, 5, 7, 7]⟩
abbrev S4x5x128x7x7 : Shape := ⟨5, ![4, 5, 128, 7, 7]⟩
abbrev S4x5x6272 : Shape := ⟨3, ![4, 5, 6272]⟩
abbrev S4x5x1024 : Shape := ⟨3, ![4, 5, 1024]⟩
abbrev S1x1x1024 : Shape := ⟨3, ![1, 1, 1024]⟩
abbrev S4x5x1 : Shape := ⟨3, ![4, 5, 1]⟩
abbrev S1x1x1 : Shape := ⟨3, ![1, 1, 1]⟩
abbrev S4x1x1 : Shape := ⟨3, ![4, 1, 1]⟩
abbrev S4x256x5x7x2x2x7x2x2 : Shape := ⟨9, ![4, 256, 5, 7, 2, 2, 7, 2, 2]⟩
abbrev S4x256x5x7x7 : Shape := ⟨5, ![4, 256, 5, 7, 7]⟩
abbrev S4x5x256x7x7 : Shape := ⟨5, ![4, 5, 256, 7, 7]⟩
abbrev S4x5x12544 : Shape := ⟨3, ![4, 5, 12544]⟩
abbrev S4x512x5x7x2x2x7x2x2 : Shape := ⟨9, ![4, 512, 5, 7, 2, 2, 7, 2, 2]⟩
abbrev S4x512x5x7x7 : Shape := ⟨5, ![4, 512, 5, 7, 7]⟩
abbrev S4x5x512x7x7 : Shape := ⟨5, ![4, 5, 512, 7, 7]⟩
abbrev S4x5x25088 : Shape := ⟨3, ![4, 5, 25088]⟩

abbrev nBuf : Space → Nat
  | .hbm => 422
  | .vmem => 0
  | .smem => 0
  | _ => 0

abbrev hbmTy0_0 (i : Nat) : BufTy := match i % 128 with
  | 0 => ⟨S4x5x4, .f32⟩
  | 1 => ⟨S4x5x4, .f32⟩
  | 2 => ⟨S4x5x4, .f32⟩
  | 3 => ⟨S4x128x80x80, .f32⟩
  | 4 => ⟨S4x256x40x40, .f32⟩
  | 5 => ⟨S4x512x20x20, .f32⟩
  | 6 => ⟨S4, .f32⟩
  | 7 => ⟨S6272x1024, .f32⟩
  | 8 => ⟨S1024, .f32⟩
  | 9 => ⟨S1024x1024, .f32⟩
  | 10 => ⟨S1024, .f32⟩
  | 11 => ⟨S1024x1, .f32⟩
  | 12 => ⟨S1, .f32⟩
  | 13 => ⟨S12544x1024, .f32⟩
  | 14 => ⟨S1024, .f32⟩
  | 15 => ⟨S1024x1024, .f32⟩
  | 16 => ⟨S1024, .f32⟩
  | 17 => ⟨S1024x1, .f32⟩
  | 18 => ⟨S1, .f32⟩
  | 19 => ⟨S25088x1024, .f32⟩
  | 20 => ⟨S1024, .f32⟩
  | 21 => ⟨S1024x1024, .f32⟩
  | 22 => ⟨S1024, .f32⟩
  | 23 => ⟨S1024x1, .f32⟩
  | 24 => ⟨S1, .f32⟩
  | 25 => ⟨S4x5x2, .f32⟩
  | 26 => ⟨S4x5x2, .f32⟩
  | 27 => ⟨S4x5x2, .f32⟩
  | 28 => ⟨S_, .f32⟩
  | 29 => ⟨S4x5x2, .f32⟩
  | 30 => ⟨S4x5x2, .f32⟩
  | 31 => ⟨S_, .f32⟩
  | 32 => ⟨S4x5x2, .f32⟩
  | 33 => ⟨S4x5x2, .f32⟩
  | 34 => ⟨S7, .f32⟩
  | 35 => ⟨S2, .f32⟩
  | 36 => ⟨S_, .f32⟩
  | 37 => ⟨S2, .f32⟩
  | 38 => ⟨S2, .f32⟩
  | 39 => ⟨S_, .f32⟩
  | 40 => ⟨S2, .f32⟩
  | 41 => ⟨S2, .f32⟩
  | 42 => ⟨S7x1, .f32⟩
  | 43 => ⟨S1x2, .f32⟩
  | 44 => ⟨S7x2, .f32⟩
  | 45 => ⟨S7x2, .f32⟩
  | 46 => ⟨S7x2, .f32⟩
  | 47 => ⟨S4x5x2x1x1, .f32⟩
  | 48 => ⟨S4x5x2x1x1, .f32⟩
  | 49 => ⟨S1x1x7x2, .f32⟩
  | 50 => ⟨S1x1x1x7x2, .f32⟩
  | 51 => ⟨S4x5x2x7x2, .f32⟩
  | 52 => ⟨S4x5x2x7x2, .f32⟩
  | 53 => ⟨S4x5x2x7x2, .f32⟩
  | 54 => ⟨S4x5x2x7x2, .f32⟩
  | 55 => ⟨S4x5x2x7x2, .f32⟩
  | 56 => ⟨S_, .f32⟩
  | 57 => ⟨S4x5x2x7x2, .f32⟩
  | 58 => ⟨S4x5x2x7x2, .f32⟩
  | 59 => ⟨S_, .f32⟩
  | 60 => ⟨S4x5x2x7x2, .f32⟩
  | 61 => ⟨S4x5x2x7x2, .f32⟩
  | 62 => ⟨S4x5x2x7x2, .f32⟩
  | 63 => ⟨S4x5x2x7x2, .i32⟩
  | 64 => ⟨S4x5x2x7x2, .f32⟩
  | 65 => ⟨S4x5x2x7x2, .f32⟩
  | 66 => ⟨S4x5x2x7x2x1, .f32⟩
  | 67 => ⟨S2, .i32⟩
  | 68 => ⟨S4x5x2x7x2x1, .i32⟩
  | 69 => ⟨S1x1x1x1x2, .i32⟩
  | 70 => ⟨S1x1x1x1x1x2, .i32⟩
  | 71 => ⟨S4x5x2x7x2x2, .i32⟩
  | 72 => ⟨S4x5x2x7x2x2, .i32⟩
  | 73 => ⟨S4x5x2x7x2x2, .i32⟩
  | 74 => ⟨S_, .i32⟩
  | 75 => ⟨S4x5x2x7x2x2, .i32⟩
  | 76 => ⟨S4x5x2x7x2x2, .i32⟩
  | 77 => ⟨S_, .i32⟩
  | 78 => ⟨S2, .i32⟩
  | 79 => ⟨S2, .i1⟩
  | 80 => ⟨S_, .f32⟩
  | 81 => ⟨S4x5x2x7x2x1, .f32⟩
  | 82 => ⟨S4x5x2x7x2x1, .f32⟩
  | 83 => ⟨S5x2x7x2x2, .i1⟩
  | 84 => ⟨S4x5x2x7x2x2, .f32⟩
  | 85 => ⟨S4x5x2x7x2x2, .f32⟩
  | 86 => ⟨S4x5x2x7x2x2, .i1⟩
  | 87 => ⟨S4x5x2x7x2x2, .f32⟩
  | 88 => ⟨S4x5x1x7x2x2, .i32⟩
  | 89 => ⟨S4x5x7x2x2, .i32⟩
  | 90 => ⟨S4x5x1x1x1x7x2x2, .i32⟩
  | 91 => ⟨S4x5x1x7x2x2, .i32⟩
  | 92 => ⟨S4x5x7x2x2, .i32⟩
  | 93 => ⟨S4x5x7x2x2x1x1x1, .i32⟩
  | 94 => ⟨S4x5x7x2x2x7x2x2, .i32⟩
  | 95 => ⟨S4x5x7x2x2x7x2x2, .i32⟩
  | 96 => ⟨S4x5x7x2x2x7x2x2x1, .i32⟩
  | 97 => ⟨S4x5x7x2x2x7x2x2x1, .i32⟩
  | 98 => ⟨S4x5x7x2x2x7x2x2x2, .i32⟩
  | 99 => ⟨S4x128x5x7x2x2x7x2x2, .f32⟩
  | 100 => ⟨S4x5x1x7x2x2, .f32⟩
  | 101 => ⟨S4x5x7x2x2, .f32⟩
  | 102 => ⟨S4x5x7x2x2x1x1x1, .f32⟩
  | 103 => ⟨S4x1x5x7x2x2x1x1x1, .f32⟩
  | 104 => ⟨S4x128x5x7x2x2x7x2x2, .f32⟩
  | 105 => ⟨S4x128x5x7x2x2x7x2x2, .f32⟩
  | 106 => ⟨S4x5x1x7x2x2, .f32⟩
  | 107 => ⟨S4x5x7x2x2, .f32⟩
  | 108 => ⟨S4x5x1x1x1x7x2x2, .f32⟩
  | 109 => ⟨S4x1x5x1x1x1x7x2x2, .f32⟩
  | 110 => ⟨S4x128x5x7x2x2x7x2x2, .f32⟩
  | 111 => ⟨S4x128x5x7x2x2x7x2x2, .f32⟩
  | 112 => ⟨S_, .f32⟩
  | 113 => ⟨S4x128x5x7x7, .f32⟩
  | 114 => ⟨S_, .f32⟩
  | 115 => ⟨S4x128x5x7x7, .f32⟩
  | 116 => ⟨S4x128x5x7x7, .f32⟩
  | 117 => ⟨S4x5x128x7x7, .f32⟩
  | 118 => ⟨S4x5x6272, .f32⟩
  | 119 => ⟨S4x5x1024, .f32⟩
  | 120 => ⟨S1x1x1024, .f32⟩
  | 121 => ⟨S4x5x1024, .f32⟩
  | 122 => ⟨S4x5x1024, .f32⟩
  | 123 => ⟨S_, .f32⟩
  | 124 => ⟨S4x5x1024, .f32⟩
  | 125 => ⟨S4x5x1024, .f32⟩
  | 126 => ⟨S4x5x1024, .f32⟩
  | 127 => ⟨S1x1x1024, .f32⟩
  | _ => ⟨S4x5x4, .f32⟩

abbrev hbmTy0_1 (i : Nat) : BufTy := match i % 128 with
  | 0 => ⟨S4x5x1024, .f32⟩
  | 1 => ⟨S4x5x1024, .f32⟩
  | 2 => ⟨S_, .f32⟩
  | 3 => ⟨S4x5x1024, .f32⟩
  | 4 => ⟨S4x5x1024, .f32⟩
  | 5 => ⟨S4x5x1, .f32⟩
  | 6 => ⟨S1x1x1, .f32⟩
  | 7 => ⟨S4x5x1, .f32⟩
  | 8 => ⟨S4x5x1, .f32⟩
  | 9 => ⟨S4x1x1, .f32⟩
  | 10 => ⟨S4x5x1, .f32⟩
  | 11 => ⟨S_, .f32⟩
  | 12 => ⟨S4x5x1, .f32⟩
  | 13 => ⟨S4x5x1, .f32⟩
  | 14 => ⟨S4x5x1, .f32⟩
  | 15 => ⟨S4x5x1, .f32⟩
  | 16 => ⟨S4x5x1, .f32⟩
  | 17 => ⟨S4x5x1, .f32⟩
  | 18 => ⟨S4x5x1, .f32⟩
  | 19 => ⟨S4x5x1, .f32⟩
  | 20 => ⟨S4x5x1, .f32⟩
  | 21 => ⟨S_, .f32⟩
  | 22 => ⟨S4, .f32⟩
  | 23 => ⟨S_, .f32⟩
  | 24 => ⟨S4, .f32⟩
  | 25 => ⟨S4, .f32⟩
  | 26 => ⟨S_, .f32⟩
  | 27 => ⟨S_, .f32⟩
  | 28 => ⟨S4x5x2, .f32⟩
  | 29 => ⟨S4x5x2, .f32⟩
  | 30 => ⟨S4x5x2, .f32⟩
  | 31 => ⟨S_, .f32⟩
  | 32 => ⟨S4x5x2, .f32⟩
  | 33 => ⟨S4x5x2, .f32⟩
  | 34 => ⟨S_, .f32⟩
  | 35 => ⟨S4x5x2, .f32⟩
  | 36 => ⟨S4x5x2, .f32⟩
  | 37 => ⟨S7, .f32⟩
  | 38 => ⟨S2, .f32⟩
  | 39 => ⟨S_, .f32⟩
  | 40 => ⟨S2, .f32⟩
  | 41 => ⟨S2, .f32⟩
  | 42 => ⟨S_, .f32⟩
  | 43 => ⟨S2, .f32⟩
  | 44 => ⟨S2, .f32⟩
  | 45 => ⟨S7x1, .f32⟩
  | 46 => ⟨S1x2, .f32⟩
  | 47 => ⟨S7x2, .f32⟩
  | 48 => ⟨S7x2, .f32⟩
  | 49 => ⟨S7x2, .f32⟩
  | 50 => ⟨S4x5x2x1x1, .f32⟩
  | 51 => ⟨S4x5x2x1x1, .f32⟩
  | 52 => ⟨S1x1x7x2, .f32⟩
  | 53 => ⟨S1x1x1x7x2, .f32⟩
  | 54 => ⟨S4x5x2x7x2, .f32⟩
  | 55 => ⟨S4x5x2x7x2, .f32⟩
  | 56 => ⟨S4x5x2x7x2, .f32⟩
  | 57 => ⟨S4x5x2x7x2, .f32⟩
  | 58 => ⟨S4x5x2x7x2, .f32⟩
  | 59 => ⟨S_, .f32⟩
  | 60 => ⟨S4x5x2x7x2, .f32⟩
  | 61 => ⟨S4x5x2x7x2, .f32⟩
  | 62 => ⟨S_, .f32⟩
  | 63 => ⟨S4x5x2x7x2, .f32⟩
  | 64 => ⟨S4x5x2x7x2, .f32⟩
  | 65 => ⟨S4x5x2x7x2, .f32⟩
  | 66 => ⟨S4x5x2x7x2, .i32⟩
  | 67 => ⟨S4x5x2x7x2, .f32⟩
  | 68 => ⟨S4x5x2x7x2, .f32⟩
  | 69 => ⟨S4x5x2x7x2x1, .f32⟩
  | 70 => ⟨S2, .i32⟩
  | 71 => ⟨S4x5x2x7x2x1, .i32⟩
  | 72 => ⟨S1x1x1x1x2, .i32⟩
  | 73 => ⟨S1x1x1x1x1x2, .i32⟩
  | 74 => ⟨S4x5x2x7x2x2, .i32⟩
  | 75 => ⟨S4x5x2x7x2x2, .i32⟩
  | 76 => ⟨S4x5x2x7x2x2, .i32⟩
  | 77 => ⟨S_, .i32⟩
  | 78 => ⟨S4x5x2x7x2x2, .i32⟩
  | 79 => ⟨S4x5x2x7x2x2, .i32⟩
  | 80 => ⟨S_, .i32⟩
  | 81 => ⟨S2, .i32⟩
  | 82 => ⟨S2, .i1⟩
  | 83 => ⟨S_, .f32⟩
  | 84 => ⟨S4x5x2x7x2x1, .f32⟩
  | 85 => ⟨S4x5x2x7x2x1, .f32⟩
  | 86 => ⟨S5x2x7x2x2, .i1⟩
  | 87 => ⟨S4x5x2x7x2x2, .f32⟩
  | 88 => ⟨S4x5x2x7x2x2, .f32⟩
  | 89 => ⟨S4x5x2x7x2x2, .i1⟩
  | 90 => ⟨S4x5x2x7x2x2, .f32⟩
  | 91 => ⟨S4x5x1x7x2x2, .i32⟩
  | 92 => ⟨S4x5x7x2x2, .i32⟩
  | 93 => ⟨S4x5x1x1x1x7x2x2, .i32⟩
  | 94 => ⟨S4x5x1x7x2x2, .i32⟩
  | 95 => ⟨S4x5x7x2x2, .i32⟩
  | 96 => ⟨S4x5x7x2x2x1x1x1, .i32⟩
  | 97 => ⟨S4x5x7x2x2x7x2x2, .i32⟩
  | 98 => ⟨S4x5x7x2x2x7x2x2, .i32⟩
  | 99 => ⟨S4x5x7x2x2x7x2x2x1, .i32⟩
  | 100 => ⟨S4x5x7x2x2x7x2x2x1, .i32⟩
  | 101 => ⟨S4x5x7x2x2x7x2x2x2, .i32⟩
  | 102 => ⟨S4x256x5x7x2x2x7x2x2, .f32⟩
  | 103 => ⟨S4x5x1x7x2x2, .f32⟩
  | 104 => ⟨S4x5x7x2x2, .f32⟩
  | 105 => ⟨S4x5x7x2x2x1x1x1, .f32⟩
  | 106 => ⟨S4x1x5x7x2x2x1x1x1, .f32⟩
  | 107 => ⟨S4x256x5x7x2x2x7x2x2, .f32⟩
  | 108 => ⟨S4x256x5x7x2x2x7x2x2, .f32⟩
  | 109 => ⟨S4x5x1x7x2x2, .f32⟩
  | 110 => ⟨S4x5x7x2x2, .f32⟩
  | 111 => ⟨S4x5x1x1x1x7x2x2, .f32⟩
  | 112 => ⟨S4x1x5x1x1x1x7x2x2, .f32⟩
  | 113 => ⟨S4x256x5x7x2x2x7x2x2, .f32⟩
  | 114 => ⟨S4x256x5x7x2x2x7x2x2, .f32⟩
  | 115 => ⟨S_, .f32⟩
  | 116 => ⟨S4x256x5x7x7, .f32⟩
  | 117 => ⟨S_, .f32⟩
  | 118 => ⟨S4x256x5x7x7, .f32⟩
  | 119 => ⟨S4x256x5x7x7, .f32⟩
  | 120 => ⟨S4x5x256x7x7, .f32⟩
  | 121 => ⟨S4x5x12544, .f32⟩
  | 122 => ⟨S4x5x1024, .f32⟩
  | 123 => ⟨S1x1x1024, .f32⟩
  | 124 => ⟨S4x5x1024, .f32⟩
  | 125 => ⟨S4x5x1024, .f32⟩
  | 126 => ⟨S_, .f32⟩
  | 127 => ⟨S4x5x1024, .f32⟩
  | _ => ⟨S4x5x4, .f32⟩

abbrev hbmTy0_2 (i : Nat) : BufTy := match i % 128 with
  | 0 => ⟨S4x5x1024, .f32⟩
  | 1 => ⟨S4x5x1024, .f32⟩
  | 2 => ⟨S1x1x1024, .f32⟩
  | 3 => ⟨S4x5x1024, .f32⟩
  | 4 => ⟨S4x5x1024, .f32⟩
  | 5 => ⟨S_, .f32⟩
  | 6 => ⟨S4x5x1024, .f32⟩
  | 7 => ⟨S4x5x1024, .f32⟩
  | 8 => ⟨S4x5x1, .f32⟩
  | 9 => ⟨S1x1x1, .f32⟩
  | 10 => ⟨S4x5x1, .f32⟩
  | 11 => ⟨S4x5x1, .f32⟩
  | 12 => ⟨S4x1x1, .f32⟩
  | 13 => ⟨S4x5x1, .f32⟩
  | 14 => ⟨S_, .f32⟩
  | 15 => ⟨S4x5x1, .f32⟩
  | 16 => ⟨S4x5x1, .f32⟩
  | 17 => ⟨S4x5x1, .f32⟩
  | 18 => ⟨S4x5x1, .f32⟩
  | 19 => ⟨S4x5x1, .f32⟩
  | 20 => ⟨S4x5x1, .f32⟩
  | 21 => ⟨S4x5x1, .f32⟩
  | 22 => ⟨S4x5x1, .f32⟩
  | 23 => ⟨S4x5x1, .f32⟩
  | 24 => ⟨S_, .f32⟩
  | 25 => ⟨S4, .f32⟩
  | 26 => ⟨S_, .f32⟩
  | 27 => ⟨S4, .f32⟩
  | 28 => ⟨S4, .f32⟩
  | 29 => ⟨S_, .f32⟩
  | 30 => ⟨S_, .f32⟩
  | 31 => ⟨S4x5x2, .f32⟩
  | 32 => ⟨S4x5x2, .f32⟩
  | 33 => ⟨S4x5x2, .f32⟩
  | 34 => ⟨S_, .f32⟩
  | 35 => ⟨S4x5x2, .f32⟩
  | 36 => ⟨S4x5x2, .f32⟩
  | 37 => ⟨S_, .f32⟩
  | 38 => ⟨S4x5x2, .f32⟩
  | 39 => ⟨S4x5x2, .f32⟩
  | 40 => ⟨S7, .f32⟩
  | 41 => ⟨S2, .f32⟩
  | 42 => ⟨S_, .f32⟩
  | 43 => ⟨S2, .f32⟩
  | 44 => ⟨S2, .f32⟩
  | 45 => ⟨S_, .f32⟩
  | 46 => ⟨S2, .f32⟩
  | 47 => ⟨S2, .f32⟩
  | 48 => ⟨S7x1, .f32⟩
  | 49 => ⟨S1x2, .f32⟩
  | 50 => ⟨S7x2, .f32⟩
  | 51 => ⟨S7x2, .f32⟩
  | 52 => ⟨S7x2, .f32⟩
  | 53 => ⟨S4x5x2x1x1, .f32⟩
  | 54 => ⟨S4x5x2x1x1, .f32⟩
  | 55 => ⟨S1x1x7x2, .f32⟩
  | 56 => ⟨S1x1x1x7x2, .f32⟩
  | 57 => ⟨S4x5x2x7x2, .f32⟩
  | 58 => ⟨S4x5x2x7x2, .f32⟩
  | 59 => ⟨S4x5x2x7x2, .f32⟩
  | 60 => ⟨S4x5x2x7x2, .f32⟩
  | 61 => ⟨S4x5x2x7x2, .f32⟩
  | 62 => ⟨S_, .f32⟩
  | 63 => ⟨S4x5x2x7x2, .f32⟩
  | 64 => ⟨S4x5x2x7x2, .f32⟩
  | 65 => ⟨S_, .f32⟩
  | 66 => ⟨S4x5x2x7x2, .f32⟩
  | 67 => ⟨S4x5x2x7x2, .f32⟩
  | 68 => ⟨S4x5x2x7x2, .f32⟩
  | 69 => ⟨S4x5x2x7x2, .i32⟩
  | 70 => ⟨S4x5x2x7x2, .f32⟩
  | 71 => ⟨S4x5x2x7x2, .f32⟩
  | 72 => ⟨S4x5x2x7x2x1, .f32⟩
  | 73 => ⟨S2, .i32⟩
  | 74 => ⟨S4x5x2x7x2x1, .i32⟩
  | 75 => ⟨S1x1x1x1x2, .i32⟩
  | 76 => ⟨S1x1x1x1x1x2, .i32⟩
  | 77 => ⟨S4x5x2x7x2x2, .i32⟩
  | 78 => ⟨S4x5x2x7x2x2, .i32⟩
  | 79 => ⟨S4x5x2x7x2x2, .i32⟩
  | 80 => ⟨S_, .i32⟩
  | 81 => ⟨S4x5x2x7x2x2, .i32⟩
  | 82 => ⟨S4x5x2x7x2x2, .i32⟩
  | 83 => ⟨S_, .i32⟩
  | 84 => ⟨S2, .i32⟩
  | 85 => ⟨S2, .i1⟩
  | 86 => ⟨S_, .f32⟩
  | 87 => ⟨S4x5x2x7x2x1, .f32⟩
  | 88 => ⟨S4x5x2x7x2x1, .f32⟩
  | 89 => ⟨S5x2x7x2x2, .i1⟩
  | 90 => ⟨S4x5x2x7x2x2, .f32⟩
  | 91 => ⟨S4x5x2x7x2x2, .f32⟩
  | 92 => ⟨S4x5x2x7x2x2, .i1⟩
  | 93 => ⟨S4x5x2x7x2x2, .f32⟩
  | 94 => ⟨S4x5x1x7x2x2, .i32⟩
  | 95 => ⟨S4x5x7x2x2, .i32⟩
  | 96 => ⟨S4x5x1x1x1x7x2x2, .i32⟩
  | 97 => ⟨S4x5x1x7x2x2, .i32⟩
  | 98 => ⟨S4x5x7x2x2, .i32⟩
  | 99 => ⟨S4x5x7x2x2x1x1x1, .i32⟩
  | 100 => ⟨S4x5x7x2x2x7x2x2, .i32⟩
  | 101 => ⟨S4x5x7x2x2x7x2x2, .i32⟩
  | 102 => ⟨S4x5x7x2x2x7x2x2x1, .i32⟩
  | 103 => ⟨S4x5x7x2x2x7x2x2x1, .i32⟩
  | 104 => ⟨S4x5x7x2x2x7x2x2x2, .i32⟩
  | 105 => ⟨S4x512x5x7x2x2x7x2x2, .f32⟩
  | 106 => ⟨S4x5x1x7x2x2, .f32⟩
  | 107 => ⟨S4x5x7x2x2, .f32⟩
  | 108 => ⟨S4x5x7x2x2x1x1x1, .f32⟩
  | 109 => ⟨S4x1x5x7x2x2x1x1x1, .f32⟩
  | 110 => ⟨S4x512x5x7x2x2x7x2x2, .f32⟩
  | 111 => ⟨S4x512x5x7x2x2x7x2x2, .f32⟩
  | 112 => ⟨S4x5x1x7x2x2, .f32⟩
  | 113 => ⟨S4x5x7x2x2, .f32⟩
  | 114 => ⟨S4x5x1x1x1x7x2x2, .f32⟩
  | 115 => ⟨S4x1x5x1x1x1x7x2x2, .f32⟩
  | 116 => ⟨S4x512x5x7x2x2x7x2x2, .f32⟩
  | 117 => ⟨S4x512x5x7x2x2x7x2x2, .f32⟩
  | 118 => ⟨S_, .f32⟩
  | 119 => ⟨S4x512x5x7x7, .f32⟩
  | 120 => ⟨S_, .f32⟩
  | 121 => ⟨S4x512x5x7x7, .f32⟩
  | 122 => ⟨S4x512x5x7x7, .f32⟩
  | 123 => ⟨S4x5x512x7x7, .f32⟩
  | 124 => ⟨S4x5x25088, .f32⟩
  | 125 => ⟨S4x5x1024, .f32⟩
  | 126 => ⟨S1x1x1024, .f32⟩
  | 127 => ⟨S4x5x1024, .f32⟩
  | _ => ⟨S4x5x4, .f32⟩

abbrev hbmTy0_3 (i : Nat) : BufTy := match i % 128 with
  | 0 => ⟨S4x5x1024, .f32⟩
  | 1 => ⟨S_, .f32⟩
  | 2 => ⟨S4x5x1024, .f32⟩
  | 3 => ⟨S4x5x1024, .f32⟩
  | 4 => ⟨S4x5x1024, .f32⟩
  | 5 => ⟨S1x1x1024, .f32⟩
  | 6 => ⟨S4x5x1024, .f32⟩
  | 7 => ⟨S4x5x1024, .f32⟩
  | 8 => ⟨S_, .f32⟩
  | 9 => ⟨S4x5x1024, .f32⟩
  | 10 => ⟨S4x5x1024, .f32⟩
  | 11 => ⟨S4x5x1, .f32⟩
  | 12 => ⟨S1x1x1, .f32⟩
  | 13 => ⟨S4x5x1, .f32⟩
  | 14 => ⟨S4x5x1, .f32⟩
  | 15 => ⟨S4x1x1, .f32⟩
  | 16 => ⟨S4x5x1, .f32⟩
  | 17 => ⟨S_, .f32⟩
  | 18 => ⟨S4x5x1, .f32⟩
  | 19 => ⟨S4x5x1, .f32⟩
  | 20 => ⟨S4x5x1, .f32⟩
  | 21 => ⟨S4x5x1, .f32⟩
  | 22 => ⟨S4x5x1, .f32⟩
  | 23 => ⟨S4x5x1, .f32⟩
  | 24 => ⟨S4x5x1, .f32⟩
  | 25 => ⟨S4x5x1, .f32⟩
  | 26 => ⟨S4x5x1, .f32⟩
  | 27 => ⟨S_, .f32⟩
  | 28 => ⟨S4, .f32⟩
  | 29 => ⟨S_, .f32⟩
  | 30 => ⟨S4, .f32⟩
  | 31 => ⟨S4, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S4x5x4, .f32⟩

abbrev hbmTy (i : Nat) : BufTy := match i / 128 with
  | 0 => hbmTy0_0 i
  | 1 => hbmTy0_1 i
  | 2 => hbmTy0_2 i
  | 3 => hbmTy0_3 i
  | _ => ⟨S4x5x4, .f32⟩

abbrev bufTy : (tb : Table) → Fin (tcTables nBuf tb) → BufTy
  | .hbm, ⟨i, _⟩ => hbmTy i
  | _, _ => ⟨S4x5x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c : Ref sig .tc := ⟨.hbm, 74, rfl⟩
abbrev main_v43 : Ref sig .tc := ⟨.hbm, 75, rfl⟩
abbrev main_v44 : Ref sig .tc := ⟨.hbm, 76, rfl⟩
abbrev main_c_5 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_7 : Ref sig .tc := ⟨.hbm, 112, rfl⟩
abbrev main_v74 : Ref sig .tc := ⟨.hbm, 113, rfl⟩
abbrev main_cst_8 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_9 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_10 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_11 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_12 : Ref sig .tc := ⟨.hbm, 149, rfl⟩
abbrev main_v106 : Ref sig .tc := ⟨.hbm, 150, rfl⟩
abbrev main_cst_13 : Ref sig .tc := ⟨.hbm, 151, rfl⟩
abbrev main_v107 : Ref sig .tc := ⟨.hbm, 152, rfl⟩
abbrev main_v108 : Ref sig .tc := ⟨.hbm, 153, rfl⟩
abbrev main_cst_14 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_15 : Ref sig .tc := ⟨.hbm, 159, rfl⟩
abbrev main_v113 : Ref sig .tc := ⟨.hbm, 160, rfl⟩
abbrev main_v114 : Ref sig .tc := ⟨.hbm, 161, rfl⟩
abbrev main_cst_16 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_17 : Ref sig .tc := ⟨.hbm, 167, rfl⟩
abbrev main_v119 : Ref sig .tc := ⟨.hbm, 168, rfl⟩
abbrev main_v120 : Ref sig .tc := ⟨.hbm, 169, rfl⟩
abbrev main_cst_18 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_19 : Ref sig .tc := ⟨.hbm, 187, rfl⟩
abbrev main_v137 : Ref sig .tc := ⟨.hbm, 188, rfl⟩
abbrev main_v138 : Ref sig .tc := ⟨.hbm, 189, rfl⟩
abbrev main_cst_20 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_c_21 : Ref sig .tc := ⟨.hbm, 205, rfl⟩
abbrev main_v153 : Ref sig .tc := ⟨.hbm, 206, rfl⟩
abbrev main_v154 : Ref sig .tc := ⟨.hbm, 207, rfl⟩
abbrev main_c_22 : Ref sig .tc := ⟨.hbm, 208, rfl⟩
abbrev main_v155 : Ref sig .tc := ⟨.hbm, 209, rfl⟩
abbrev main_v156 : Ref sig .tc := ⟨.hbm, 210, rfl⟩
abbrev main_cst_23 : Ref sig .tc := ⟨.hbm, 211, rfl⟩
abbrev main_v157 : Ref sig .tc := ⟨.hbm, 212, rfl⟩
abbrev main_v158 : Ref sig .tc := ⟨.hbm, 213, rfl⟩
abbrev main_call1_v0 : Ref sig .tc := ⟨.hbm, 214, rfl⟩
abbrev main_call1_v1 : Ref sig .tc := ⟨.hbm, 215, rfl⟩
abbrev main_call1_v2 : Ref sig .tc := ⟨.hbm, 216, rfl⟩
abbrev main_call1_v3 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_cst_24 : Ref sig .tc := ⟨.hbm, 243, rfl⟩
abbrev main_v184 : Ref sig .tc := ⟨.hbm, 244, rfl⟩
abbrev main_cst_25 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_cst_26 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_cst_27 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_28 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_cst_29 : Ref sig .tc := ⟨.hbm, 280, rfl⟩
abbrev main_v216 : Ref sig .tc := ⟨.hbm, 281, rfl⟩
abbrev main_cst_30 : Ref sig .tc := ⟨.hbm, 282, rfl⟩
abbrev main_v217 : Ref sig .tc := ⟨.hbm, 283, rfl⟩
abbrev main_v218 : Ref sig .tc := ⟨.hbm, 284, rfl⟩
abbrev main_cst_31 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_cst_32 : Ref sig .tc := ⟨.hbm, 290, rfl⟩
abbrev main_v223 : Ref sig .tc := ⟨.hbm, 291, rfl⟩
abbrev main_v224 : Ref sig .tc := ⟨.hbm, 292, rfl⟩
abbrev main_cst_33 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_cst_34 : Ref sig .tc := ⟨.hbm, 298, rfl⟩
abbrev main_v229 : Ref sig .tc := ⟨.hbm, 299, rfl⟩
abbrev main_v230 : Ref sig .tc := ⟨.hbm, 300, rfl⟩
abbrev main_cst_35 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_cst_36 : Ref sig .tc := ⟨.hbm, 318, rfl⟩
abbrev main_v247 : Ref sig .tc := ⟨.hbm, 319, rfl⟩
abbrev main_v248 : Ref sig .tc := ⟨.hbm, 320, rfl⟩
abbrev main_cst_37 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_c_38 : Ref sig .tc := ⟨.hbm, 336, rfl⟩
abbrev main_v263 : Ref sig .tc := ⟨.hbm, 337, rfl⟩
abbrev main_v264 : Ref sig .tc := ⟨.hbm, 338, rfl⟩
abbrev main_c_39 : Ref sig .tc := ⟨.hbm, 339, rfl⟩
abbrev main_v265 : Ref sig .tc := ⟨.hbm, 340, rfl⟩
abbrev main_v266 : Ref sig .tc := ⟨.hbm, 341, rfl⟩
abbrev main_cst_40 : Ref sig .tc := ⟨.hbm, 342, rfl⟩
abbrev main_v267 : Ref sig .tc := ⟨.hbm, 343, rfl⟩
abbrev main_v268 : Ref sig .tc := ⟨.hbm, 344, rfl⟩
abbrev main_call2_v0 : Ref sig .tc := ⟨.hbm, 345, rfl⟩
abbrev main_call2_v1 : Ref sig .tc := ⟨.hbm, 346, rfl⟩
abbrev main_call2_v2 : Ref sig .tc := ⟨.hbm, 347, rfl⟩
abbrev main_call2_v3 : Ref sig .tc := ⟨.hbm, 348, rfl⟩
abbrev main_v269 : Ref sig .tc := ⟨.hbm, 349, rfl⟩
abbrev main_v270 : Ref sig .tc := ⟨.hbm, 350, rfl⟩
abbrev main_v271 : Ref sig .tc := ⟨.hbm, 351, rfl⟩
abbrev main_v272 : Ref sig .tc := ⟨.hbm, 352, rfl⟩
abbrev main_v273 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_v290 : Ref sig .tc := ⟨.hbm, 370, rfl⟩
abbrev main_v291 : Ref sig .tc := ⟨.hbm, 371, rfl⟩
abbrev main_v292 : Ref sig .tc := ⟨.hbm, 372, rfl⟩
abbrev main_v293 : Ref sig .tc := ⟨.hbm, 373, rfl⟩
abbrev main_cst_41 : Ref sig .tc := ⟨.hbm, 374, rfl⟩
abbrev main_v294 : Ref sig .tc := ⟨.hbm, 375, rfl⟩
abbrev main_cst_42 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_cst_43 : Ref sig .tc := ⟨.hbm, 385, rfl⟩
abbrev main_v303 : Ref sig .tc := ⟨.hbm, 386, rfl⟩
abbrev main_v304 : Ref sig .tc := ⟨.hbm, 387, rfl⟩
abbrev main_v305 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_cst_44 : Ref sig .tc := ⟨.hbm, 392, rfl⟩
abbrev main_v309 : Ref sig .tc := ⟨.hbm, 393, rfl⟩
abbrev main_v310 : Ref sig .tc := ⟨.hbm, 394, rfl⟩
abbrev main_v311 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_v315 : Ref sig .tc := ⟨.hbm, 399, rfl⟩
abbrev main_v316 : Ref sig .tc := ⟨.hbm, 400, rfl⟩
abbrev main_cst_45 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_v320 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_cst_46 : Ref sig .tc := ⟨.hbm, 411, rfl⟩
abbrev main_v326 : Ref sig .tc := ⟨.hbm, 412, rfl⟩
abbrev main_cst_47 : Ref sig .tc := ⟨.hbm, 413, rfl⟩
abbrev main_v327 : Ref sig .tc := ⟨.hbm, 414, rfl⟩
abbrev main_v328 : Ref sig .tc := ⟨.hbm, 415, rfl⟩
abbrev main_cst_48 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_cst_49 : Ref sig .tc := ⟨.hbm, 420, rfl⟩
abbrev main_v332 : Ref sig .tc := ⟨.hbm, 421, rfl⟩

abbrev nD : Nat := 1
abbrev τ : Topo := Topo.v7x

variable {F : FTy → Type} [FloatOps F]
-- ==== Kernel2.lean ====
abbrev S4x3x80x80x85 : Shape := ⟨5, ![4, 3, 80, 80, 85]⟩
abbrev S3x3x2 : Shape := ⟨3, ![3, 3, 2]⟩
abbrev S1x3x2 : Shape := ⟨3, ![1, 3, 2]⟩
abbrev S3x2 : Shape := ⟨2, ![3, 2]⟩
abbrev S4x19200x85 : Shape := ⟨3, ![4, 19200, 85]⟩
abbrev S4x16x1x1200 : Shape := ⟨4, ![4, 16, 1, 1200]⟩
abbrev S4x16x4x1200 : Shape := ⟨4, ![4, 16, 4, 1200]⟩
abbrev S1x1200x85 : Shape := ⟨3, ![1, 1200, 85]⟩
abbrev S1x1x1x1200 : Shape := ⟨4, ![1, 1, 1, 1200]⟩
abbrev S1x1x4x1200 : Shape := ⟨4, ![1, 1, 4, 1200]⟩
abbrev S1200x85 : Shape := ⟨2, ![1200, 85]⟩
abbrev S1200x80 : Shape := ⟨2, ![1200, 80]⟩
abbrev S1200 : Shape := ⟨1, ![1200]⟩
abbrev S1200x1 : Shape := ⟨2, ![1200, 1]⟩
abbrev S1200x5 : Shape := ⟨2, ![1200, 5]⟩
abbrev S1200x2 : Shape := ⟨2, ![1200, 2]⟩
abbrev S1200x8 : Shape := ⟨2, ![1200, 8]⟩
abbrev S8x1200 : Shape := ⟨2, ![8, 1200]⟩
abbrev S1x1200 : Shape := ⟨2, ![1, 1200]⟩
abbrev S1x1 : Shape := ⟨2, ![1, 1]⟩
abbrev S4x1200 : Shape := ⟨2, ![4, 1200]⟩
abbrev S4x19200 : Shape := ⟨2, ![4, 19200]⟩
abbrev S4x4x16x1200 : Shape := ⟨4, ![4, 4, 16, 1200]⟩
abbrev S4x4x19200 : Shape := ⟨3, ![4, 4, 19200]⟩

abbrev nBuf : Space → Nat
  | .hbm => 10
  | .vmem => 6
  | .smem => 1
  | _ => 0

abbrev bufTy : (tb : Table) → Fin (tcTables nBuf tb) → BufTy
  | .hbm, ⟨0, _⟩ => ⟨S4x3x80x80x85, .f32⟩
  | .hbm, ⟨1, _⟩ => ⟨S3x3x2, .f32⟩
  | .hbm, ⟨2, _⟩ => ⟨S1x3x2, .f32⟩
  | .hbm, ⟨3, _⟩ => ⟨S3x2, .f32⟩
  | .hbm, ⟨4, _⟩ => ⟨S4x19200x85, .f32⟩
  | .hbm, ⟨5, _⟩ => ⟨S4x16x1x1200, .f32⟩
  | .hbm, ⟨6, _⟩ => ⟨S4x16x4x1200, .f32⟩
  | .hbm, ⟨7, _⟩ => ⟨S4x19200, .f32⟩
  | .hbm, ⟨8, _⟩ => ⟨S4x4x16x1200, .f32⟩
  | .hbm, ⟨9, _⟩ => ⟨S4x4x19200, .f32⟩
  | .local _ .vmem, ⟨0, _⟩ => ⟨S1x1200x85, .f32⟩
  | .local _ .vmem, ⟨1, _⟩ => ⟨S1x1200x85, .f32⟩
  | .local _ .vmem, ⟨2, _⟩ => ⟨S1x1x1x1200, .f32⟩
  | .local _ .vmem, ⟨3, _⟩ => ⟨S1x1x1x1200, .f32⟩
  | .local _ .vmem, ⟨4, _⟩ => ⟨S1x1x4x1200, .f32⟩
  | .local _ .vmem, ⟨5, _⟩ => ⟨S1x1x4x1200, .f32⟩
  | .local _ .smem, ⟨0, _⟩ => ⟨S3x2, .f32⟩
  | _, _ => ⟨S4x3x80x80x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1200x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S3x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x1200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x3x80x80x85 : Shape := ⟨5, ![4, 3, 80, 80, 85]⟩
abbrev S3x3x2 : Shape := ⟨3, ![3, 3, 2]⟩
abbrev S1x3x2 : Shape := ⟨3, ![1, 3, 2]⟩
abbrev S3x2 : Shape := ⟨2, ![3, 2]⟩
abbrev S_ : Shape := ⟨0, ![]⟩
abbrev S4x3x80x80x2 : Shape := ⟨5, ![4, 3, 80, 80, 2]⟩
abbrev S80x80 : Shape := ⟨2, ![80, 80]⟩
abbrev S80x80x1 : Shape := ⟨3, ![80, 80, 1]⟩
abbrev S80x80x2 : Shape := ⟨3, ![80, 80, 2]⟩
abbrev S1x1x80x80x2 : Shape := ⟨5, ![1, 1, 80, 80, 2]⟩
abbrev S1x3x1x1x2 : Shape := ⟨5, ![1, 3, 1, 1, 2]⟩
abbrev S4x3x80x80x1 : Shape := ⟨5, ![4, 3, 80, 80, 1]⟩
abbrev S4x3x80x80 : Shape := ⟨4, ![4, 3, 80, 80]⟩
abbrev S4x3x80x80x80 : Shape := ⟨5, ![4, 3, 80, 80, 80]⟩
abbrev S4x1x3x80x80 : Shape := ⟨5, ![4, 1, 3, 80, 80]⟩
abbrev S4x4x3x80x80 : Shape := ⟨5, ![4, 4, 3, 80, 80]⟩
abbrev S4x19200 : Shape := ⟨2, ![4, 19200]⟩
abbrev S4x4x19200 : Shape := ⟨3, ![4, 4, 19200]⟩

abbrev nBuf : Space → Nat
  | .hbm => 80
  | .vmem => 0
  | .smem => 0
  | _ => 0

abbrev bufTy : (tb : Table) → Fin (tcTables nBuf tb) → BufTy
  | .hbm, ⟨0, _⟩ => ⟨S4x3x80x80x85, .f32⟩
  | .hbm, ⟨1, _⟩ => ⟨S3x3x2, .f32⟩
  | .hbm, ⟨2, _⟩ => ⟨S1x3x2, .f32⟩
  | .hbm, ⟨3, _⟩ => ⟨S3x2, .f32⟩
  | .hbm, ⟨4, _⟩ => ⟨S4x3x80x80x85, .f32⟩
  | .hbm, ⟨5, _⟩ => ⟨S4x3x80x80x85, .f32⟩
  | .hbm, ⟨6, _⟩ => ⟨S_, .f32⟩
  | .hbm, ⟨7, _⟩ => ⟨S4x3x80x80x85, .f32⟩
  | .hbm, ⟨8, _⟩ => ⟨S4x3x80x80x85, .f32⟩
  | .hbm, ⟨9, _⟩ => ⟨S_, .f32⟩
  | .hbm, ⟨10, _⟩ => ⟨S4x3x80x80x85, .f32⟩
  | .hbm, ⟨11, _⟩ => ⟨S4x3x80x80x85, .f32⟩
  | .hbm, ⟨12, _⟩ => ⟨S4x3x80x80x2, .f32⟩
  | .hbm, ⟨13, _⟩ => ⟨S4x3x80x80x2, .f32⟩
  | .hbm, ⟨14, _⟩ => ⟨S80x80, .f32⟩
  | .hbm, ⟨15, _⟩ => ⟨S80x80, .f32⟩
  | .hbm, ⟨16, _⟩ => ⟨S80x80x1, .f32⟩
  | .hbm, ⟨17, _⟩ => ⟨S80x80x1, .f32⟩
  | .hbm, ⟨18, _⟩ => ⟨S80x80x2, .f32⟩
  | .hbm, ⟨19, _⟩ => ⟨S1x1x80x80x2, .f32⟩
  | .hbm, ⟨20, _⟩ => ⟨S_, .f32⟩
  | .hbm, ⟨21, _⟩ => ⟨S1x1x80x80x2, .f32⟩
  | .hbm, ⟨22, _⟩ => ⟨S1x1x80x80x2, .f32⟩
  | .hbm, ⟨23, _⟩ => ⟨S1x3x1x1x2, .f32⟩
  | .hbm, ⟨24, _⟩ => ⟨S_, .f32⟩
  | .hbm, ⟨25, _⟩ => ⟨S4x3x80x80x2, .f32⟩
  | .hbm, ⟨26, _⟩ => ⟨S4x3x80x80x2, .f32⟩
  | .hbm, ⟨27, _⟩ => ⟨S4x3x80x80x2, .f32⟩
  | .hbm, ⟨28, _⟩ => ⟨S4x3x80x80x2, .f32⟩
  | .hbm, ⟨29, _⟩ => ⟨S_, .f32⟩
  | .hbm, ⟨30, _⟩ => ⟨S4x3x80x80x2, .f32⟩
  | .hbm, ⟨31, _⟩ => ⟨S4x3x80x80x2, .f32⟩
  | .hbm, ⟨32, _⟩ => ⟨S4x3x80x80x2, .f32⟩
  | .hbm, ⟨33, _⟩ => ⟨S4x3x80x80x2, .f32⟩
  | .hbm, ⟨34, _⟩ => ⟨S4x3x80x80x2, .f32⟩
  | .hbm, ⟨35, _⟩ => ⟨S4x3x80x80x1, .f32⟩
  | .hbm, ⟨36, _⟩ => ⟨S4x3x80x80, .f32⟩
  | .hbm, ⟨37, _⟩ => ⟨S4x3x80x80x80, .f32⟩
  | .hbm, ⟨38, _⟩ => ⟨S_, .f32⟩
  | .hbm, ⟨39, _⟩ => ⟨S4x3x80x80, .f32⟩
  | .hbm, ⟨40, _⟩ => ⟨S4x3x80x80, .f32⟩
  | .hbm, ⟨41, _⟩ => ⟨S4x3x80x80x1, .f32⟩
  | .hbm, ⟨42, _⟩ => ⟨S4x3x80x80, .f32⟩
  | .hbm, ⟨43, _⟩ => ⟨S4x3x80x80x1, .f32⟩
  | .hbm, ⟨44, _⟩ => ⟨S4x3x80x80, .f32⟩
  | .hbm, ⟨45, _⟩ => ⟨S_, .f32⟩
  | .hbm, ⟨46, _⟩ => ⟨S4x3x80x80, .f32⟩
  | .hbm, ⟨47, _⟩ => ⟨S4x3x80x80, .f32⟩
  | .hbm, ⟨48, _⟩ => ⟨S4x3x80x80, .f32⟩
  | .hbm, ⟨49, _⟩ => ⟨S4x3x80x80x1, .f32⟩
  | .hbm, ⟨50, _⟩ => ⟨S4x3x80x80, .f32⟩
  | .hbm, ⟨51, _⟩ => ⟨S4x3x80x80x1, .f32⟩
  | .hbm, ⟨52, _⟩ => ⟨S4x3x80x80, .f32⟩
  | .hbm, ⟨53, _⟩ => ⟨S_, .f32⟩
  | .hbm, ⟨54, _⟩ => ⟨S4x3x80x80, .f32⟩
  | .hbm, ⟨55, _⟩ => ⟨S4x3x80x80, .f32⟩
  | .hbm, ⟨56, _⟩ => ⟨S4x3x80x80, .f32⟩
  | .hbm, ⟨57, _⟩ => ⟨S4x3x80x80x1, .f32⟩
  | .hbm, ⟨58, _⟩ => ⟨S4x3x80x80, .f32⟩
  | .hbm, ⟨59, _⟩ => ⟨S4x3x80x80x1, .f32⟩
  | .hbm, ⟨60, _⟩ => ⟨S4x3x80x80, .f32⟩
  | .hbm, ⟨61, _⟩ => ⟨S_, .f32⟩
  | .hbm, ⟨62, _⟩ => ⟨S4x3x80x80, .f32⟩
  | .hbm, ⟨63, _⟩ => ⟨S4x3x80x80, .f32⟩
  | .hbm, ⟨64, _⟩ => ⟨S4x3x80x80, .f32⟩
  | .hbm, ⟨65, _⟩ => ⟨S4x3x80x80x1, .f32⟩
  | .hbm, ⟨66, _⟩ => ⟨S4x3x80x80, .f32⟩
  | .hbm, ⟨67, _⟩ => ⟨S4x3x80x80x1, .f32⟩
  | .hbm, ⟨68, _⟩ => ⟨S4x3x80x80, .f32⟩
  | .hbm, ⟨69, _⟩ => ⟨S_, .f32⟩
  | .hbm, ⟨70, _⟩ => ⟨S4x3x80x80, .f32⟩
  | .hbm, ⟨71, _⟩ => ⟨S4x3x80x80, .f32⟩
  | .hbm, ⟨72, _⟩ => ⟨S4x3x80x80, .f32⟩
  | .hbm, ⟨73, _⟩ => ⟨S4x1x3x80x80, .f32⟩
  | .hbm, ⟨74, _⟩ => ⟨S4x1x3x80x80, .f32⟩
  | .hbm, ⟨75, _⟩ => ⟨S4x1x3x80x80, .f32⟩
  | .hbm, ⟨76, _⟩ => ⟨S4x1x3x80x80, .f32⟩
  | .hbm, ⟨77, _⟩ => ⟨S4x4x3x80x80, .f32⟩
  | .hbm, ⟨78, _⟩ => ⟨S4x19200, .f32⟩
  | .hbm, ⟨79, _⟩ => ⟨S4x4x19200, .f32⟩
  | _, _ => ⟨S4x3x80x80x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_7 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_8 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]
-- ==== Kernel3.lean ====
abbrev S4x3x40x40x85 : Shape := ⟨5, ![4, 3, 40, 40, 85]⟩
abbrev S3x3x2 : Shape := ⟨3, ![3, 3, 2]⟩
abbrev S1x3x2 : Shape := ⟨3, ![1, 3, 2]⟩
abbrev S3x2 : Shape := ⟨2, ![3, 2]⟩
abbrev S4x4800x85 : Shape := ⟨3, ![4, 4800, 85]⟩
abbrev S4x4x1x1200 : Shape := ⟨4, ![4, 4, 1, 1200]⟩
abbrev S4x4x4x1200 : Shape := ⟨4, ![4, 4, 4, 1200]⟩
abbrev S1x1200x85 : Shape := ⟨3, ![1, 1200, 85]⟩
abbrev S1x1x1x1200 : Shape := ⟨4, ![1, 1, 1, 1200]⟩
abbrev S1x1x4x1200 : Shape := ⟨4, ![1, 1, 4, 1200]⟩
abbrev S1200x85 : Shape := ⟨2, ![1200, 85]⟩
abbrev S1200x80 : Shape := ⟨2, ![1200, 80]⟩
abbrev S1200 : Shape := ⟨1, ![1200]⟩
abbrev S1200x1 : Shape := ⟨2, ![1200, 1]⟩
abbrev S1200x5 : Shape := ⟨2, ![1200, 5]⟩
abbrev S1200x2 : Shape := ⟨2, ![1200, 2]⟩
abbrev S1200x8 : Shape := ⟨2, ![1200, 8]⟩
abbrev S8x1200 : Shape := ⟨2, ![8, 1200]⟩
abbrev S1x1200 : Shape := ⟨2, ![1, 1200]⟩
abbrev S1x1 : Shape := ⟨2, ![1, 1]⟩
abbrev S4x1200 : Shape := ⟨2, ![4, 1200]⟩
abbrev S4x4800 : Shape := ⟨2, ![4, 4800]⟩
abbrev S4x4x4800 : Shape := ⟨3, ![4, 4, 4800]⟩

abbrev nBuf : Space → Nat
  | .hbm => 10
  | .vmem => 6
  | .smem => 1
  | _ => 0

abbrev bufTy : (tb : Table) → Fin (tcTables nBuf tb) → BufTy
  | .hbm, ⟨0, _⟩ => ⟨S4x3x40x40x85, .f32⟩
  | .hbm, ⟨1, _⟩ => ⟨S3x3x2, .f32⟩
  | .hbm, ⟨2, _⟩ => ⟨S1x3x2, .f32⟩
  | .hbm, ⟨3, _⟩ => ⟨S3x2, .f32⟩
  | .hbm, ⟨4, _⟩ => ⟨S4x4800x85, .f32⟩
  | .hbm, ⟨5, _⟩ => ⟨S4x4x1x1200, .f32⟩
  | .hbm, ⟨6, _⟩ => ⟨S4x4x4x1200, .f32⟩
  | .hbm, ⟨7, _⟩ => ⟨S4x4800, .f32⟩
  | .hbm, ⟨8, _⟩ => ⟨S4x4x4x1200, .f32⟩
  | .hbm, ⟨9, _⟩ => ⟨S4x4x4800, .f32⟩
  | .local _ .vmem, ⟨0, _⟩ => ⟨S1x1200x85, .f32⟩
  | .local _ .vmem, ⟨1, _⟩ => ⟨S1x1200x85, .f32⟩
  | .local _ .vmem, ⟨2, _⟩ => ⟨S1x1x1x1200, .f32⟩
  | .local _ .vmem, ⟨3, _⟩ => ⟨S1x1x1x1200, .f32⟩
  | .local _ .vmem, ⟨4, _⟩ => ⟨S1x1x4x1200, .f32⟩
  | .local _ .vmem, ⟨5, _⟩ => ⟨S1x1x4x1200, .f32⟩
  | .local _ .smem, ⟨0, _⟩ => ⟨S3x2, .f32⟩
  | _, _ => ⟨S4x3x40x40x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1200x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S3x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x1200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x3x40x40x85 : Shape := ⟨5, ![4, 3, 40, 40, 85]⟩
abbrev S3x3x2 : Shape := ⟨3, ![3, 3, 2]⟩
abbrev S1x3x2 : Shape := ⟨3, ![1, 3, 2]⟩
abbrev S3x2 : Shape := ⟨2, ![3, 2]⟩
abbrev S_ : Shape := ⟨0, ![]⟩
abbrev S4x3x40x40x2 : Shape := ⟨5, ![4, 3, 40, 40, 2]⟩
abbrev S40x40 : Shape := ⟨2, ![40, 40]⟩
abbrev S40x40x1 : Shape := ⟨3, ![40, 40, 1]⟩
abbrev S40x40x2 : Shape := ⟨3, ![40, 40, 2]⟩
abbrev S1x1x40x40x2 : Shape := ⟨5, ![1, 1, 40, 40, 2]⟩
abbrev S1x3x1x1x2 : Shape := ⟨5, ![1, 3, 1, 1, 2]⟩
abbrev S4x3x40x40x1 : Shape := ⟨5, ![4, 3, 40, 40, 1]⟩
abbrev S4x3x40x40 : Shape := ⟨4, ![4, 3, 40, 40]⟩
abbrev S4x3x40x40x80 : Shape := ⟨5, ![4, 3, 40, 40, 80]⟩
abbrev S4x1x3x40x40 : Shape := ⟨5, ![4, 1, 3, 40, 40]⟩
abbrev S4x4x3x40x40 : Shape := ⟨5, ![4, 4, 3, 40, 40]⟩
abbrev S4x4800 : Shape := ⟨2, ![4, 4800]⟩
abbrev S4x4x4800 : Shape := ⟨3, ![4, 4, 4800]⟩

abbrev nBuf : Space → Nat
  | .hbm => 80
  | .vmem => 0
  | .smem => 0
  | _ => 0

abbrev bufTy : (tb : Table) → Fin (tcTables nBuf tb) → BufTy
  | .hbm, ⟨0, _⟩ => ⟨S4x3x40x40x85, .f32⟩
  | .hbm, ⟨1, _⟩ => ⟨S3x3x2, .f32⟩
  | .hbm, ⟨2, _⟩ => ⟨S1x3x2, .f32⟩
  | .hbm, ⟨3, _⟩ => ⟨S3x2, .f32⟩
  | .hbm, ⟨4, _⟩ => ⟨S4x3x40x40x85, .f32⟩
  | .hbm, ⟨5, _⟩ => ⟨S4x3x40x40x85, .f32⟩
  | .hbm, ⟨6, _⟩ => ⟨S_, .f32⟩
  | .hbm, ⟨7, _⟩ => ⟨S4x3x40x40x85, .f32⟩
  | .hbm, ⟨8, _⟩ => ⟨S4x3x40x40x85, .f32⟩
  | .hbm, ⟨9, _⟩ => ⟨S_, .f32⟩
  | .hbm, ⟨10, _⟩ => ⟨S4x3x40x40x85, .f32⟩
  | .hbm, ⟨11, _⟩ => ⟨S4x3x40x40x85, .f32⟩
  | .hbm, ⟨12, _⟩ => ⟨S4x3x40x40x2, .f32⟩
  | .hbm, ⟨13, _⟩ => ⟨S4x3x40x40x2, .f32⟩
  | .hbm, ⟨14, _⟩ => ⟨S40x40, .f32⟩
  | .hbm, ⟨15, _⟩ => ⟨S40x40, .f32⟩
  | .hbm, ⟨16, _⟩ => ⟨S40x40x1, .f32⟩
  | .hbm, ⟨17, _⟩ => ⟨S40x40x1, .f32⟩
  | .hbm, ⟨18, _⟩ => ⟨S40x40x2, .f32⟩
  | .hbm, ⟨19, _⟩ => ⟨S1x1x40x40x2, .f32⟩
  | .hbm, ⟨20, _⟩ => ⟨S_, .f32⟩
  | .hbm, ⟨21, _⟩ => ⟨S1x1x40x40x2, .f32⟩
  | .hbm, ⟨22, _⟩ => ⟨S1x1x40x40x2, .f32⟩
  | .hbm, ⟨23, _⟩ => ⟨S1x3x1x1x2, .f32⟩
  | .hbm, ⟨24, _⟩ => ⟨S_, .f32⟩
  | .hbm, ⟨25, _⟩ => ⟨S4x3x40x40x2, .f32⟩
  | .hbm, ⟨26, _⟩ => ⟨S4x3x40x40x2, .f32⟩
  | .hbm, ⟨27, _⟩ => ⟨S4x3x40x40x2, .f32⟩
  | .hbm, ⟨28, _⟩ => ⟨S4x3x40x40x2, .f32⟩
  | .hbm, ⟨29, _⟩ => ⟨S_, .f32⟩
  | .hbm, ⟨30, _⟩ => ⟨S4x3x40x40x2, .f32⟩
  | .hbm, ⟨31, _⟩ => ⟨S4x3x40x40x2, .f32⟩
  | .hbm, ⟨32, _⟩ => ⟨S4x3x40x40x2, .f32⟩
  | .hbm, ⟨33, _⟩ => ⟨S4x3x40x40x2, .f32⟩
  | .hbm, ⟨34, _⟩ => ⟨S4x3x40x40x2, .f32⟩
  | .hbm, ⟨35, _⟩ => ⟨S4x3x40x40x1, .f32⟩
  | .hbm, ⟨36, _⟩ => ⟨S4x3x40x40, .f32⟩
  | .hbm, ⟨37, _⟩ => ⟨S4x3x40x40x80, .f32⟩
  | .hbm, ⟨38, _⟩ => ⟨S_, .f32⟩
  | .hbm, ⟨39, _⟩ => ⟨S4x3x40x40, .f32⟩
  | .hbm, ⟨40, _⟩ => ⟨S4x3x40x40, .f32⟩
  | .hbm, ⟨41, _⟩ => ⟨S4x3x40x40x1, .f32⟩
  | .hbm, ⟨42, _⟩ => ⟨S4x3x40x40, .f32⟩
  | .hbm, ⟨43, _⟩ => ⟨S4x3x40x40x1, .f32⟩
  | .hbm, ⟨44, _⟩ => ⟨S4x3x40x40, .f32⟩
  | .hbm, ⟨45, _⟩ => ⟨S_, .f32⟩
  | .hbm, ⟨46, _⟩ => ⟨S4x3x40x40, .f32⟩
  | .hbm, ⟨47, _⟩ => ⟨S4x3x40x40, .f32⟩
  | .hbm, ⟨48, _⟩ => ⟨S4x3x40x40, .f32⟩
  | .hbm, ⟨49, _⟩ => ⟨S4x3x40x40x1, .f32⟩
  | .hbm, ⟨50, _⟩ => ⟨S4x3x40x40, .f32⟩
  | .hbm, ⟨51, _⟩ => ⟨S4x3x40x40x1, .f32⟩
  | .hbm, ⟨52, _⟩ => ⟨S4x3x40x40, .f32⟩
  | .hbm, ⟨53, _⟩ => ⟨S_, .f32⟩
  | .hbm, ⟨54, _⟩ => ⟨S4x3x40x40, .f32⟩
  | .hbm, ⟨55, _⟩ => ⟨S4x3x40x40, .f32⟩
  | .hbm, ⟨56, _⟩ => ⟨S4x3x40x40, .f32⟩
  | .hbm, ⟨57, _⟩ => ⟨S4x3x40x40x1, .f32⟩
  | .hbm, ⟨58, _⟩ => ⟨S4x3x40x40, .f32⟩
  | .hbm, ⟨59, _⟩ => ⟨S4x3x40x40x1, .f32⟩
  | .hbm, ⟨60, _⟩ => ⟨S4x3x40x40, .f32⟩
  | .hbm, ⟨61, _⟩ => ⟨S_, .f32⟩
  | .hbm, ⟨62, _⟩ => ⟨S4x3x40x40, .f32⟩
  | .hbm, ⟨63, _⟩ => ⟨S4x3x40x40, .f32⟩
  | .hbm, ⟨64, _⟩ => ⟨S4x3x40x40, .f32⟩
  | .hbm, ⟨65, _⟩ => ⟨S4x3x40x40x1, .f32⟩
  | .hbm, ⟨66, _⟩ => ⟨S4x3x40x40, .f32⟩
  | .hbm, ⟨67, _⟩ => ⟨S4x3x40x40x1, .f32⟩
  | .hbm, ⟨68, _⟩ => ⟨S4x3x40x40, .f32⟩
  | .hbm, ⟨69, _⟩ => ⟨S_, .f32⟩
  | .hbm, ⟨70, _⟩ => ⟨S4x3x40x40, .f32⟩
  | .hbm, ⟨71, _⟩ => ⟨S4x3x40x40, .f32⟩
  | .hbm, ⟨72, _⟩ => ⟨S4x3x40x40, .f32⟩
  | .hbm, ⟨73, _⟩ => ⟨S4x1x3x40x40, .f32⟩
  | .hbm, ⟨74, _⟩ => ⟨S4x1x3x40x40, .f32⟩
  | .hbm, ⟨75, _⟩ => ⟨S4x1x3x40x40, .f32⟩
  | .hbm, ⟨76, _⟩ => ⟨S4x1x3x40x40, .f32⟩
  | .hbm, ⟨77, _⟩ => ⟨S4x4x3x40x40, .f32⟩
  | .hbm, ⟨78, _⟩ => ⟨S4x4800, .f32⟩
  | .hbm, ⟨79, _⟩ => ⟨S4x4x4800, .f32⟩
  | _, _ => ⟨S4x3x40x40x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_7 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_8 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]
-- ==== Kernel4.lean ====
abbrev S4x3x20x20x85 : Shape := ⟨5, ![4, 3, 20, 20, 85]⟩
abbrev S3x3x2 : Shape := ⟨3, ![3, 3, 2]⟩
abbrev S1x3x2 : Shape := ⟨3, ![1, 3, 2]⟩
abbrev S3x2 : Shape := ⟨2, ![3, 2]⟩
abbrev S4x1200x85 : Shape := ⟨3, ![4, 1200, 85]⟩
abbrev S4x1x1x1200 : Shape := ⟨4, ![4, 1, 1, 1200]⟩
abbrev S4x1x4x1200 : Shape := ⟨4, ![4, 1, 4, 1200]⟩
abbrev S1x1200x85 : Shape := ⟨3, ![1, 1200, 85]⟩
abbrev S1x1x1x1200 : Shape := ⟨4, ![1, 1, 1, 1200]⟩
abbrev S1x1x4x1200 : Shape := ⟨4, ![1, 1, 4, 1200]⟩
abbrev S1200x85 : Shape := ⟨2, ![1200, 85]⟩
abbrev S1200x80 : Shape := ⟨2, ![1200, 80]⟩
abbrev S1200 : Shape := ⟨1, ![1200]⟩
abbrev S1200x1 : Shape := ⟨2, ![1200, 1]⟩
abbrev S1200x5 : Shape := ⟨2, ![1200, 5]⟩
abbrev S1200x2 : Shape := ⟨2, ![1200, 2]⟩
abbrev S1200x8 : Shape := ⟨2, ![1200, 8]⟩
abbrev S8x1200 : Shape := ⟨2, ![8, 1200]⟩
abbrev S1x1200 : Shape := ⟨2, ![1, 1200]⟩
abbrev S1x1 : Shape := ⟨2, ![1, 1]⟩
abbrev S4x1200 : Shape := ⟨2, ![4, 1200]⟩
abbrev S4x4x1x1200 : Shape := ⟨4, ![4, 4, 1, 1200]⟩
abbrev S4x4x1200 : Shape := ⟨3, ![4, 4, 1200]⟩

abbrev nBuf : Space → Nat
  | .hbm => 10
  | .vmem => 6
  | .smem => 1
  | _ => 0

abbrev bufTy : (tb : Table) → Fin (tcTables nBuf tb) → BufTy
  | .hbm, ⟨0, _⟩ => ⟨S4x3x20x20x85, .f32⟩
  | .hbm, ⟨1, _⟩ => ⟨S3x3x2, .f32⟩
  | .hbm, ⟨2, _⟩ => ⟨S1x3x2, .f32⟩
  | .hbm, ⟨3, _⟩ => ⟨S3x2, .f32⟩
  | .hbm, ⟨4, _⟩ => ⟨S4x1200x85, .f32⟩
  | .hbm, ⟨5, _⟩ => ⟨S4x1x1x1200, .f32⟩
  | .hbm, ⟨6, _⟩ => ⟨S4x1x4x1200, .f32⟩
  | .hbm, ⟨7, _⟩ => ⟨S4x1200, .f32⟩
  | .hbm, ⟨8, _⟩ => ⟨S4x4x1x1200, .f32⟩
  | .hbm, ⟨9, _⟩ => ⟨S4x4x1200, .f32⟩
  | .local _ .vmem, ⟨0, _⟩ => ⟨S1x1200x85, .f32⟩
  | .local _ .vmem, ⟨1, _⟩ => ⟨S1x1200x85, .f32⟩
  | .local _ .vmem, ⟨2, _⟩ => ⟨S1x1x1x1200, .f32⟩
  | .local _ .vmem, ⟨3, _⟩ => ⟨S1x1x1x1200, .f32⟩
  | .local _ .vmem, ⟨4, _⟩ => ⟨S1x1x4x1200, .f32⟩
  | .local _ .vmem, ⟨5, _⟩ => ⟨S1x1x4x1200, .f32⟩
  | .local _ .smem, ⟨0, _⟩ => ⟨S3x2, .f32⟩
  | _, _ => ⟨S4x3x20x20x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1200x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S3x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x1200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x3x20x20x85 : Shape := ⟨5, ![4, 3, 20, 20, 85]⟩
abbrev S3x3x2 : Shape := ⟨3, ![3, 3, 2]⟩
abbrev S1x3x2 : Shape := ⟨3, ![1, 3, 2]⟩
abbrev S3x2 : Shape := ⟨2, ![3, 2]⟩
abbrev S_ : Shape := ⟨0, ![]⟩
abbrev S4x3x20x20x2 : Shape := ⟨5, ![4, 3, 20, 20, 2]⟩
abbrev S20x20 : Shape := ⟨2, ![20, 20]⟩
abbrev S20x20x1 : Shape := ⟨3, ![20, 20, 1]⟩
abbrev S20x20x2 : Shape := ⟨3, ![20, 20, 2]⟩
abbrev S1x1x20x20x2 : Shape := ⟨5, ![1, 1, 20, 20, 2]⟩
abbrev S1x3x1x1x2 : Shape := ⟨5, ![1, 3, 1, 1, 2]⟩
abbrev S4x3x20x20x1 : Shape := ⟨5, ![4, 3, 20, 20, 1]⟩
abbrev S4x3x20x20 : Shape := ⟨4, ![4, 3, 20, 20]⟩
abbrev S4x3x20x20x80 : Shape := ⟨5, ![4, 3, 20, 20, 80]⟩
abbrev S4x1x3x20x20 : Shape := ⟨5, ![4, 1, 3, 20, 20]⟩
abbrev S4x4x3x20x20 : Shape := ⟨5, ![4, 4, 3, 20, 20]⟩
abbrev S4x1200 : Shape := ⟨2, ![4, 1200]⟩
abbrev S4x4x1200 : Shape := ⟨3, ![4, 4, 1200]⟩

abbrev nBuf : Space → Nat
  | .hbm => 80
  | .vmem => 0
  | .smem => 0
  | _ => 0

abbrev bufTy : (tb : Table) → Fin (tcTables nBuf tb) → BufTy
  | .hbm, ⟨0, _⟩ => ⟨S4x3x20x20x85, .f32⟩
  | .hbm, ⟨1, _⟩ => ⟨S3x3x2, .f32⟩
  | .hbm, ⟨2, _⟩ => ⟨S1x3x2, .f32⟩
  | .hbm, ⟨3, _⟩ => ⟨S3x2, .f32⟩
  | .hbm, ⟨4, _⟩ => ⟨S4x3x20x20x85, .f32⟩
  | .hbm, ⟨5, _⟩ => ⟨S4x3x20x20x85, .f32⟩
  | .hbm, ⟨6, _⟩ => ⟨S_, .f32⟩
  | .hbm, ⟨7, _⟩ => ⟨S4x3x20x20x85, .f32⟩
  | .hbm, ⟨8, _⟩ => ⟨S4x3x20x20x85, .f32⟩
  | .hbm, ⟨9, _⟩ => ⟨S_, .f32⟩
  | .hbm, ⟨10, _⟩ => ⟨S4x3x20x20x85, .f32⟩
  | .hbm, ⟨11, _⟩ => ⟨S4x3x20x20x85, .f32⟩
  | .hbm, ⟨12, _⟩ => ⟨S4x3x20x20x2, .f32⟩
  | .hbm, ⟨13, _⟩ => ⟨S4x3x20x20x2, .f32⟩
  | .hbm, ⟨14, _⟩ => ⟨S20x20, .f32⟩
  | .hbm, ⟨15, _⟩ => ⟨S20x20, .f32⟩
  | .hbm, ⟨16, _⟩ => ⟨S20x20x1, .f32⟩
  | .hbm, ⟨17, _⟩ => ⟨S20x20x1, .f32⟩
  | .hbm, ⟨18, _⟩ => ⟨S20x20x2, .f32⟩
  | .hbm, ⟨19, _⟩ => ⟨S1x1x20x20x2, .f32⟩
  | .hbm, ⟨20, _⟩ => ⟨S_, .f32⟩
  | .hbm, ⟨21, _⟩ => ⟨S1x1x20x20x2, .f32⟩
  | .hbm, ⟨22, _⟩ => ⟨S1x1x20x20x2, .f32⟩
  | .hbm, ⟨23, _⟩ => ⟨S1x3x1x1x2, .f32⟩
  | .hbm, ⟨24, _⟩ => ⟨S_, .f32⟩
  | .hbm, ⟨25, _⟩ => ⟨S4x3x20x20x2, .f32⟩
  | .hbm, ⟨26, _⟩ => ⟨S4x3x20x20x2, .f32⟩
  | .hbm, ⟨27, _⟩ => ⟨S4x3x20x20x2, .f32⟩
  | .hbm, ⟨28, _⟩ => ⟨S4x3x20x20x2, .f32⟩
  | .hbm, ⟨29, _⟩ => ⟨S_, .f32⟩
  | .hbm, ⟨30, _⟩ => ⟨S4x3x20x20x2, .f32⟩
  | .hbm, ⟨31, _⟩ => ⟨S4x3x20x20x2, .f32⟩
  | .hbm, ⟨32, _⟩ => ⟨S4x3x20x20x2, .f32⟩
  | .hbm, ⟨33, _⟩ => ⟨S4x3x20x20x2, .f32⟩
  | .hbm, ⟨34, _⟩ => ⟨S4x3x20x20x2, .f32⟩
  | .hbm, ⟨35, _⟩ => ⟨S4x3x20x20x1, .f32⟩
  | .hbm, ⟨36, _⟩ => ⟨S4x3x20x20, .f32⟩
  | .hbm, ⟨37, _⟩ => ⟨S4x3x20x20x80, .f32⟩
  | .hbm, ⟨38, _⟩ => ⟨S_, .f32⟩
  | .hbm, ⟨39, _⟩ => ⟨S4x3x20x20, .f32⟩
  | .hbm, ⟨40, _⟩ => ⟨S4x3x20x20, .f32⟩
  | .hbm, ⟨41, _⟩ => ⟨S4x3x20x20x1, .f32⟩
  | .hbm, ⟨42, _⟩ => ⟨S4x3x20x20, .f32⟩
  | .hbm, ⟨43, _⟩ => ⟨S4x3x20x20x1, .f32⟩
  | .hbm, ⟨44, _⟩ => ⟨S4x3x20x20, .f32⟩
  | .hbm, ⟨45, _⟩ => ⟨S_, .f32⟩
  | .hbm, ⟨46, _⟩ => ⟨S4x3x20x20, .f32⟩
  | .hbm, ⟨47, _⟩ => ⟨S4x3x20x20, .f32⟩
  | .hbm, ⟨48, _⟩ => ⟨S4x3x20x20, .f32⟩
  | .hbm, ⟨49, _⟩ => ⟨S4x3x20x20x1, .f32⟩
  | .hbm, ⟨50, _⟩ => ⟨S4x3x20x20, .f32⟩
  | .hbm, ⟨51, _⟩ => ⟨S4x3x20x20x1, .f32⟩
  | .hbm, ⟨52, _⟩ => ⟨S4x3x20x20, .f32⟩
  | .hbm, ⟨53, _⟩ => ⟨S_, .f32⟩
  | .hbm, ⟨54, _⟩ => ⟨S4x3x20x20, .f32⟩
  | .hbm, ⟨55, _⟩ => ⟨S4x3x20x20, .f32⟩
  | .hbm, ⟨56, _⟩ => ⟨S4x3x20x20, .f32⟩
  | .hbm, ⟨57, _⟩ => ⟨S4x3x20x20x1, .f32⟩
  | .hbm, ⟨58, _⟩ => ⟨S4x3x20x20, .f32⟩
  | .hbm, ⟨59, _⟩ => ⟨S4x3x20x20x1, .f32⟩
  | .hbm, ⟨60, _⟩ => ⟨S4x3x20x20, .f32⟩
  | .hbm, ⟨61, _⟩ => ⟨S_, .f32⟩
  | .hbm, ⟨62, _⟩ => ⟨S4x3x20x20, .f32⟩
  | .hbm, ⟨63, _⟩ => ⟨S4x3x20x20, .f32⟩
  | .hbm, ⟨64, _⟩ => ⟨S4x3x20x20, .f32⟩
  | .hbm, ⟨65, _⟩ => ⟨S4x3x20x20x1, .f32⟩
  | .hbm, ⟨66, _⟩ => ⟨S4x3x20x20, .f32⟩
  | .hbm, ⟨67, _⟩ => ⟨S4x3x20x20x1, .f32⟩
  | .hbm, ⟨68, _⟩ => ⟨S4x3x20x20, .f32⟩
  | .hbm, ⟨69, _⟩ => ⟨S_, .f32⟩
  | .hbm, ⟨70, _⟩ => ⟨S4x3x20x20, .f32⟩
  | .hbm, ⟨71, _⟩ => ⟨S4x3x20x20, .f32⟩
  | .hbm, ⟨72, _⟩ => ⟨S4x3x20x20, .f32⟩
  | .hbm, ⟨73, _⟩ => ⟨S4x1x3x20x20, .f32⟩
  | .hbm, ⟨74, _⟩ => ⟨S4x1x3x20x20, .f32⟩
  | .hbm, ⟨75, _⟩ => ⟨S4x1x3x20x20, .f32⟩
  | .hbm, ⟨76, _⟩ => ⟨S4x1x3x20x20, .f32⟩
  | .hbm, ⟨77, _⟩ => ⟨S4x4x3x20x20, .f32⟩
  | .hbm, ⟨78, _⟩ => ⟨S4x1200, .f32⟩
  | .hbm, ⟨79, _⟩ => ⟨S4x4x1200, .f32⟩
  | _, _ => ⟨S4x3x20x20x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_7 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_8 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩

abbrev nD : Nat := 1
abbrev τ : Topo := Topo.v7x

variable {F : FTy → Type} [FloatOps F]
-- ==== Proof.Run.Kit.lean ====
/- What a kernel call of the program contributes to the run, and how a call and the host statements around it
   are put together: the data of one call (`Leg`), the buffers after it (`exitOf`), and its segment (`regionOf`). -/
module

public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The contents of every buffer of every core. -/
abbrev Contents (F : FTy → Type) : Type := Dev nD → Valuation τ sig (Elt F)

/-- The same at the TensorCore's references. -/
abbrev atRefs (W : Contents F) : (c : Dev nD) → (b : Ref sig .tc) → Buf (Elt F) ((c : Thread nD τ).loc b) := fun c b => W c b

/-- No table is prefetched. -/
abbrev noTables : (p : Fin 6) → (pcfgs (F := F) p).Adm := fun p => (cfgs p).toPCfg_adm

variable (F) in
/-- One kernel call: its proof data at any contents of the buffers, and what is shown of its body. -/
structure Leg (p : Fin 6) where
  dat : Contents F → (c : Dev nD) → Dat τ (Elt F) Unit ℕ (UR sig nD τ) ℕ (Pipeline.pin (pcfgs (F := F)) noTables p) c
  A_eq : ∀ W c w, (dat W c).A w = W c (Pipeline.arrRef (cfgs p).spec w)
  q_eq : ∀ W c w, (dat W c).q w = fullShare
  owed_eq : ∀ W c n, (dat W c).owed n = 0
  recorded_eq : ∀ W c x, x ∈ (dat W c).recorded 0
  body : ∀ W c, Pipeline.BodyObligationLoose (dat W c) (defs₀ (F := F)) Variants.none () Set.univ
  start : ∀ W c, (Pipeline.ΦA (cfgs p).spec c : sProp 𝕄) ⊢ (dat W c).Φ 0
  finish : ∀ W c, (dat W c).Φ (Fin.last _) ⊢ (Pipeline.ΦA (cfgs p).spec c : sProp 𝕄)

/-- The layout facts of every call. -/
theorem launchOf : ∀ p : Fin 6, Pipeline.LaunchFacts (nD := nD) (τ := τ) cfgs p
  | ⟨0, _⟩ => launch0 | ⟨1, _⟩ => launch1 | ⟨2, _⟩ => launch2 | ⟨3, _⟩ => launch3 | ⟨4, _⟩ => launch4 | ⟨5, _⟩ => launch5

/-- The buffers after a call entered at `W`: its arrays at what its write-backs leave, the others as before. -/
def exitOf {p : Fin 6} (leg : Leg F p) (W : Contents F) : Contents F := fun c =>
  Pipeline.withArrays (cfgs p).spec c (W c) fun w => (leg.dat W c).arrAt w (Pipeline.pin (pcfgs (F := F)) noTables p).N

theorem exitOf_arr {p : Fin 6} (leg : Leg F p) (W : Contents F) (c : Dev nD) (w : Fin (cfgs p).W) :
    exitOf leg W c (Proc.devRef .tc (Pipeline.arrRef (cfgs p).spec w)) = (leg.dat W c).arrAt w (Pipeline.pin (pcfgs (F := F)) noTables p).N := by
  unfold exitOf; exact Pipeline.withArrays_arr (cfgs p).spec (launchOf p).win.arr_inj c _ _ w

theorem exitOf_of_ne {p : Fin 6} (leg : Leg F p) (W : Contents F) (c : Dev nD) (b : Ref sig .tc) (hb : ∀ w, Pipeline.arrRef (cfgs p).spec w ≠ b) :
    exitOf leg W c (Proc.devRef .tc b) = W c (Proc.devRef .tc b) := by
  unfold exitOf; exact Pipeline.withArrays_of_ne (cfgs p).spec c _ _ b hb

/-- A buffer that is no result array of the call is as it was. -/
theorem exitOf_of {p : Fin 6} (leg : Leg F p) (W : Contents F) (c : Dev nD) (r : Ref sig .tc)
    (h : ∀ w : Fin (cfgs p).W, Pipeline.arrRef (cfgs p).spec w = r → ((cfgs p).win w).isOut = false) :
    exitOf leg W c (Proc.devRef .tc r) = W c (Proc.devRef .tc r) := by
  by_cases hw : ∃ w : Fin (cfgs p).W, Pipeline.arrRef (cfgs p).spec w = r
  · obtain ⟨w, rfl⟩ := hw
    exact (exitOf_arr leg W c w).trans (((leg.dat W c).arrAt_in w (h w rfl) _).trans (leg.A_eq W c w))
  · exact exitOf_of_ne leg W c r fun w e => hw ⟨w, e⟩

/-- No core owes another anything. -/
abbrev levels : GSem nD τ sig → Finset Unit := fun _ => ∅
abbrev levelOf : GSem nD τ sig → Unit → ℕ := fun _ _ => 0

/-- What a core carries beside its buffers: its generator register, and that it owes nothing. -/
abbrev beside (c : Dev nD) : sProp 𝕄 := iprop((∃ r, prngReg c r) ∗ ∃ W, owes (c : Thread nD τ) (0 : CellTallies nD τ sig Unit) W)

/-- Host statements between two calls, as a segment of the run. -/
abbrev hostOf (ops : List (HloOp τ sig (Elt F))) (hsub : ops.Forall fun op => op.bufs ⊆ StableHlo.tcRefs τ sig)
    (hfresh : ops.Forall fun op => op.fresh = ∅) (W : Contents F) :
    Pipeline.HostSeg (Name := ℕ) (U := UR sig nD τ) (pcfgs (F := F)) defs₀ Variants.none levels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

section
variable (legs : (p : Fin 6) → Leg F p) (Ws : Fin 6 → Contents F)

/-- The proof data of all calls, each at the contents it is entered at. -/
abbrev datas : (p : Fin 6) → (c : Dev nD) → Dat τ (Elt F) Unit ℕ (UR sig nD τ) ℕ (Pipeline.pin (pcfgs (F := F)) noTables p) c :=
  fun p c => (legs p).dat (Ws p) c

set_option backward.isDefEq.respectTransparency.types false in
/-- A kernel call as a segment of the run: entered at `Ws p`, left at `exitOf (legs p) (Ws p)`. -/
def regionOf (p : Fin 6) : Pipeline.RegionSeg (pcfgs (F := F)) noTables (datas legs Ws) () defs₀ Variants.none levels levelOf p where
  win := (launchOf p).win.to₀
  block_pos := (launchOf p).block_pos
  stage_whole := (launchOf p).stage_whole
  K := PEmpty
  osem k := k.elim
  ho := Pipeline.OwnSemFacts.none _
  hbody c := (legs p).body (Ws p) c
  hwaits := Pipeline.hwaits_of_owed_zero _ _ _ _ levels levelOf p fun c n => (legs p).owed_eq (Ws p) c n
  pre c := iprop(StableHlo.held (c : Thread nD τ) (Pipeline.ucRefs τ sig) (Ws p c) ∗ beside c)
  post c := iprop(StableHlo.held (c : Thread nD τ) (Pipeline.ucRefs τ sig) (exitOf (legs p) (Ws p) c) ∗ beside c)
  X c := iprop(∃ r, prngReg c r)
  Y c := iprop(∃ r, prngReg c r)
  Z c := Pipeline.unscopedRest (Ix := Unit) (Name := ℕ) (U := UR sig nD τ) (Lvl := ℕ) (cfgs p).spec c (atRefs (Ws p) c)
  hentry c := by
    rw [Pipeline.ownSems0_none]
    have hsplit := Pipeline.arrays_of_unscopedBufs (p := p) (pcfgs (F := F)) noTables (datas legs Ws) (launchOf p).win (launchOf p).arr_whole c
      ((datas legs Ws p c).share_full fun w => (legs p).q_eq (Ws p) c w) (atRefs (Ws p) c) ((legs p).A_eq (Ws p) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((legs p).recorded_eq (Ws p) c _)
      rw [show (datas legs Ws p c).owed 0 = 0 from (legs p).owed_eq (Ws p) c 0]
      iexact HO
    isplitl [Hp]; · iexact Hp
    iexact Hrest
  hin c := by
    iintro ⟨Hp, -, Hr⟩
    iapply ((legs p).start (Ws p) c)
    unfold Pipeline.ΦA
    isplitl [Hr]; · iexact Hr
    iexact Hp
  hout c := by
    rw [Pipeline.ownSems0_none]
    iintro H
    ihave H := ((legs p).finish (Ws p) c) $$ H
    unfold Pipeline.ΦA
    icases H with ⟨Hr, Hp⟩
    isplitl [Hp]; · iexact Hp
    isplitr; · iempintro
    iexact Hr
  hexit c := by
    have hjoin := Pipeline.unscopedBufs_of_arrays (p := p) (pcfgs (F := F)) noTables (Ix := Unit) (Name := ℕ) (U := UR sig nD τ) (Lvl := ℕ)
      (launchOf p).win (launchOf p).arr_whole c (datas legs Ws) ((datas legs Ws p c).share_full fun w => (legs p).q_eq (Ws p) c w)
      (atRefs (Ws p) c) (atRefs (exitOf (legs p) (Ws p)) c) ((datas legs Ws p c).arrAt · (Pipeline.pin (pcfgs (F := F)) noTables p).N)
      (fun w => (exitOf_arr (legs p) (Ws p) c w).symm)
      (fun b hb => exitOf_of_ne (legs p) (Ws p) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (datas legs Ws p c).owed (Fin.last _) = 0 from (legs p).owed_eq (Ws p) c _]
    icases HO with ⟨%W, -, HO⟩; iexists W; iexact HO
end

end Cert.KernelIdeal.Run

end
-- ==== Proof.Mlp.Step.lean ====
/-
  One grid point of the perceptron call, the same for the three levels: the printed bodies differ only in which point
  they take to be the last. `step first last` is that body with the two conditions as parameters; each printed body
  is `step` at its own conditions; `step_spec` says what a point leaves in the accumulator and in the result.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 65536

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The accumulator after a point: what it held, plus the point's block of pooled features times its block of weights. -/
def accStep (acc : Vec F S20x1024 .f32) (x : Vec F S20x896 .f32) (w : Vec F S896x1024 .f32) : Vec F S20x1024 .f32 := k1_pay2 acc x w

/-- The loss summed over the 20 boxes, from the finished accumulator and the remaining operands. -/
def lossOf (acc : Vec F S20x1024 .f32) (b1 : Vec F S1x1024 .f32) (w2 : Vec F S1024x1024 .f32) (b2 : Vec F S1x1024 .f32)
    (w3 : Vec F S1x1024 .f32) (b3 : Elt F .f32) (lab : Vec F S20x1 .f32) : Vec F S1x1 .f32 :=
  k1_pay3 (k1_pay4 acc b1 w2 b2 w3 b3 lab) k1_pay5

/-- The only entry of a one-element array. -/
def at0 : S1.Idx := fun a => ⟨0, by revert a; decide⟩

/-- One grid point: reset the accumulator if `first`, add the point's product, and if `last` finish the loss. -/
def step (first last : BitVec 1) (arg1 : Memref sig .tc .vmem S20x896 .f32) (harg1 : arg1.IsWhole) (arg2 : Memref sig .tc .vmem S896x1024 .f32) (harg2 : arg2.IsWhole)
    (arg3 : Memref sig .tc .vmem S1x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .smem S1 .f32) (harg7 : arg7.IsWhole) (arg8 : Memref sig .tc .vmem S20x1 .f32) (harg8 : arg8.IsWhole)
    (arg9 : Memref sig .tc .vmem S1x1 .f32) (harg9 : arg9.IsWhole) (arg10 : Memref sig .tc .vmem S20x1024 .f32) (harg10 : arg10.IsWhole) :
    Prog (TpuEff nD τ sig (Elt F) Λ₀ .tc) PUnit := do
  if first = 1#1 then do
    let _ : Vec F S20x1024 .f32 ← Prog.lift (.load arg10 (Rect.unit (s := S20x1024) ![0, 0] S20x1024.size inb_S20x1024_S20x1024_0_0).toLoadRect (View.loadsAt_vmem h_S20x1024))
    Prog.lift (.store arg10 (Rect.unit (s := S20x1024) ![0, 0] S20x1024.size inb_S20x1024_S20x1024_0_0) (k1_pay1 (F := F)) Finset.univ (View.stores_vmem_bits_univ h_S20x1024 rfl) (.inl rfl))
    pure ⟨⟩
  else do
    pure ⟨⟩
  let v3 : Vec F S20x1024 .f32 ← Prog.lift (.load arg10 (Rect.unit (s := S20x1024) ![0, 0] S20x1024.size inb_S20x1024_S20x1024_0_0).toLoadRect (View.loadsAt_vmem h_S20x1024))
  let v4 : Vec F S20x896 .f32 ← Prog.lift (.load arg1 (Rect.unit (s := S20x896) ![0, 0] S20x896.size inb_S20x896_S20x896_0_0).toLoadRect (View.loadsAt_vmem h_S20x896))
  let v6 : Vec F S896x1024 .f32 ← Prog.lift (.load arg2 (Rect.unit (s := S896x1024) ![0, 0] S896x1024.size inb_S896x1024_S896x1024_0_0).toLoadRect (View.loadsAt_vmem h_S896x1024))
  let _ : Vec F S20x1024 .f32 ← Prog.lift (.load arg10 (Rect.unit (s := S20x1024) ![0, 0] S20x1024.size inb_S20x1024_S20x1024_0_0).toLoadRect (View.loadsAt_vmem h_S20x1024))
  Prog.lift (.store arg10 (Rect.unit (s := S20x1024) ![0, 0] S20x1024.size inb_S20x1024_S20x1024_0_0) (k1_pay2 v3 v4 v6) Finset.univ (View.stores_vmem_bits_univ h_S20x1024 rfl) (.inl rfl))
  if last = 1#1 then do
    let v15 : Vec F S20x1024 .f32 ← Prog.lift (.load arg10 (Rect.unit (s := S20x1024) ![0, 0] S20x1024.size inb_S20x1024_S20x1024_0_0).toLoadRect (View.loadsAt_vmem h_S20x1024))
    let v16 : Vec F S1x1024 .f32 ← Prog.lift (.load arg3 (Rect.unit (s := S1x1024) ![0, 0] S1x1024.size inb_S1x1024_S1x1024_0_0).toLoadRect (View.loadsAt_vmem h_S1x1024))
    let v22 : Vec F S1024x1024 .f32 ← Prog.lift (.load arg4 (Rect.unit (s := S1024x1024) ![0, 0] S1024x1024.size inb_S1024x1024_S1024x1024_0_0).toLoadRect (View.loadsAt_vmem h_S1024x1024))
    let v24 : Vec F S1x1024 .f32 ← Prog.lift (.load arg5 (Rect.unit (s := S1x1024) ![0, 0] S1x1024.size inb_S1x1024_S1x1024_0_0).toLoadRect (View.loadsAt_vmem h_S1x1024))
    let v30 : Vec F S1x1024 .f32 ← Prog.lift (.load arg6 (Rect.unit (s := S1x1024) ![0, 0] S1x1024.size inb_S1x1024_S1x1024_0_0).toLoadRect (View.loadsAt_vmem h_S1x1024))
    let v36 : Elt F .f32 ← smemLoad arg7 (Rect.unit (s := S1) ![0] S1.size inb_S1_S1_0) numel1_S1 rfl
    let v39 : Vec F S20x1 .f32 ← Prog.lift (.load arg8 (Rect.unit (s := S20x1) ![0, 0] S20x1.size inb_S20x1_S20x1_0_0).toLoadRect (View.loadsAt_vmem h_S20x1))
    let _ : Vec F S1x1 .f32 ← Prog.lift (.load arg9 (Rect.unit (s := S1x1) ![0, 0] S1x1.size inb_S1x1_S1x1_0_0).toLoadRect (View.loadsAt_vmem h_S1x1))
    Prog.lift (.store arg9 (Rect.unit (s := S1x1) ![0, 0] S1x1.size inb_S1x1_S1x1_0_0) (k1_pay3 (k1_pay4 v15 v16 v22 v24 v30 v36 v39) (k1_pay5 (F := F))) Finset.univ (View.stores_vmem_bits_univ h_S1x1 rfl) (.inl rfl))
    pure ⟨⟩
  else do
    pure ⟨⟩
  pure ⟨⟩

/-- Whether the point is the first of the grid, as the bodies compute it. -/
def firstAt (n : ℕ) : BitVec 1 := Scalar.cmpi .ne (Scalar.extui (Scalar.cmpi .eq (BitVec.ofNat 32 n) 0#32) : BitVec 32) 0#32

variable (arg1 : Memref sig .tc .vmem S20x896 .f32) (harg1 : arg1.IsWhole) (arg2 : Memref sig .tc .vmem S896x1024 .f32) (harg2 : arg2.IsWhole)
    (arg3 : Memref sig .tc .vmem S1x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .smem S1 .f32) (harg7 : arg7.IsWhole) (arg8 : Memref sig .tc .vmem S20x1 .f32) (harg8 : arg8.IsWhole)
    (arg9 : Memref sig .tc .vmem S1x1 .f32) (harg9 : arg9.IsWhole) (arg10 : Memref sig .tc .vmem S20x1024 .f32) (harg10 : arg10.IsWhole)

/-- The first level's printed body is `step`. -/
theorem body1_eq (i : grid1.Coords) :
    cc1__mlp_body (F := F) i arg1 harg1 arg2 harg2 arg3 harg3 arg4 harg4 arg5 harg5 arg6 harg6 arg7 harg7 arg8 harg8 arg9 harg9 arg10 harg10 = step (firstAt (i 0).val) (k1_cond2 i) arg1 harg1 arg2 harg2 arg3 harg3 arg4 harg4 arg5 harg5 arg6 harg6 arg7 harg7 arg8 harg8 arg9 harg9 arg10 harg10 := by chain_rfl
/-- The second level's printed body is `step`. -/
theorem body3_eq (i : grid3.Coords) :
    cc3__mlp_body (F := F) i arg1 harg1 arg2 harg2 arg3 harg3 arg4 harg4 arg5 harg5 arg6 harg6 arg7 harg7 arg8 harg8 arg9 harg9 arg10 harg10 = step (firstAt (i 0).val) (k3_cond2 i) arg1 harg1 arg2 harg2 arg3 harg3 arg4 harg4 arg5 harg5 arg6 harg6 arg7 harg7 arg8 harg8 arg9 harg9 arg10 harg10 := by chain_rfl
/-- The third level's printed body is `step`. -/
theorem body5_eq (i : grid5.Coords) :
    cc5__mlp_body (F := F) i arg1 harg1 arg2 harg2 arg3 harg3 arg4 harg4 arg5 harg5 arg6 harg6 arg7 harg7 arg8 harg8 arg9 harg9 arg10 harg10 = step (firstAt (i 0).val) (k5_cond2 i) arg1 harg1 arg2 harg2 arg3 harg3 arg4 harg4 arg5 harg5 arg6 harg6 arg7 harg7 arg8 harg8 arg9 harg9 arg10 harg10 := by chain_rfl

theorem hz2 : (![0, 0] : Fin 2 → Nat) = fun _ => 0 := funext fun a => by fin_cases a <;> rfl
theorem hz1 : (![0] : Fin 1 → Nat) = fun _ => 0 := funext fun a => by fin_cases a; rfl

set_option maxHeartbeats 2000000 in
/-- What one point does to its buffers: the operands stay, the accumulator is advanced (from zeros at the first point),
    the result is the loss at the last point and untouched before it. -/
theorem step_spec (c : Dev nD) (first last : BitVec 1)
    (x1 : Vec F S20x896 .f32) (x2 : Vec F S896x1024 .f32) (x3 : Vec F S1x1024 .f32) (x4 : Vec F S1024x1024 .f32) (x5 : Vec F S1x1024 .f32)
    (x6 : Vec F S1x1024 .f32) (x7 : Vec F S1 .f32) (x8 : Vec F S20x1 .f32) (x9 : Vec F S1x1 .f32) (x10 : Vec F S20x1024 .f32)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (if last = 1#1 then lossOf (accStep (if first = 1#1 then k1_pay1 else x10) x1 x2) x3 x4 x5 x6 (x7 at0) x8 else x9) ∗ owns (c : Thread nD τ) arg10 fullShare (accStep (if first = 1#1 then k1_pay1 else x10) x1 x2)) -∗ K ⟨⟩))
      ⊢ wp frame (wpE (defs₀ (F := F)) Variants.none c none) E (step first last arg1 harg1 arg2 harg2 arg3 harg3 arg4 harg4 arg5 harg5 arg6 harg6 arg7 harg7 arg8 harg8 arg9 harg9 arg10 harg10) K := by
  have r1 : View.readAt (Elt F) arg1.view (Rect.unit (s := S20x896) ![0, 0] S20x896.size inb_S20x896_S20x896_0_0).toLoadRect (harg1.unread x1) = x1 :=
    (View.readAt_full _ _ _).trans (harg1.read_unread _)
  have r2 : View.readAt (Elt F) arg2.view (Rect.unit (s := S896x1024) ![0, 0] S896x1024.size inb_S896x1024_S896x1024_0_0).toLoadRect (harg2.unread x2) = x2 :=
    (View.readAt_full _ _ _).trans (harg2.read_unread _)
  have r3 : View.readAt (Elt F) arg3.view (Rect.unit (s := S1x1024) ![0, 0] S1x1024.size inb_S1x1024_S1x1024_0_0).toLoadRect (harg3.unread x3) = x3 :=
    (View.readAt_full _ _ _).trans (harg3.read_unread _)
  have r4 : View.readAt (Elt F) arg4.view (Rect.unit (s := S1024x1024) ![0, 0] S1024x1024.size inb_S1024x1024_S1024x1024_0_0).toLoadRect (harg4.unread x4) = x4 :=
    (View.readAt_full _ _ _).trans (harg4.read_unread _)
  have r5 : View.readAt (Elt F) arg5.view (Rect.unit (s := S1x1024) ![0, 0] S1x1024.size inb_S1x1024_S1x1024_0_0).toLoadRect (harg5.unread x5) = x5 :=
    (View.readAt_full _ _ _).trans (harg5.read_unread _)
  have r6 : View.readAt (Elt F) arg6.view (Rect.unit (s := S1x1024) ![0, 0] S1x1024.size inb_S1x1024_S1x1024_0_0).toLoadRect (harg6.unread x6) = x6 :=
    (View.readAt_full _ _ _).trans (harg6.read_unread _)
  have r8 : View.readAt (Elt F) arg8.view (Rect.unit (s := S20x1) ![0, 0] S20x1.size inb_S20x1_S20x1_0_0).toLoadRect (harg8.unread x8) = x8 :=
    (View.readAt_full _ _ _).trans (harg8.read_unread _)
  have r10 : View.readAt (Elt F) arg10.view (Rect.unit (s := S20x1024) ![0, 0] S20x1024.size inb_S20x1024_S20x1024_0_0).toLoadRect (harg10.unread x10) = x10 :=
    (View.readAt_full _ _ _).trans (harg10.read_unread _)
  have r7 : View.readAt (Elt F) arg7.view (Rect.unit (s := S1) ![0] S1.size inb_S1_S1_0).toLoadRect (harg7.unread x7) (Shape.Idx.first (by decide)) = x7 at0 :=
    (congrFun ((View.readAt_full _ _ _).trans (harg7.read_unread _)) _).trans (congrArg x7 (funext fun a => by fin_cases a; rfl))
  have rc : ∀ (w : Vec F S20x1024 .f32) (L : List (View.Piece (Elt F) S20x1024 .f32)), arg10.view.readCov (⟨Rect.unit (s := S20x1024) ![0, 0] S20x1024.size inb_S20x1024_S20x1024_0_0, w⟩ :: L)
      (Rect.unit (s := S20x1024) ![0, 0] S20x1024.size inb_S20x1024_S20x1024_0_0).toLoadRect = w := fun w L => View.readCov_full _ _ _ _ _
  unfold step
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
  by_cases hc0 : first = 1#1 <;> by_cases hc1 : last = 1#1
  all_goals
    sl_exec (disch := first | sl_exact hc0 | sl_exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; swap; · iexact H9
      ipureintro
      sl_unfold_words
      first
        | rw [if_neg hc1]; exact harg9.read_unread _
        | rw [if_pos hc1]
          refine (View.read_writes_full _ _ _ _ _).trans ?_
          unfold lossOf accStep
          first | rw [if_pos hc0] | rw [if_neg hc0]
          simp only [rc, r1, r2, r3, r4, r5, r6, r7, r8, r10]
    · iexists _; isplitr; swap; · iexact H10
      ipureintro
      sl_unfold_words
      refine (View.read_writes_full _ _ _ _ _).trans ?_
      unfold accStep
      first | rw [if_pos hc0] | rw [if_neg hc0]
      first | done | rw [r1, r2, rc] | rw [r1, r2, r10]

end Cert.KernelIdeal.Mlp

end
-- ==== Proof.Pool.Vec.lean ====
/-
  The pooling of one box as the three pooling bodies compute it, at a side length `n` and a channel block of `m = 128 n`
  lanes that stay variables: the interpolation matrix of one axis (`interp`), the product with the rows (`rowsOf`), the
  product with the columns (`poolBlock`). The printed bodies are these at n = 80, 40, 20.
-/
module

public import proofs.«01_k».proof.Proof.Mlp.Step
public import Idealize.ShloMosaic.Lib.MatmulPlain
public import Idealize.ShloMosaic.Lib.Pipeline.ValueKit.Tiles
public import Idealize.ShloMosaic.Lib.ValueIdx
public import Idealize.ShloMosaic.Lib.ValueLayout

@[expose] public section

set_option maxRecDepth 65536

noncomputable section

namespace Cert.KernelIdeal.Pool

open Idealize.ShloMosaic Idealize.ShloMosaic.TcCoe Idealize.ShloMosaic.Tactic Idealize.ShloMosaic.ValueIdx
open Cert.KernelIdeal Cert.KernelIdeal.Gen

variable {F : FTy → Type} [FloatOps F]

/-- The shape relations the body states at side length `n` and `m` lanes. -/
structure Facts (n m : ℕ) : Prop where
  rowIota : (⟨2, ![8, n]⟩ : Shape).Iotas .tc 32 [0]
  colIota : (⟨2, ![8, n]⟩ : Shape).Iotas .tc 32 [1]
  dropLead : (⟨3, ![1, n, m]⟩ : Shape).ShapeCasts ⟨2, ![n, m]⟩
  split : (⟨2, ![8, m]⟩ : Shape).ShapeCasts ⟨3, ![8, 128, n]⟩
  same : (⟨3, ![8, 128, n]⟩ : Shape).ShapeCasts ⟨3, ![8, 128, n]⟩
  merge : (⟨3, ![8, 128, n]⟩ : Shape).ShapeCasts ⟨2, ![1024, n]⟩
  turn : (⟨2, ![8, n]⟩ : Shape).Transposes [1, 0] ⟨2, ![n, 8]⟩
  back : (⟨2, ![1024, 8]⟩ : Shape).ShapeCasts ⟨3, ![8, 128, 8]⟩

/-- The width of a bin: a seventh of the box's extent, which is taken to be at least one. -/
def bin (lo hi : F .f32) : F .f32 :=
  Scalar.divf (Scalar.maximumf (Scalar.subf hi lo) (Scalar.ofBits .f32 0x3F800000#32)) (Scalar.ofBits .f32 0x40E00000#32)

section
variable {n m : ℕ} (hf : Facts n m)

/-- The row number of each entry. -/
def rowNo : FVec F ⟨2, ![8, n]⟩ .f32 := sitofp .f32 (iota .tc ⟨2, ![8, n]⟩ 32 [0] hf.rowIota)
/-- The column number of each entry. -/
def colNo : FVec F ⟨2, ![8, n]⟩ .f32 := sitofp .f32 (iota .tc ⟨2, ![8, n]⟩ 32 [1] hf.colIota)

/-- The clipped sample position at offset `off` inside each bin. -/
def samplePos (top off : BitVec 32) (lo w : F .f32) : FVec F ⟨2, ![8, n]⟩ .f32 :=
  minimumf (broadcast _ (Scalar.ofBits .f32 top)) (maximumf (broadcast _ (Scalar.ofBits .f32 0x00000000#32))
    (addf (broadcast _ lo) (mulf (addf (rowNo hf) (broadcast _ (Scalar.ofBits .f32 off))) (broadcast _ w))))

/-- `acc` plus the two weights of one sample: `1 - frac` at the floor and `frac` at its successor. -/
def addTap (top : BitVec 32) (pos acc : FVec F ⟨2, ![8, n]⟩ .f32) : FVec F ⟨2, ![8, n]⟩ .f32 :=
  addf (addf acc (select (cmpf .oeq (colNo hf) (floor pos))
      (subf (broadcast _ (Scalar.ofBits .f32 0x3F800000#32)) (subf pos (floor pos))) (broadcast _ (Scalar.ofBits .f32 0x00000000#32))))
    (select (cmpf .oeq (colNo hf) (minimumf (addf (floor pos) (broadcast _ (Scalar.ofBits .f32 0x3F800000#32))) (broadcast _ (Scalar.ofBits .f32 top))))
      (subf pos (floor pos)) (broadcast _ (Scalar.ofBits .f32 0x00000000#32)))

/-- The interpolation matrix of one axis: the mean of the weights of the two samples of each bin. -/
def interp (top : BitVec 32) (lo w : F .f32) : FVec F ⟨2, ![8, n]⟩ .f32 :=
  mulf (addTap hf top (samplePos hf top 0x3F400000#32 lo w)
      (addTap hf top (samplePos hf top 0x3E800000#32 lo w) (broadcast _ (Scalar.ofBits .f32 0x00000000#32))))
    (broadcast _ (Scalar.ofBits .f32 0x3F000000#32))

/-- The rows of the block combined by the matrix of the vertical axis. -/
def rowsOf (A : FVec F ⟨2, ![8, n]⟩ .f32) (blk : Vec F ⟨3, ![1, n, m]⟩ .f32) : FVec F ⟨3, ![8, 128, n]⟩ .f32 :=
  shapeCast ⟨3, ![8, 128, n]⟩ (shapeCast ⟨3, ![8, 128, n]⟩ (matmul (DotDims.plain 8 n m) none A
    (shapeCast ⟨2, ![n, m]⟩ blk hf.dropLead : FVec F ⟨2, ![n, m]⟩ .f32) (constant ⟨2, ![8, m]⟩ .f32 0x00000000#32)) hf.split) hf.same

/-- The columns combined by the matrix of the horizontal axis. -/
def colsOf (B : FVec F ⟨2, ![8, n]⟩ .f32) (u : Vec F ⟨3, ![8, 128, n]⟩ .f32) : FVec F ⟨3, ![8, 128, 8]⟩ .f32 :=
  shapeCast ⟨3, ![8, 128, 8]⟩ (matmul (DotDims.plain 1024 n 8) none (shapeCast ⟨2, ![1024, n]⟩ u hf.merge : FVec F ⟨2, ![1024, n]⟩ .f32)
    (transpose ⟨2, ![n, 8]⟩ [1, 0] B hf.turn) (constant ⟨2, ![1024, 8]⟩ .f32 0x00000000#32)) hf.back

/-- The pooled values of one box in one block of 128 channels: entry (oy, c, ox). -/
def poolBlock (top : BitVec 32) (x1 y1 x2 y2 : F .f32) (blk : Vec F ⟨3, ![1, n, m]⟩ .f32) : FVec F ⟨3, ![8, 128, 8]⟩ .f32 :=
  colsOf hf (interp hf top x1 (bin x1 x2)) (rowsOf hf (interp hf top y1 (bin y1 y2)) blk)
end

theorem facts80 : Facts 80 10240 where
  rowIota := iota_S8x80_d0_w32
  colIota := iota_S8x80_d1_w32
  dropLead := shapeCasts_S1x80x10240_S80x10240
  split := shapeCasts_S8x10240_S8x128x80
  same := shapeCasts_S8x128x80_S8x128x80
  merge := shapeCasts_S8x128x80_S1024x80
  turn := transposes_S8x80_p1_0_S80x8
  back := shapeCasts_S1024x8_S8x128x8
theorem facts40 : Facts 40 5120 where
  rowIota := iota_S8x40_d0_w32
  colIota := iota_S8x40_d1_w32
  dropLead := shapeCasts_S1x40x5120_S40x5120
  split := shapeCasts_S8x5120_S8x128x40
  same := shapeCasts_S8x128x40_S8x128x40
  merge := shapeCasts_S8x128x40_S1024x40
  turn := transposes_S8x40_p1_0_S40x8
  back := shapeCasts_S1024x8_S8x128x8
theorem facts20 : Facts 20 2560 where
  rowIota := iota_S8x20_d0_w32
  colIota := iota_S8x20_d1_w32
  dropLead := shapeCasts_S1x20x2560_S20x2560
  split := shapeCasts_S8x2560_S8x128x20
  same := shapeCasts_S8x128x20_S8x128x20
  merge := shapeCasts_S8x128x20_S1024x20
  turn := transposes_S8x20_p1_0_S20x8
  back := shapeCasts_S1024x8_S8x128x8

/-- The entry of the boxes array at an offset, as the scalar loads read it. -/
def boxAt (b : Vec F S4x5x4 .f32) (off : Fin 3 → ℕ) (inb : ∀ a, off a + S1x1x1.size a ≤ S4x5x4.size a) : F .f32 :=
  View.ld b (Rect.unit (s := S4x5x4) off S1x1x1.size inb) (Shape.Idx.first (s := S1x1x1) (by decide))

/-- The lanes `m * cb, …` of a block of features: the `cb`-th group of 128 channels. -/
def chunk (n m : ℕ) (f : Vec F ⟨3, ![1, n, 10240]⟩ .f32) (cb : ℕ) : Vec F ⟨3, ![1, n, m]⟩ .f32 := fun x =>
  f (ix3 0 ⟨(x 1).val, (x 1).isLt⟩ ⟨(m * cb + (x 2).val) % 10240, Nat.mod_lt _ (by decide)⟩)

theorem ix3_congr {a b c : ℕ} {i i' : Fin a} {j j' : Fin b} {k k' : Fin c} (hi : i = i') (hj : j = j') (hk : k = k') : ix3 i j k = ix3 i' j' k' := by
  subst hi; subst hj; subst hk; rfl

/-- Loading one group of lanes of a buffer reads that group of the buffer's value. -/
theorem readAt_eq_chunk (n m cb : ℕ) {κ : Kind} {sp : Space} {v : View sig κ sp ⟨3, ![1, n, 10240]⟩ .f32} {g} (f : Vec F ⟨3, ![1, n, 10240]⟩ .f32)
    (inb : ∀ a, (![0, 0, m * cb] : Fin 3 → ℕ) a + (⟨3, ![1, n, m]⟩ : Shape).size a ≤ (⟨3, ![1, n, 10240]⟩ : Shape).size a) (hg : v.read (Elt F) g = f) :
    View.readAt (Elt F) v (Rect.unit (s := ⟨3, ![1, n, 10240]⟩) ![0, 0, m * cb] (⟨3, ![1, n, m]⟩ : Shape).size inb).toLoadRect g = chunk n m f cb := by
  subst hg
  funext x
  show v.read (Elt F) g _ = v.read (Elt F) g _
  have h0 : (x 0).val = 0 := by have : (x 0).val < 1 := (x 0).isLt; omega
  have h2 : (x 2).val < m := (x 2).isLt
  have hb : m * cb + m ≤ 10240 := inb 2
  congr 1
  funext a
  refine Fin.ext ?_
  match a with
  | ⟨0, _⟩ => show 0 + 1 * (x 0).val = 0; omega
  | ⟨1, _⟩ => show 0 + 1 * (x 1).val = (x 1).val; omega
  | ⟨2, _⟩ =>
    show m * cb + 1 * (x 2).val = (m * cb + (x 2).val) % 10240
    rw [Nat.mod_eq_of_lt (by omega)]; omega

/-- One row of a pooled block, cast to two axes and back, is that row. -/
theorem row_apply (oy : ℕ) (hoy : oy < 8) (V : FVec F S8x128x8 .f32) (h1 : S8x128x8.Slices ![oy, 0, 0] S1x128x7)
    (h2 : S1x128x7.ShapeCasts S128x7) (h3 : S128x7.ShapeCasts S1x128x7) (x : S1x128x7.Idx) :
    shapeCast S1x128x7 (shapeCast S128x7 (extractStridedSlice S1x128x7 ![oy, 0, 0] V h1) h2) h3 x
      = V (ix3 ⟨oy, hoy⟩ ⟨(x 1).val, (x 1).isLt⟩ ⟨(x 2).val, lt_trans (x 2).isLt (by decide)⟩) := by
  rw [shapeCast_apply _ h3 x (ix2 ⟨(x 1).val, (x 1).isLt⟩ ⟨(x 2).val, (x 2).isLt⟩) (by
      have h0 : (x 0).val = 0 := by have : (x 0).val < 1 := (x 0).isLt; omega
      rw [Shape.rowMajor_val_two, Shape.rowMajor_val_three, h0]
      show (x 1).val * 7 + (x 2).val = (0 * 128 + (x 1).val) * 7 + (x 2).val
      omega),
    shapeCast_1ab_ab_apply]
  exact extractStridedSlice_apply _ V h1 _ _ fun a => by
    match a with
    | ⟨0, _⟩ => rfl
    | ⟨1, _⟩ => exact (Nat.zero_add _).symm
    | ⟨2, _⟩ => exact (Nat.zero_add _).symm

/-- A pooled block assembled into rows of 49: entry (0, c, 7 oy + ox) is the block's (oy, c, ox). -/
def assemble (C : ℕ) (V : ℕ → FVec F S8x128x8 .f32) : Vec F ⟨3, ![1, C, 49]⟩ .f32 := fun y =>
  V ((y 1).val / 128) (ix3 ⟨(y 2).val / 7, by have : (y 2).val < 49 := (y 2).isLt; omega⟩ ⟨(y 1).val % 128, Nat.mod_lt _ (by decide)⟩
    ⟨(y 2).val % 7, lt_trans (Nat.mod_lt _ (by decide)) (by decide : 7 < 8)⟩)

/-- An entry of the assembled rows, from the row and the block it was stored in. -/
theorem assemble_at (C : ℕ) (V : ℕ → FVec F S8x128x8 .f32) (cb oy : ℕ) (hoy : oy < 8) (y : (⟨3, ![1, C, 49]⟩ : Shape).Idx) (x : S1x128x7.Idx)
    (hx : ∀ a : Fin 3, (y a : ℕ) = (![0, 128 * cb, 7 * oy] : Fin 3 → ℕ) a + x a) :
    V cb (ix3 ⟨oy, hoy⟩ ⟨(x 1).val, (x 1).isLt⟩ ⟨(x 2).val, lt_trans (x 2).isLt (by decide)⟩) = assemble C V y := by
  have h1 : (y 1).val = 128 * cb + (x 1).val := hx 1
  have h2 : (y 2).val = 7 * oy + (x 2).val := hx 2
  have l1 : (x 1).val < 128 := (x 1).isLt
  have l2 : (x 2).val < 7 := (x 2).isLt
  unfold assemble
  rw [show (y 1).val / 128 = cb by omega]
  congr 1
  refine ix3_congr ?_ ?_ ?_ <;> exact Fin.ext (by simp only; omega)

end Cert.KernelIdeal.Pool

end
-- ==== Proof.Pool.Body0.lean ====
/- The first level's pooling body: what one grid point leaves in its buffers. -/
module

public import proofs.«01_k».proof.Proof.Pool.Vec

@[expose] public section

set_option maxRecDepth 65536

noncomputable section

namespace Cert.KernelIdeal.Pool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The pooled block of the first level at a grid point, from the boxes and the image's features. -/
def block0 (i : grid0.Coords) (b : Vec F S4x5x4 .f32) (f : Vec F S1x80x10240 .f32) : ℕ → FVec F S8x128x8 .f32 := fun _ =>
  poolBlock facts80 0x429E0000#32 (boxAt b _ (k0_off1_inb i)) (boxAt b _ (k0_off2_inb i)) (boxAt b _ (k0_off3_inb i)) (boxAt b _ (k0_off4_inb i)) f

/-- The pooled block of the first level as the body's statements spell it. -/
def raw0 (v2 v5 v8 v11 : F .f32) (f : Vec F S1x80x10240 .f32) : FVec F S8x128x8 .f32 :=
  k0_pay23 (k0_pay21 v2 (k0_pay5 v2 v8) k0_pay17 k0_pay18 k0_pay19 (k0_pay20 v2 (k0_pay5 v2 v8)) (Scalar.ofBits .f32 0x00000000#32) (Scalar.ofBits .f32 0x429E0000#32))
    (Scalar.ofBits .f32 0x3F000000#32)
    (k0_pay22 (k0_pay16 v5 (k0_pay6 v5 v11) k0_pay7 k0_pay8 k0_pay9 (k0_pay12 v5 v11) (k0_pay13 v5 v11) (k0_pay14 v5 v11) (k0_pay15 v5 v11) (Scalar.ofBits .f32 0x00000000#32)) f)

theorem raw0_eq (v2 v5 v8 v11 : F .f32) (f : Vec F S1x80x10240 .f32) : raw0 v2 v5 v8 v11 f = poolBlock facts80 0x429E0000#32 v2 v5 v8 v11 f := rfl

/-- What the first level's body leaves in its result window. -/
def out0 (i : grid0.Coords) (b : Vec F S4x5x4 .f32) (f : Vec F S1x80x10240 .f32) : Vec F S1x128x49 .f32 := assemble 128 (block0 i b f)

set_option maxHeartbeats 2000000 in
theorem body0_spec (c : Dev nD) (i : grid0.Coords) (arg2 : Memref sig .tc .smem S4x5x4 .f32) (harg2 : arg2.IsWhole)
    (arg3 : Memref sig .tc .vmem S1x80x10240 .f32) (harg3 : arg3.IsWhole) (arg4 : Memref sig .tc .vmem S1x128x49 .f32) (harg4 : arg4.IsWhole)
    (arg5 : Memref sig .tc .vmem S8x128x80 .f32) (harg5 : arg5.IsWhole) (x0 : Vec F S4x5x4 .f32) (x1 : Vec F S1x80x10240 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0 i x0 x1) ∗ (∃ d, owns (c : Thread nD τ) arg5 fullShare d)) -∗ K ⟨⟩))
      ⊢ wp frame (wpE (defs₀ (F := F)) Variants.none c none) E (cc0__roialign_body i arg2 harg2 arg3 harg3 arg4 harg4 arg5 harg5) K := by
  simp only [cc0__roialign_body_eq_skeleton]; unfold cc0__roialign_body_skel
  simp only [k0_part1_eq_skeleton, k0_part2_eq_skeleton, k0_part3_eq_skeleton, k0_part4_eq_skeleton]
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  have hV : raw0 (boxAt (arg2.view.read (Elt F) (harg2.unread x0)) _ (k0_off1_inb i)) (boxAt (arg2.view.read (Elt F) (harg2.unread x0)) _ (k0_off2_inb i))
      (boxAt (arg2.view.read (Elt F) (harg2.unread x0)) _ (k0_off3_inb i)) (boxAt (arg2.view.read (Elt F) (harg2.unread x0)) _ (k0_off4_inb i))
      (View.readAt (Elt F) arg3.view (Rect.unit (s := S1x80x10240) ![0, 0, 0] S1x80x10240.size inb_S1x80x10240_S1x80x10240_0_0_0).toLoadRect (harg3.unread x1)) = block0 i x0 x1 0 := by
    rw [View.readAt_full, harg2.read_unread, harg3.read_unread, raw0_eq]; rfl
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    rw [View.readCov_full]
    refine (View.read_writes_eq_canon _ _ _ (View.cover_of_tiled_head _ _ _ (by sl_kernel_rfl))).trans (funext fun y =>
      View.canon_eq_of_allAt _ y _ (View.cover_of_tiled_head _ _ _ (by sl_kernel_rfl) y) ?_)
    have e : ∀ (oy : ℕ) (hoy : oy < 8) (x : S1x128x7.Idx), (∀ a : Fin 3, (y a : ℕ) = (![0, 0, 7 * oy] : Fin 3 → ℕ) a + x a) →
        block0 i x0 x1 0 (ix3 ⟨oy, hoy⟩ ⟨(x 1).val, (x 1).isLt⟩ ⟨(x 2).val, lt_trans (x 2).isLt (by decide)⟩) = out0 i x0 x1 y :=
      fun oy hoy x hx => assemble_at 128 _ 0 oy hoy y x hx
    rw [← hV] at e
    refine View.allAt_cons_unit _ _ _ _ _ (fun x hx => ?_) ?_
    · exact (row_apply 6 (of_decide_eq_true rfl) _ slices_S8x128x8_o6_0_0_S1x128x7 shapeCasts_S1x128x7_S128x7 shapeCasts_S128x7_S1x128x7 x).trans (e 6 (of_decide_eq_true rfl) x hx)
    refine View.allAt_cons_unit _ _ _ _ _ (fun x hx => ?_) ?_
    · exact (row_apply 5 (of_decide_eq_true rfl) _ slices_S8x128x8_o5_0_0_S1x128x7 shapeCasts_S1x128x7_S128x7 shapeCasts_S128x7_S1x128x7 x).trans (e 5 (of_decide_eq_true rfl) x hx)
    refine View.allAt_cons_unit _ _ _ _ _ (fun x hx => ?_) ?_
    · exact (row_apply 4 (of_decide_eq_true rfl) _ slices_S8x128x8_o4_0_0_S1x128x7 shapeCasts_S1x128x7_S128x7 shapeCasts_S128x7_S1x128x7 x).trans (e 4 (of_decide_eq_true rfl) x hx)
    refine View.allAt_cons_unit _ _ _ _ _ (fun x hx => ?_) ?_
    · exact (row_apply 3 (of_decide_eq_true rfl) _ slices_S8x128x8_o3_0_0_S1x128x7 shapeCasts_S1x128x7_S128x7 shapeCasts_S128x7_S1x128x7 x).trans (e 3 (of_decide_eq_true rfl) x hx)
    refine View.allAt_cons_unit _ _ _ _ _ (fun x hx => ?_) ?_
    · exact (row_apply 2 (of_decide_eq_true rfl) _ slices_S8x128x8_o2_0_0_S1x128x7 shapeCasts_S1x128x7_S128x7 shapeCasts_S128x7_S1x128x7 x).trans (e 2 (of_decide_eq_true rfl) x hx)
    refine View.allAt_cons_unit _ _ _ _ _ (fun x hx => ?_) ?_
    · exact (row_apply 1 (of_decide_eq_true rfl) _ slices_S8x128x8_o1_0_0_S1x128x7 shapeCasts_S1x128x7_S128x7 shapeCasts_S128x7_S1x128x7 x).trans (e 1 (of_decide_eq_true rfl) x hx)
    refine View.allAt_cons_unit _ _ _ _ _ (fun x hx => ?_) ?_
    · exact (row_apply 0 (of_decide_eq_true rfl) _ slices_S8x128x8_o0_0_0_S1x128x7 shapeCasts_S1x128x7_S128x7 shapeCasts_S128x7_S1x128x7 x).trans (e 0 (of_decide_eq_true rfl) x hx)
    exact View.allAt_nil _ _
  iexists _; iexists _; isplitr; swap; · iexact HS0
  ipureintro; rfl

end Cert.KernelIdeal.Pool

end
-- ==== Proof.Run.Pool0.lean ====
/- The first level's pooling call: its blocks, its proof data and its body at a grid point. -/
module

public import proofs.«01_k».proof.Proof.Run.Kit
public import proofs.«01_k».proof.Proof.Pool.Body0

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The block of a window at a point, in the array as the call finds it. -/
def blk0 (W : Contents F) (c : Dev nD) (w : Fin cfg0.W) (t : Fin cfg0.N) : ((cfg0.win w).xblock (cfg0.grid.coords t)).Idx → Elt F (cfg0.win w).elt :=
  ((cfg0.win w).blk t).view.read (Elt F) (atRefs W c (Pipeline.arrRef spec0 w))

/-- The proof data: the inputs' blocks stay, the result's block is the body's value. -/
def dat0 (W : Contents F) (c : Dev nD) : Dat τ (Elt F) Unit ℕ (UR sig nD τ) ℕ cfg0 c where
  A w := W c (Pipeline.arrRef spec0 w)
  after w t := match w with
    | ⟨0, _⟩ => blk0 W c 0 t
    | ⟨1, _⟩ => blk0 W c 1 t
    | ⟨2, _⟩ => Pool.out0 (grid0.coords t) (blk0 W c 0 t) (blk0 W c 1 t)
  Φ _ := Pipeline.ΦA spec0 c
  q _ := fullShare
  owed _ := 0

variable (W : Contents F) (c : Dev nD)

theorem dat0_A (w : Fin cfg0.W) : (dat0 W c).A w = W c (Pipeline.arrRef spec0 w) := by dsimp only [dat0]
theorem dat0_after_0 (t : Fin cfg0.N) : (dat0 W c).after 0 t = blk0 W c 0 t := by dsimp only [dat0]
theorem dat0_after_1 (t : Fin cfg0.N) : (dat0 W c).after 1 t = blk0 W c 1 t := by dsimp only [dat0]
theorem dat0_after_2 (t : Fin cfg0.N) : (dat0 W c).after 2 t = Pool.out0 (grid0.coords t) (blk0 W c 0 t) (blk0 W c 1 t) := by dsimp only [dat0]

theorem dat0_before_0 (t : Fin cfg0.N) (d) : (dat0 W c).before 0 t d = blk0 W c 0 t :=
  ((dat0 W c).before_in_eq_fetched 0 rfl (fun _ => rfl) (fun _ _ _ => rfl)
    (fun t => by rw [dat0_after_0]; unfold Dat.blockOf blk0; rw [dat0_A]) t d).trans
    (by unfold Dat.fetched Dat.blockOf blk0; rw [dat0_A]; rfl)
theorem dat0_before_1 (t : Fin cfg0.N) (d) : (dat0 W c).before 1 t d = blk0 W c 1 t :=
  ((dat0 W c).before_in_eq_fetched 1 rfl (fun _ => rfl) (fun _ _ _ => rfl)
    (fun t => by rw [dat0_after_1]; unfold Dat.blockOf blk0; rw [dat0_A]) t d).trans
    (by unfold Dat.fetched Dat.blockOf blk0; rw [dat0_A]; rfl)

/-- The body at any point takes the windows' blocks to the proof data's. -/
theorem sound0 (t : Fin cfg0.N) :
    iprop((dat0 W c).Φ t.castSucc ∗ (dat0 W c).owesAt () t.castSucc
      ∗ (∃ d, owns (c : Thread nD τ) (win0_0.stage (cfg0.slots t 0)) fullShare ((dat0 W c).before 0 t d))
      ∗ (∃ d, owns (c : Thread nD τ) (win0_1.stage (cfg0.slots t 1)) fullShare ((dat0 W c).before 1 t d))
      ∗ (∃ d, owns (c : Thread nD τ) (win0_2.stage (cfg0.slots t 2)) fullShare ((dat0 W c).before 2 t d)))
    ⊢ wp frame (wpE (defs₀ (F := F)) Variants.none c none) Set.univ (bodyAt0 t) (fun _ => iprop((dat0 W c).Φ t.succ ∗ (dat0 W c).owesAt () t.succ
      ∗ owns (c : Thread nD τ) (win0_0.stage (cfg0.slots t 0)) fullShare ((dat0 W c).after 0 t)
      ∗ owns (c : Thread nD τ) (win0_1.stage (cfg0.slots t 1)) fullShare ((dat0 W c).after 1 t)
      ∗ owns (c : Thread nD τ) (win0_2.stage (cfg0.slots t 2)) fullShare ((dat0 W c).after 2 t))) := by
  unfold bodyAt0
  simp only [dat0_before_0, dat0_before_1]
  rw [show (dat0 W c).Φ t.succ = Pipeline.ΦA spec0 c from rfl, show (dat0 W c).owesAt () t.succ = (dat0 W c).owesAt () t.castSucc from rfl,
    dat0_after_0, dat0_after_1, dat0_after_2, show (dat0 W c).Φ t.castSucc = Pipeline.ΦA spec0 c from rfl]
  unfold Pipeline.ΦA
  rw [scopedRest0_split]
  simp only [← owns_whole]
  iintro ⟨⟨⟨HS, HR⟩, Hg⟩, Ho, ⟨%d0, H0⟩, ⟨%d1, H1⟩, ⟨%d2, H2⟩⟩
  iapply (Pool.body0_spec c (grid0.coords t) _ _ _ _ _ _ _ _ (blk0 W c 0 t) (blk0 W c 1 t) Set.univ _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

theorem defs0_at (t : Fin cfg0.N) : defs₀ (F := F) .tc cfg0.body (cfg0.bodyArgs t (cfg0.slots t)) = bodyAt0 t := by
  unfold defs₀; rw [Defs.onTc_tc]

theorem obligation0 : BodyObligation (dat0 (F := F) W c) (defs₀ (F := F)) Variants.none () Set.univ := fun t => by
  rw [bigSep_W0, bigSep_W0, defs0_at]
  exact triple_restated (sound0 W c t) rfl .rfl fun _ => .rfl

/-- The first level's pooling call. -/
def leg0 : Leg F 0 where
  dat W c := dat0 W c
  A_eq W c w := dat0_A W c w
  q_eq _ _ _ := rfl
  owed_eq _ _ _ := rfl
  recorded_eq _ _ _ := trivial
  body W c := (obligation0 W c).loose
  start _ _ := .rfl
  finish _ _ := .rfl

end Cert.KernelIdeal.Run

end
-- ==== Proof.Run.Mlp1.lean ====
/- The first level's perceptron call: its blocks, its accumulator point by point, its proof data and its body at a grid point. -/
module

public import proofs.«01_k».proof.Proof.Run.Kit
public import proofs.«01_k».proof.Proof.Mlp.Step

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The block of a window at a point, in the array as the call finds it. -/
def blk1 (W : Contents F) (c : Dev nD) (w : Fin cfg1.W) (t : Fin cfg1.N) : ((cfg1.win w).xblock (cfg1.grid.coords t)).Idx → Elt F (cfg1.win w).elt :=
  ((cfg1.win w).blk t).view.read (Elt F) (atRefs W c (Pipeline.arrRef spec1 w))

/-- The accumulator before point `n`: zeros, then one block product more at each point. -/
def acc1 (W : Contents F) (c : Dev nD) : ℕ → Vec F S20x1024 .f32
  | 0 => k1_pay1
  | n + 1 => if h : n < cfg1.N then Mlp.accStep (acc1 W c n) (blk1 W c 0 ⟨n, h⟩) (blk1 W c 1 ⟨n, h⟩) else acc1 W c n

/-- The accumulator's buffer. -/
abbrev scratch1 : Memref sig .tc .vmem S20x1024 .f32 := Memref.whole cc1_scratch0

/-- What holds between points: the accumulator is `acc1` (anything before the first point). -/
def between1 (W : Contents F) (c : Dev nD) (n : ℕ) : sProp 𝕄 :=
  iprop(((∃ d, ⌜n ≠ 0 → d = acc1 W c n⌝ ∗ owns (c : Thread nD τ) scratch1 fullShare d)
    ∗ Pipeline.scopedRestBut (Ix := Unit) (Name := ℕ) (U := UR sig nD τ) (Lvl := ℕ) (Val := Elt F) spec1 c [cc1_scratch0]) ∗ (∃ r, prngReg c r))

/-- The proof data: the operands' blocks stay, the result is the loss of the accumulator so far. -/
def dat1 (W : Contents F) (c : Dev nD) : Dat τ (Elt F) Unit ℕ (UR sig nD τ) ℕ cfg1 c where
  A w := W c (Pipeline.arrRef spec1 w)
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => blk1 W c 7 t
    | ⟨8, _⟩ => Mlp.lossOf (acc1 W c (t.val + 1)) (blk1 W c 2 t) (blk1 W c 3 t) (blk1 W c 4 t) (blk1 W c 5 t) (blk1 W c 6 t Mlp.at0) (blk1 W c 7 t)
  Φ t := between1 W c t.val
  q _ := fullShare
  owed _ := 0

variable (W : Contents F) (c : Dev nD)

theorem dat1_A (w : Fin cfg1.W) : (dat1 W c).A w = W c (Pipeline.arrRef spec1 w) := by dsimp only [dat1]
theorem dat1_after_0 (t : Fin cfg1.N) : (dat1 W c).after 0 t = blk1 W c 0 t := by dsimp only [dat1]
theorem dat1_after_1 (t : Fin cfg1.N) : (dat1 W c).after 1 t = blk1 W c 1 t := by dsimp only [dat1]
theorem dat1_after_2 (t : Fin cfg1.N) : (dat1 W c).after 2 t = blk1 W c 2 t := by dsimp only [dat1]
theorem dat1_after_3 (t : Fin cfg1.N) : (dat1 W c).after 3 t = blk1 W c 3 t := by dsimp only [dat1]
theorem dat1_after_4 (t : Fin cfg1.N) : (dat1 W c).after 4 t = blk1 W c 4 t := by dsimp only [dat1]
theorem dat1_after_5 (t : Fin cfg1.N) : (dat1 W c).after 5 t = blk1 W c 5 t := by dsimp only [dat1]
theorem dat1_after_6 (t : Fin cfg1.N) : (dat1 W c).after 6 t = blk1 W c 6 t := by dsimp only [dat1]
theorem dat1_after_7 (t : Fin cfg1.N) : (dat1 W c).after 7 t = blk1 W c 7 t := by dsimp only [dat1]
theorem dat1_before_0 (t : Fin cfg1.N) (d) : (dat1 W c).before 0 t d = blk1 W c 0 t :=
  ((dat1 W c).before_in_eq_fetched 0 rfl (fun _ => rfl) (fun _ _ _ => rfl)
    (fun t => by rw [dat1_after_0]; unfold Dat.blockOf blk1; rw [dat1_A]) t d).trans
    (by unfold Dat.fetched Dat.blockOf blk1; rw [dat1_A]; rfl)
theorem dat1_before_1 (t : Fin cfg1.N) (d) : (dat1 W c).before 1 t d = blk1 W c 1 t :=
  ((dat1 W c).before_in_eq_fetched 1 rfl (fun _ => rfl) (fun _ _ _ => rfl)
    (fun t => by rw [dat1_after_1]; unfold Dat.blockOf blk1; rw [dat1_A]) t d).trans
    (by unfold Dat.fetched Dat.blockOf blk1; rw [dat1_A]; rfl)
theorem dat1_before_2 (t : Fin cfg1.N) (d) : (dat1 W c).before 2 t d = blk1 W c 2 t :=
  ((dat1 W c).before_in_eq_fetched 2 rfl (fun _ => rfl) (fun _ _ _ => rfl)
    (fun t => by rw [dat1_after_2]; unfold Dat.blockOf blk1; rw [dat1_A]) t d).trans
    (by unfold Dat.fetched Dat.blockOf blk1; rw [dat1_A]; rfl)
theorem dat1_before_3 (t : Fin cfg1.N) (d) : (dat1 W c).before 3 t d = blk1 W c 3 t :=
  ((dat1 W c).before_in_eq_fetched 3 rfl (fun _ => rfl) (fun _ _ _ => rfl)
    (fun t => by rw [dat1_after_3]; unfold Dat.blockOf blk1; rw [dat1_A]) t d).trans
    (by unfold Dat.fetched Dat.blockOf blk1; rw [dat1_A]; rfl)
theorem dat1_before_4 (t : Fin cfg1.N) (d) : (dat1 W c).before 4 t d = blk1 W c 4 t :=
  ((dat1 W c).before_in_eq_fetched 4 rfl (fun _ => rfl) (fun _ _ _ => rfl)
    (fun t => by rw [dat1_after_4]; unfold Dat.blockOf blk1; rw [dat1_A]) t d).trans
    (by unfold Dat.fetched Dat.blockOf blk1; rw [dat1_A]; rfl)
theorem dat1_before_5 (t : Fin cfg1.N) (d) : (dat1 W c).before 5 t d = blk1 W c 5 t :=
  ((dat1 W c).before_in_eq_fetched 5 rfl (fun _ => rfl) (fun _ _ _ => rfl)
    (fun t => by rw [dat1_after_5]; unfold Dat.blockOf blk1; rw [dat1_A]) t d).trans
    (by unfold Dat.fetched Dat.blockOf blk1; rw [dat1_A]; rfl)
theorem dat1_before_6 (t : Fin cfg1.N) (d) : (dat1 W c).before 6 t d = blk1 W c 6 t :=
  ((dat1 W c).before_in_eq_fetched 6 rfl (fun _ => rfl) (fun _ _ _ => rfl)
    (fun t => by rw [dat1_after_6]; unfold Dat.blockOf blk1; rw [dat1_A]) t d).trans
    (by unfold Dat.fetched Dat.blockOf blk1; rw [dat1_A]; rfl)
theorem dat1_before_7 (t : Fin cfg1.N) (d) : (dat1 W c).before 7 t d = blk1 W c 7 t :=
  ((dat1 W c).before_in_eq_fetched 7 rfl (fun _ => rfl) (fun _ _ _ => rfl)
    (fun t => by rw [dat1_after_7]; unfold Dat.blockOf blk1; rw [dat1_A]) t d).trans
    (by unfold Dat.fetched Dat.blockOf blk1; rw [dat1_A]; rfl)
/-- An operand's buffer is handed back holding its block. -/
theorem dat1_leaves_0 (t : Fin cfg1.N) : (dat1 W c).leavesExact 0 t = owns (c : Thread nD τ) (win1_0.stage (cfg1.slots t 0)) fullShare (blk1 W c 0 t) := by
  unfold Dat.leavesExact; rw [show cfg1.idle 0 (grid1.coords t) = false from rfl, dat1_after_0]
theorem dat1_leaves_1 (t : Fin cfg1.N) : (dat1 W c).leavesExact 1 t = owns (c : Thread nD τ) (win1_1.stage (cfg1.slots t 1)) fullShare (blk1 W c 1 t) := by
  unfold Dat.leavesExact; rw [show cfg1.idle 1 (grid1.coords t) = false from rfl, dat1_after_1]
theorem dat1_leaves_2 (t : Fin cfg1.N) : (dat1 W c).leavesExact 2 t = owns (c : Thread nD τ) (win1_2.stage (cfg1.slots t 2)) fullShare (blk1 W c 2 t) := by
  unfold Dat.leavesExact; rw [show cfg1.idle 2 (grid1.coords t) = false from rfl, dat1_after_2]
theorem dat1_leaves_3 (t : Fin cfg1.N) : (dat1 W c).leavesExact 3 t = owns (c : Thread nD τ) (win1_3.stage (cfg1.slots t 3)) fullShare (blk1 W c 3 t) := by
  unfold Dat.leavesExact; rw [show cfg1.idle 3 (grid1.coords t) = false from rfl, dat1_after_3]
theorem dat1_leaves_4 (t : Fin cfg1.N) : (dat1 W c).leavesExact 4 t = owns (c : Thread nD τ) (win1_4.stage (cfg1.slots t 4)) fullShare (blk1 W c 4 t) := by
  unfold Dat.leavesExact; rw [show cfg1.idle 4 (grid1.coords t) = false from rfl, dat1_after_4]
theorem dat1_leaves_5 (t : Fin cfg1.N) : (dat1 W c).leavesExact 5 t = owns (c : Thread nD τ) (win1_5.stage (cfg1.slots t 5)) fullShare (blk1 W c 5 t) := by
  unfold Dat.leavesExact; rw [show cfg1.idle 5 (grid1.coords t) = false from rfl, dat1_after_5]
theorem dat1_leaves_6 (t : Fin cfg1.N) : (dat1 W c).leavesExact 6 t = owns (c : Thread nD τ) (win1_6.stage (cfg1.slots t 6)) fullShare (blk1 W c 6 t) := by
  unfold Dat.leavesExact; rw [show cfg1.idle 6 (grid1.coords t) = false from rfl, dat1_after_6]
theorem dat1_leaves_7 (t : Fin cfg1.N) : (dat1 W c).leavesExact 7 t = owns (c : Thread nD τ) (win1_7.stage (cfg1.slots t 7)) fullShare (blk1 W c 7 t) := by
  unfold Dat.leavesExact; rw [show cfg1.idle 7 (grid1.coords t) = false from rfl, dat1_after_7]
theorem dat1_after_8 (t : Fin cfg1.N) : (dat1 W c).after 8 t = Mlp.lossOf (acc1 W c (t.val + 1)) (blk1 W c 2 t) (blk1 W c 3 t) (blk1 W c 4 t) (blk1 W c 5 t) (blk1 W c 6 t Mlp.at0) (blk1 W c 7 t) := by
  dsimp only [dat1]

theorem first1 : ∀ t : Fin cfg1.N, Mlp.firstAt (grid1.coords t 0).val = 1#1 ↔ t.val = 0 := by decide +kernel
theorem last1 : ∀ t : Fin cfg1.N, k1_cond2 (grid1.coords t) = 1#1 ↔ t.val = 6 := by decide +kernel
theorem idle1_8 : ∀ t : Fin cfg1.N, t.val ≠ 6 → cfg1.idle 8 (grid1.coords t) = true := by decide +kernel
theorem live1_8 : ∀ t : Fin cfg1.N, t.val = 6 → cfg1.idle 8 (grid1.coords t) = false := by decide +kernel
theorem flush1_8' : ∀ t : Fin cfg1.N, t.val ≠ 6 → (cfg1.win 8).flush t = false := by decide +kernel

/-- One point more of the accumulator. -/
theorem acc1_next (t : Fin cfg1.N) (d : Vec F S20x1024 .f32) (hd : t.val ≠ 0 → d = acc1 W c t.val) :
    Mlp.accStep (if Mlp.firstAt (grid1.coords t 0).val = 1#1 then k1_pay1 else d) (blk1 W c 0 t) (blk1 W c 1 t) = acc1 W c (t.val + 1) := by
  have h0 : (if Mlp.firstAt (grid1.coords t 0).val = 1#1 then k1_pay1 else d) = acc1 W c t.val := by
    by_cases h : t.val = 0
    · rw [if_pos ((first1 t).mpr h), h]; rfl
    · rw [if_neg (fun e => h ((first1 t).mp e)), hd h]
  rw [h0]
  show _ = if h : t.val < cfg1.N then Mlp.accStep (acc1 W c t.val) (blk1 W c 0 ⟨t.val, h⟩) (blk1 W c 1 ⟨t.val, h⟩) else acc1 W c t.val
  rw [dif_pos t.isLt]

/-- The result's buffer after the body is what the point hands back. -/
theorem dat1_leaves_8 (t : Fin cfg1.N) (d) (d9 : Vec F S1x1 .f32) (h9 : d9 = (dat1 W c).before 8 t d) :
    (owns (c : Thread nD τ) (win1_8.stage (cfg1.slots t 8)) fullShare
      (if k1_cond2 (grid1.coords t) = 1#1 then Mlp.lossOf (acc1 W c (t.val + 1)) (blk1 W c 2 t) (blk1 W c 3 t) (blk1 W c 4 t) (blk1 W c 5 t) (blk1 W c 6 t Mlp.at0) (blk1 W c 7 t) else d9) : sProp 𝕄)
    ⊢ (dat1 W c).leavesExact 8 t := by
  by_cases h : t.val = 6
  · rw [if_pos ((last1 t).mpr h), ← dat1_after_8]
    unfold Dat.leavesExact; rw [live1_8 t h]
  · rw [if_neg (fun e => h ((last1 t).mp e)), Dat.leavesExact_idle (dat1 W c) 8 t (idle1_8 t h) (flush1_8' t h), h9]
    iintro H; iexists _; iexact H

set_option maxHeartbeats 2000000 in
/-- The body at any point takes the windows' blocks to the proof data's. -/
theorem sound1 (t : Fin cfg1.N) :
    iprop((dat1 W c).Φ t.castSucc ∗ (dat1 W c).owesAt () t.castSucc
      ∗ (∃ d, owns (c : Thread nD τ) (win1_0.stage (cfg1.slots t 0)) fullShare ((dat1 W c).before 0 t d))
      ∗ (∃ d, owns (c : Thread nD τ) (win1_1.stage (cfg1.slots t 1)) fullShare ((dat1 W c).before 1 t d))
      ∗ (∃ d, owns (c : Thread nD τ) (win1_2.stage (cfg1.slots t 2)) fullShare ((dat1 W c).before 2 t d))
      ∗ (∃ d, owns (c : Thread nD τ) (win1_3.stage (cfg1.slots t 3)) fullShare ((dat1 W c).before 3 t d))
      ∗ (∃ d, owns (c : Thread nD τ) (win1_4.stage (cfg1.slots t 4)) fullShare ((dat1 W c).before 4 t d))
      ∗ (∃ d, owns (c : Thread nD τ) (win1_5.stage (cfg1.slots t 5)) fullShare ((dat1 W c).before 5 t d))
      ∗ (∃ d, owns (c : Thread nD τ) (win1_6.stage (cfg1.slots t 6)) fullShare ((dat1 W c).before 6 t d))
      ∗ (∃ d, owns (c : Thread nD τ) (win1_7.stage (cfg1.slots t 7)) fullShare ((dat1 W c).before 7 t d))
      ∗ (∃ d, owns (c : Thread nD τ) (win1_8.stage (cfg1.slots t 8)) fullShare ((dat1 W c).before 8 t d)))
    ⊢ wp frame (wpE (defs₀ (F := F)) Variants.none c none) Set.univ (bodyAt1 t) (fun _ => iprop((dat1 W c).Φ t.succ ∗ (dat1 W c).owesAt () t.succ
      ∗ (dat1 W c).leavesExact 0 t
      ∗ (dat1 W c).leavesExact 1 t
      ∗ (dat1 W c).leavesExact 2 t
      ∗ (dat1 W c).leavesExact 3 t
      ∗ (dat1 W c).leavesExact 4 t
      ∗ (dat1 W c).leavesExact 5 t
      ∗ (dat1 W c).leavesExact 6 t
      ∗ (dat1 W c).leavesExact 7 t
      ∗ (dat1 W c).leavesExact 8 t)) := by
  unfold bodyAt1
  rw [Mlp.body1_eq]
  simp only [dat1_before_0, dat1_before_1, dat1_before_2, dat1_before_3, dat1_before_4, dat1_before_5, dat1_before_6, dat1_before_7, dat1_leaves_0, dat1_leaves_1, dat1_leaves_2, dat1_leaves_3, dat1_leaves_4, dat1_leaves_5, dat1_leaves_6, dat1_leaves_7]
  rw [show (dat1 W c).Φ t.succ = between1 W c (t.val + 1) from rfl, show (dat1 W c).owesAt () t.succ = (dat1 W c).owesAt () t.castSucc from rfl,
    show (dat1 W c).Φ t.castSucc = between1 W c t.val from rfl]
  unfold between1
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Mlp.step_spec _ _ _ _ _ _ _ _ _ _ _ _ _ _ _ _ _ _ _ _ c _ _ (blk1 W c 0 t) (blk1 W c 1 t) (blk1 W c 2 t) (blk1 W c 3 t) (blk1 W c 4 t) (blk1 W c 5 t) (blk1 W c 6 t) (blk1 W c 7 t) _ d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  rw [acc1_next W c t d hd]
  iintro ⟨H0, H1, H2, H3, H4, H5, H6, H7, H8, HS⟩
  isplitl [HS HR Hg]
  · isplitl [HS HR]
    · isplitl [HS]
      · iexists _; isplitr
        swap; · iexact HS
        ipureintro; exact fun _ => rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (dat1_leaves_8 W c t d8 _ rfl)
  iexact H8

theorem defs1_at (t : Fin cfg1.N) : defs₀ (F := F) .tc cfg1.body (cfg1.bodyArgs t (cfg1.slots t)) = bodyAt1 t := by
  unfold defs₀; rw [Defs.onTc_tc]

theorem obligation1 : BodyObligation (dat1 (F := F) W c) (defs₀ (F := F)) Variants.none () Set.univ := fun t => by
  rw [bigSep_W1, bigSep_W1, defs1_at]
  exact triple_restated (sound1 W c t) rfl .rfl fun _ => .rfl

/-- The scoped buffers and the generator register are what holds before the first point, -/
theorem start1 : (Pipeline.ΦA spec1 c : sProp 𝕄) ⊢ between1 W c 0 := by
  unfold Pipeline.ΦA between1
  rw [scopedRest1_split]
  simp only [scratch1, owns_whole]
  iintro ⟨⟨⟨%f, HS⟩, HR⟩, Hg⟩
  isplitl [HS HR]
  · isplitl [HS]
    · iexists f; isplitr; · ipureintro; exact fun h => absurd rfl h
      iexact HS
    iexact HR
  iexact Hg

/-- and are given back after any. -/
theorem finish1 (n : ℕ) : between1 W c n ⊢ (Pipeline.ΦA spec1 c : sProp 𝕄) := by
  unfold Pipeline.ΦA between1
  rw [scopedRest1_split]
  simp only [scratch1, owns_whole]
  iintro ⟨⟨⟨%d, -, HS⟩, HR⟩, Hg⟩
  isplitl [HS HR]
  · isplitl [HS]; · iexists _; iexact HS
    iexact HR
  iexact Hg

/-- The first level's perceptron call. -/
def leg1 : Leg F 1 where
  dat W c := dat1 W c
  A_eq W c w := dat1_A W c w
  q_eq _ _ _ := rfl
  owed_eq _ _ _ := rfl
  recorded_eq _ _ _ := trivial
  body W c := (obligation1 W c).loose
  start W c := start1 W c
  finish W c := finish1 W c _

end Cert.KernelIdeal.Run

end
-- ==== Proof.Pool.Body2.lean ====
/- The second level's pooling body: what one grid point leaves in its buffers. -/
module

public import proofs.«01_k».proof.Proof.Pool.Vec

@[expose] public section

set_option maxRecDepth 65536

noncomputable section

namespace Cert.KernelIdeal.Pool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The pooled blocks of the second level at a grid point, one for each 128 channels, from the boxes and the image's features. -/
def block2 (i : grid2.Coords) (b : Vec F S4x5x4 .f32) (f : Vec F S1x40x10240 .f32) : ℕ → FVec F S8x128x8 .f32 := fun cb =>
  poolBlock facts40 0x421C0000#32 (boxAt b _ (k2_off1_inb i)) (boxAt b _ (k2_off2_inb i)) (boxAt b _ (k2_off3_inb i)) (boxAt b _ (k2_off4_inb i)) (chunk 40 5120 f cb)

/-- The vertical matrix as the body's statements spell it. -/
def rawA2 (v5 v11 : F .f32) : FVec F S8x40 .f32 :=
  k2_pay12 v5 (k2_pay2 v5 v11) k2_pay3 k2_pay4 k2_pay5 (k2_pay8 v5 v11) (k2_pay9 v5 v11) (k2_pay10 v5 v11) (k2_pay11 v5 v11) (Scalar.ofBits .f32 0x00000000#32)

/-- The horizontal matrix, before its scaling, as the body's statements spell it. -/
def rawB2 (v2 v8 : F .f32) : FVec F S8x40 .f32 :=
  k2_pay17 v2 (k2_pay1 v2 v8) k2_pay13 k2_pay14 k2_pay15 (k2_pay16 v2 (k2_pay1 v2 v8)) (Scalar.ofBits .f32 0x00000000#32) (Scalar.ofBits .f32 0x421C0000#32)

/-- The first pooled block of the second level as the body's statements spell it. -/
def first2 (v2 v5 v8 v11 : F .f32) (f : Vec F S1x40x5120 .f32) : FVec F S8x128x8 .f32 :=
  k2_pay20 (rawB2 v2 v8) (Scalar.ofBits .f32 0x3F000000#32) (k2_pay19 (rawA2 v5 v11) f)

/-- A later pooled block of the second level as the body's statements spell it. -/
def later2 (v2 v5 v8 v11 : F .f32) (f : Vec F S1x40x5120 .f32) : FVec F S8x128x8 .f32 :=
  k2_pay30 (k2_pay18 (rawB2 v2 v8) (Scalar.ofBits .f32 0x3F000000#32)) (k2_pay29 (rawA2 v5 v11) f)

theorem first2_eq (v2 v5 v8 v11 : F .f32) (f : Vec F S1x40x5120 .f32) : first2 v2 v5 v8 v11 f = poolBlock facts40 0x421C0000#32 v2 v5 v8 v11 f := rfl

theorem later2_eq (v2 v5 v8 v11 : F .f32) (f : Vec F S1x40x5120 .f32) : later2 v2 v5 v8 v11 f = poolBlock facts40 0x421C0000#32 v2 v5 v8 v11 f := rfl

/-- What the second level's body leaves in its result window. -/
def out2 (i : grid2.Coords) (b : Vec F S4x5x4 .f32) (f : Vec F S1x40x10240 .f32) : Vec F S1x256x49 .f32 := assemble 256 (block2 i b f)

set_option maxHeartbeats 2000000 in
theorem body2_spec (c : Dev nD) (i : grid2.Coords) (arg2 : Memref sig .tc .smem S4x5x4 .f32) (harg2 : arg2.IsWhole)
    (arg3 : Memref sig .tc .vmem S1x40x10240 .f32) (harg3 : arg3.IsWhole) (arg4 : Memref sig .tc .vmem S1x256x49 .f32) (harg4 : arg4.IsWhole)
    (arg5 : Memref sig .tc .vmem S8x128x40 .f32) (harg5 : arg5.IsWhole) (x0 : Vec F S4x5x4 .f32) (x1 : Vec F S1x40x10240 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out2 i x0 x1) ∗ (∃ d, owns (c : Thread nD τ) arg5 fullShare d)) -∗ K ⟨⟩))
      ⊢ wp frame (wpE (defs₀ (F := F)) Variants.none c none) E (cc2__roialign_body i arg2 harg2 arg3 harg3 arg4 harg4 arg5 harg5) K := by
  simp only [cc2__roialign_body_eq_skeleton]; unfold cc2__roialign_body_skel
  simp only [k2_part1_eq_skeleton, k2_part2_eq_skeleton, k2_part3_eq_skeleton, k2_part4_eq_skeleton, k2_part5_eq_skeleton, k2_part6_eq_skeleton]
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  have hV0 : first2 (boxAt (arg2.view.read (Elt F) (harg2.unread x0)) _ (k2_off1_inb i)) (boxAt (arg2.view.read (Elt F) (harg2.unread x0)) _ (k2_off2_inb i))
      (boxAt (arg2.view.read (Elt F) (harg2.unread x0)) _ (k2_off3_inb i)) (boxAt (arg2.view.read (Elt F) (harg2.unread x0)) _ (k2_off4_inb i))
      (View.readAt (Elt F) arg3.view (Rect.unit (s := S1x40x10240) ![0, 0, 0] S1x40x5120.size inb_S1x40x10240_S1x40x5120_0_0_0).toLoadRect (harg3.unread x1)) = block2 i x0 x1 0 := by
    rw [harg2.read_unread, first2_eq, readAt_eq_chunk 40 5120 0 _ _ (harg3.read_unread x1)]; rfl
  have hV1 : later2 (boxAt (arg2.view.read (Elt F) (harg2.unread x0)) _ (k2_off1_inb i)) (boxAt (arg2.view.read (Elt F) (harg2.unread x0)) _ (k2_off2_inb i))
      (boxAt (arg2.view.read (Elt F) (harg2.unread x0)) _ (k2_off3_inb i)) (boxAt (arg2.view.read (Elt F) (harg2.unread x0)) _ (k2_off4_inb i))
      (View.readAt (Elt F) arg3.view (Rect.unit (s := S1x40x10240) ![0, 0, 5120] S1x40x5120.size inb_S1x40x10240_S1x40x5120_0_0_5120).toLoadRect (harg3.unread x1)) = block2 i x0 x1 1 := by
    rw [harg2.read_unread, later2_eq, readAt_eq_chunk 40 5120 1 _ _ (harg3.read_unread x1)]; rfl
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    repeat rw [View.readCov_full]
    refine (View.read_writes_eq_canon _ _ _ (View.cover_of_tiled_head _ _ _ (by sl_kernel_rfl))).trans (funext fun y =>
      View.canon_eq_of_allAt _ y _ (View.cover_of_tiled_head _ _ _ (by sl_kernel_rfl) y) ?_)
    have e0 : ∀ (oy : ℕ) (hoy : oy < 8) (x : S1x128x7.Idx), (∀ a : Fin 3, (y a : ℕ) = (![0, 0, 7 * oy] : Fin 3 → ℕ) a + x a) →
        block2 i x0 x1 0 (ix3 ⟨oy, hoy⟩ ⟨(x 1).val, (x 1).isLt⟩ ⟨(x 2).val, lt_trans (x 2).isLt (by decide)⟩) = out2 i x0 x1 y :=
      fun oy hoy x hx => assemble_at 256 _ 0 oy hoy y x hx
    rw [← hV0] at e0
    have e1 : ∀ (oy : ℕ) (hoy : oy < 8) (x : S1x128x7.Idx), (∀ a : Fin 3, (y a : ℕ) = (![0, 128, 7 * oy] : Fin 3 → ℕ) a + x a) →
        block2 i x0 x1 1 (ix3 ⟨oy, hoy⟩ ⟨(x 1).val, (x 1).isLt⟩ ⟨(x 2).val, lt_trans (x 2).isLt (by decide)⟩) = out2 i x0 x1 y :=
      fun oy hoy x hx => assemble_at 256 _ 1 oy hoy y x hx
    rw [← hV1] at e1
    refine View.allAt_cons_unit _ _ _ _ _ (fun x hx => ?_) ?_
    · exact (row_apply 6 (of_decide_eq_true rfl) _ slices_S8x128x8_o6_0_0_S1x128x7 shapeCasts_S1x128x7_S128x7 shapeCasts_S128x7_S1x128x7 x).trans (e1 6 (of_decide_eq_true rfl) x hx)
    refine View.allAt_cons_unit _ _ _ _ _ (fun x hx => ?_) ?_
    · exact (row_apply 5 (of_decide_eq_true rfl) _ slices_S8x128x8_o5_0_0_S1x128x7 shapeCasts_S1x128x7_S128x7 shapeCasts_S128x7_S1x128x7 x).trans (e1 5 (of_decide_eq_true rfl) x hx)
    refine View.allAt_cons_unit _ _ _ _ _ (fun x hx => ?_) ?_
    · exact (row_apply 4 (of_decide_eq_true rfl) _ slices_S8x128x8_o4_0_0_S1x128x7 shapeCasts_S1x128x7_S128x7 shapeCasts_S128x7_S1x128x7 x).trans (e1 4 (of_decide_eq_true rfl) x hx)
    refine View.allAt_cons_unit _ _ _ _ _ (fun x hx => ?_) ?_
    · exact (row_apply 3 (of_decide_eq_true rfl) _ slices_S8x128x8_o3_0_0_S1x128x7 shapeCasts_S1x128x7_S128x7 shapeCasts_S128x7_S1x128x7 x).trans (e1 3 (of_decide_eq_true rfl) x hx)
    refine View.allAt_cons_unit _ _ _ _ _ (fun x hx => ?_) ?_
    · exact (row_apply 2 (of_decide_eq_true rfl) _ slices_S8x128x8_o2_0_0_S1x128x7 shapeCasts_S1x128x7_S128x7 shapeCasts_S128x7_S1x128x7 x).trans (e1 2 (of_decide_eq_true rfl) x hx)
    refine View.allAt_cons_unit _ _ _ _ _ (fun x hx => ?_) ?_
    · exact (row_apply 1 (of_decide_eq_true rfl) _ slices_S8x128x8_o1_0_0_S1x128x7 shapeCasts_S1x128x7_S128x7 shapeCasts_S128x7_S1x128x7 x).trans (e1 1 (of_decide_eq_true rfl) x hx)
    refine View.allAt_cons_unit _ _ _ _ _ (fun x hx => ?_) ?_
    · exact (row_apply 0 (of_decide_eq_true rfl) _ slices_S8x128x8_o0_0_0_S1x128x7 shapeCasts_S1x128x7_S128x7 shapeCasts_S128x7_S1x128x7 x).trans (e1 0 (of_decide_eq_true rfl) x hx)
    refine View.allAt_cons_unit _ _ _ _ _ (fun x hx => ?_) ?_
    · exact (row_apply 6 (of_decide_eq_true rfl) _ slices_S8x128x8_o6_0_0_S1x128x7 shapeCasts_S1x128x7_S128x7 shapeCasts_S128x7_S1x128x7 x).trans (e0 6 (of_decide_eq_true rfl) x hx)
    refine View.allAt_cons_unit _ _ _ _ _ (fun x hx => ?_) ?_
    · exact (row_apply 5 (of_decide_eq_true rfl) _ slices_S8x128x8_o5_0_0_S1x128x7 shapeCasts_S1x128x7_S128x7 shapeCasts_S128x7_S1x128x7 x).trans (e0 5 (of_decide_eq_true rfl) x hx)
    refine View.allAt_cons_unit _ _ _ _ _ (fun x hx => ?_) ?_
    · exact (row_apply 4 (of_decide_eq_true rfl) _ slices_S8x128x8_o4_0_0_S1x128x7 shapeCasts_S1x128x7_S128x7 shapeCasts_S128x7_S1x128x7 x).trans (e0 4 (of_decide_eq_true rfl) x hx)
    refine View.allAt_cons_unit _ _ _ _ _ (fun x hx => ?_) ?_
    · exact (row_apply 3 (of_decide_eq_true rfl) _ slices_S8x128x8_o3_0_0_S1x128x7 shapeCasts_S1x128x7_S128x7 shapeCasts_S128x7_S1x128x7 x).trans (e0 3 (of_decide_eq_true rfl) x hx)
    refine View.allAt_cons_unit _ _ _ _ _ (fun x hx => ?_) ?_
    · exact (row_apply 2 (of_decide_eq_true rfl) _ slices_S8x128x8_o2_0_0_S1x128x7 shapeCasts_S1x128x7_S128x7 shapeCasts_S128x7_S1x128x7 x).trans (e0 2 (of_decide_eq_true rfl) x hx)
    refine View.allAt_cons_unit _ _ _ _ _ (fun x hx => ?_) ?_
    · exact (row_apply 1 (of_decide_eq_true rfl) _ slices_S8x128x8_o1_0_0_S1x128x7 shapeCasts_S1x128x7_S128x7 shapeCasts_S128x7_S1x128x7 x).trans (e0 1 (of_decide_eq_true rfl) x hx)
    refine View.allAt_cons_unit _ _ _ _ _ (fun x hx => ?_) ?_
    · exact (row_apply 0 (of_decide_eq_true rfl) _ slices_S8x128x8_o0_0_0_S1x128x7 shapeCasts_S1x128x7_S128x7 shapeCasts_S128x7_S1x128x7 x).trans (e0 0 (of_decide_eq_true rfl) x hx)
    exact View.allAt_nil _ _
  iexists _; iexists _; isplitr; swap; · iexact HS0
  ipureintro; rfl

end Cert.KernelIdeal.Pool

end
-- ==== Proof.Run.Pool2.lean ====
/- The second level's pooling call: its blocks, its proof data and its body at a grid point. -/
module

public import proofs.«01_k».proof.Proof.Run.Kit
public import proofs.«01_k».proof.Proof.Pool.Body2

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The block of a window at a point, in the array as the call finds it. -/
def blk2 (W : Contents F) (c : Dev nD) (w : Fin cfg2.W) (t : Fin cfg2.N) : ((cfg2.win w).xblock (cfg2.grid.coords t)).Idx → Elt F (cfg2.win w).elt :=
  ((cfg2.win w).blk t).view.read (Elt F) (atRefs W c (Pipeline.arrRef spec2 w))

/-- The proof data: the inputs' blocks stay, the result's block is the body's value. -/
def dat2 (W : Contents F) (c : Dev nD) : Dat τ (Elt F) Unit ℕ (UR sig nD τ) ℕ cfg2 c where
  A w := W c (Pipeline.arrRef spec2 w)
  after w t := match w with
    | ⟨0, _⟩ => blk2 W c 0 t
    | ⟨1, _⟩ => blk2 W c 1 t
    | ⟨2, _⟩ => Pool.out2 (grid2.coords t) (blk2 W c 0 t) (blk2 W c 1 t)
  Φ _ := Pipeline.ΦA spec2 c
  q _ := fullShare
  owed _ := 0

variable (W : Contents F) (c : Dev nD)

theorem dat2_A (w : Fin cfg2.W) : (dat2 W c).A w = W c (Pipeline.arrRef spec2 w) := by dsimp only [dat2]
theorem dat2_after_0 (t : Fin cfg2.N) : (dat2 W c).after 0 t = blk2 W c 0 t := by dsimp only [dat2]
theorem dat2_after_1 (t : Fin cfg2.N) : (dat2 W c).after 1 t = blk2 W c 1 t := by dsimp only [dat2]
theorem dat2_after_2 (t : Fin cfg2.N) : (dat2 W c).after 2 t = Pool.out2 (grid2.coords t) (blk2 W c 0 t) (blk2 W c 1 t) := by dsimp only [dat2]

theorem dat2_before_0 (t : Fin cfg2.N) (d) : (dat2 W c).before 0 t d = blk2 W c 0 t :=
  ((dat2 W c).before_in_eq_fetched 0 rfl (fun _ => rfl) (fun _ _ _ => rfl)
    (fun t => by rw [dat2_after_0]; unfold Dat.blockOf blk2; rw [dat2_A]) t d).trans
    (by unfold Dat.fetched Dat.blockOf blk2; rw [dat2_A]; rfl)
theorem dat2_before_1 (t : Fin cfg2.N) (d) : (dat2 W c).before 1 t d = blk2 W c 1 t :=
  ((dat2 W c).before_in_eq_fetched 1 rfl (fun _ => rfl) (fun _ _ _ => rfl)
    (fun t => by rw [dat2_after_1]; unfold Dat.blockOf blk2; rw [dat2_A]) t d).trans
    (by unfold Dat.fetched Dat.blockOf blk2; rw [dat2_A]; rfl)

/-- The body at any point takes the windows' blocks to the proof data's. -/
theorem sound2 (t : Fin cfg2.N) :
    iprop((dat2 W c).Φ t.castSucc ∗ (dat2 W c).owesAt () t.castSucc
      ∗ (∃ d, owns (c : Thread nD τ) (win2_0.stage (cfg2.slots t 0)) fullShare ((dat2 W c).before 0 t d))
      ∗ (∃ d, owns (c : Thread nD τ) (win2_1.stage (cfg2.slots t 1)) fullShare ((dat2 W c).before 1 t d))
      ∗ (∃ d, owns (c : Thread nD τ) (win2_2.stage (cfg2.slots t 2)) fullShare ((dat2 W c).before 2 t d)))
    ⊢ wp frame (wpE (defs₀ (F := F)) Variants.none c none) Set.univ (bodyAt2 t) (fun _ => iprop((dat2 W c).Φ t.succ ∗ (dat2 W c).owesAt () t.succ
      ∗ owns (c : Thread nD τ) (win2_0.stage (cfg2.slots t 0)) fullShare ((dat2 W c).after 0 t)
      ∗ owns (c : Thread nD τ) (win2_1.stage (cfg2.slots t 1)) fullShare ((dat2 W c).after 1 t)
      ∗ owns (c : Thread nD τ) (win2_2.stage (cfg2.slots t 2)) fullShare ((dat2 W c).after 2 t))) := by
  unfold bodyAt2
  simp only [dat2_before_0, dat2_before_1]
  rw [show (dat2 W c).Φ t.succ = Pipeline.ΦA spec2 c from rfl, show (dat2 W c).owesAt () t.succ = (dat2 W c).owesAt () t.castSucc from rfl,
    dat2_after_0, dat2_after_1, dat2_after_2, show (dat2 W c).Φ t.castSucc = Pipeline.ΦA spec2 c from rfl]
  unfold Pipeline.ΦA
  rw [scopedRest2_split]
  simp only [← owns_whole]
  iintro ⟨⟨⟨HS, HR⟩, Hg⟩, Ho, ⟨%d0, H0⟩, ⟨%d1, H1⟩, ⟨%d2, H2⟩⟩
  iapply (Pool.body2_spec c (grid2.coords t) _ _ _ _ _ _ _ _ (blk2 W c 0 t) (blk2 W c 1 t) Set.univ _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

theorem defs2_at (t : Fin cfg2.N) : defs₀ (F := F) .tc cfg2.body (cfg2.bodyArgs t (cfg2.slots t)) = bodyAt2 t := by
  unfold defs₀; rw [Defs.onTc_tc]

theorem obligation2 : BodyObligation (dat2 (F := F) W c) (defs₀ (F := F)) Variants.none () Set.univ := fun t => by
  rw [bigSep_W2, bigSep_W2, defs2_at]
  exact triple_restated (sound2 W c t) rfl .rfl fun _ => .rfl

/-- The second level's pooling call. -/
def leg2 : Leg F 2 where
  dat W c := dat2 W c
  A_eq W c w := dat2_A W c w
  q_eq _ _ _ := rfl
  owed_eq _ _ _ := rfl
  recorded_eq _ _ _ := trivial
  body W c := (obligation2 W c).loose
  start _ _ := .rfl
  finish _ _ := .rfl

end Cert.KernelIdeal.Run

end
-- ==== Proof.Run.Mlp3.lean ====
/- The second level's perceptron call: its blocks, its accumulator point by point, its proof data and its body at a grid point. -/
module

public import proofs.«01_k».proof.Proof.Run.Kit
public import proofs.«01_k».proof.Proof.Mlp.Step

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The block of a window at a point, in the array as the call finds it. -/
def blk3 (W : Contents F) (c : Dev nD) (w : Fin cfg3.W) (t : Fin cfg3.N) : ((cfg3.win w).xblock (cfg3.grid.coords t)).Idx → Elt F (cfg3.win w).elt :=
  ((cfg3.win w).blk t).view.read (Elt F) (atRefs W c (Pipeline.arrRef spec3 w))

/-- The accumulator before point `n`: zeros, then one block product more at each point. -/
def acc3 (W : Contents F) (c : Dev nD) : ℕ → Vec F S20x1024 .f32
  | 0 => k1_pay1
  | n + 1 => if h : n < cfg3.N then Mlp.accStep (acc3 W c n) (blk3 W c 0 ⟨n, h⟩) (blk3 W c 1 ⟨n, h⟩) else acc3 W c n

/-- The accumulator's buffer. -/
abbrev scratch3 : Memref sig .tc .vmem S20x1024 .f32 := Memref.whole cc3_scratch0

/-- What holds between points: the accumulator is `acc3` (anything before the first point). -/
def between3 (W : Contents F) (c : Dev nD) (n : ℕ) : sProp 𝕄 :=
  iprop(((∃ d, ⌜n ≠ 0 → d = acc3 W c n⌝ ∗ owns (c : Thread nD τ) scratch3 fullShare d)
    ∗ Pipeline.scopedRestBut (Ix := Unit) (Name := ℕ) (U := UR sig nD τ) (Lvl := ℕ) (Val := Elt F) spec3 c [cc3_scratch0]) ∗ (∃ r, prngReg c r))

/-- The proof data: the operands' blocks stay, the result is the loss of the accumulator so far. -/
def dat3 (W : Contents F) (c : Dev nD) : Dat τ (Elt F) Unit ℕ (UR sig nD τ) ℕ cfg3 c where
  A w := W c (Pipeline.arrRef spec3 w)
  after w t := match w with
    | ⟨0, _⟩ => blk3 W c 0 t
    | ⟨1, _⟩ => blk3 W c 1 t
    | ⟨2, _⟩ => blk3 W c 2 t
    | ⟨3, _⟩ => blk3 W c 3 t
    | ⟨4, _⟩ => blk3 W c 4 t
    | ⟨5, _⟩ => blk3 W c 5 t
    | ⟨6, _⟩ => blk3 W c 6 t
    | ⟨7, _⟩ => blk3 W c 7 t
    | ⟨8, _⟩ => Mlp.lossOf (acc3 W c (t.val + 1)) (blk3 W c 2 t) (blk3 W c 3 t) (blk3 W c 4 t) (blk3 W c 5 t) (blk3 W c 6 t Mlp.at0) (blk3 W c 7 t)
  Φ t := between3 W c t.val
  q _ := fullShare
  owed _ := 0

variable (W : Contents F) (c : Dev nD)

theorem dat3_A (w : Fin cfg3.W) : (dat3 W c).A w = W c (Pipeline.arrRef spec3 w) := by dsimp only [dat3]
theorem dat3_after_0 (t : Fin cfg3.N) : (dat3 W c).after 0 t = blk3 W c 0 t := by dsimp only [dat3]
theorem dat3_after_1 (t : Fin cfg3.N) : (dat3 W c).after 1 t = blk3 W c 1 t := by dsimp only [dat3]
theorem dat3_after_2 (t : Fin cfg3.N) : (dat3 W c).after 2 t = blk3 W c 2 t := by dsimp only [dat3]
theorem dat3_after_3 (t : Fin cfg3.N) : (dat3 W c).after 3 t = blk3 W c 3 t := by dsimp only [dat3]
theorem dat3_after_4 (t : Fin cfg3.N) : (dat3 W c).after 4 t = blk3 W c 4 t := by dsimp only [dat3]
theorem dat3_after_5 (t : Fin cfg3.N) : (dat3 W c).after 5 t = blk3 W c 5 t := by dsimp only [dat3]
theorem dat3_after_6 (t : Fin cfg3.N) : (dat3 W c).after 6 t = blk3 W c 6 t := by dsimp only [dat3]
theorem dat3_after_7 (t : Fin cfg3.N) : (dat3 W c).after 7 t = blk3 W c 7 t := by dsimp only [dat3]
theorem dat3_before_0 (t : Fin cfg3.N) (d) : (dat3 W c).before 0 t d = blk3 W c 0 t :=
  ((dat3 W c).before_in_eq_fetched 0 rfl (fun _ => rfl) (fun _ _ _ => rfl)
    (fun t => by rw [dat3_after_0]; unfold Dat.blockOf blk3; rw [dat3_A]) t d).trans
    (by unfold Dat.fetched Dat.blockOf blk3; rw [dat3_A]; rfl)
theorem dat3_before_1 (t : Fin cfg3.N) (d) : (dat3 W c).before 1 t d = blk3 W c 1 t :=
  ((dat3 W c).before_in_eq_fetched 1 rfl (fun _ => rfl) (fun _ _ _ => rfl)
    (fun t => by rw [dat3_after_1]; unfold Dat.blockOf blk3; rw [dat3_A]) t d).trans
    (by unfold Dat.fetched Dat.blockOf blk3; rw [dat3_A]; rfl)
theorem dat3_before_2 (t : Fin cfg3.N) (d) : (dat3 W c).before 2 t d = blk3 W c 2 t :=
  ((dat3 W c).before_in_eq_fetched 2 rfl (fun _ => rfl) (fun _ _ _ => rfl)
    (fun t => by rw [dat3_after_2]; unfold Dat.blockOf blk3; rw [dat3_A]) t d).trans
    (by unfold Dat.fetched Dat.blockOf blk3; rw [dat3_A]; rfl)
theorem dat3_before_3 (t : Fin cfg3.N) (d) : (dat3 W c).before 3 t d = blk3 W c 3 t :=
  ((dat3 W c).before_in_eq_fetched 3 rfl (fun _ => rfl) (fun _ _ _ => rfl)
    (fun t => by rw [dat3_after_3]; unfold Dat.blockOf blk3; rw [dat3_A]) t d).trans
    (by unfold Dat.fetched Dat.blockOf blk3; rw [dat3_A]; rfl)
theorem dat3_before_4 (t : Fin cfg3.N) (d) : (dat3 W c).before 4 t d = blk3 W c 4 t :=
  ((dat3 W c).before_in_eq_fetched 4 rfl (fun _ => rfl) (fun _ _ _ => rfl)
    (fun t => by rw [dat3_after_4]; unfold Dat.blockOf blk3; rw [dat3_A]) t d).trans
    (by unfold Dat.fetched Dat.blockOf blk3; rw [dat3_A]; rfl)
theorem dat3_before_5 (t : Fin cfg3.N) (d) : (dat3 W c).before 5 t d = blk3 W c 5 t :=
  ((dat3 W c).before_in_eq_fetched 5 rfl (fun _ => rfl) (fun _ _ _ => rfl)
    (fun t => by rw [dat3_after_5]; unfold Dat.blockOf blk3; rw [dat3_A]) t d).trans
    (by unfold Dat.fetched Dat.blockOf blk3; rw [dat3_A]; rfl)
theorem dat3_before_6 (t : Fin cfg3.N) (d) : (dat3 W c).before 6 t d = blk3 W c 6 t :=
  ((dat3 W c).before_in_eq_fetched 6 rfl (fun _ => rfl) (fun _ _ _ => rfl)
    (fun t => by rw [dat3_after_6]; unfold Dat.blockOf blk3; rw [dat3_A]) t d).trans
    (by unfold Dat.fetched Dat.blockOf blk3; rw [dat3_A]; rfl)
theorem dat3_before_7 (t : Fin cfg3.N) (d) : (dat3 W c).before 7 t d = blk3 W c 7 t :=
  ((dat3 W c).before_in_eq_fetched 7 rfl (fun _ => rfl) (fun _ _ _ => rfl)
    (fun t => by rw [dat3_after_7]; unfold Dat.blockOf blk3; rw [dat3_A]) t d).trans
    (by unfold Dat.fetched Dat.blockOf blk3; rw [dat3_A]; rfl)
/-- An operand's buffer is handed back holding its block. -/
theorem dat3_leaves_0 (t : Fin cfg3.N) : (dat3 W c).leavesExact 0 t = owns (c : Thread nD τ) (win3_0.stage (cfg3.slots t 0)) fullShare (blk3 W c 0 t) := by
  unfold Dat.leavesExact; rw [show cfg3.idle 0 (grid3.coords t) = false from rfl, dat3_after_0]
theorem dat3_leaves_1 (t : Fin cfg3.N) : (dat3 W c).leavesExact 1 t = owns (c : Thread nD τ) (win3_1.stage (cfg3.slots t 1)) fullShare (blk3 W c 1 t) := by
  unfold Dat.leavesExact; rw [show cfg3.idle 1 (grid3.coords t) = false from rfl, dat3_after_1]
theorem dat3_leaves_2 (t : Fin cfg3.N) : (dat3 W c).leavesExact 2 t = owns (c : Thread nD τ) (win3_2.stage (cfg3.slots t 2)) fullShare (blk3 W c 2 t) := by
  unfold Dat.leavesExact; rw [show cfg3.idle 2 (grid3.coords t) = false from rfl, dat3_after_2]
theorem dat3_leaves_3 (t : Fin cfg3.N) : (dat3 W c).leavesExact 3 t = owns (c : Thread nD τ) (win3_3.stage (cfg3.slots t 3)) fullShare (blk3 W c 3 t) := by
  unfold Dat.leavesExact; rw [show cfg3.idle 3 (grid3.coords t) = false from rfl, dat3_after_3]
theorem dat3_leaves_4 (t : Fin cfg3.N) : (dat3 W c).leavesExact 4 t = owns (c : Thread nD τ) (win3_4.stage (cfg3.slots t 4)) fullShare (blk3 W c 4 t) := by
  unfold Dat.leavesExact; rw [show cfg3.idle 4 (grid3.coords t) = false from rfl, dat3_after_4]
theorem dat3_leaves_5 (t : Fin cfg3.N) : (dat3 W c).leavesExact 5 t = owns (c : Thread nD τ) (win3_5.stage (cfg3.slots t 5)) fullShare (blk3 W c 5 t) := by
  unfold Dat.leavesExact; rw [show cfg3.idle 5 (grid3.coords t) = false from rfl, dat3_after_5]
theorem dat3_leaves_6 (t : Fin cfg3.N) : (dat3 W c).leavesExact 6 t = owns (c : Thread nD τ) (win3_6.stage (cfg3.slots t 6)) fullShare (blk3 W c 6 t) := by
  unfold Dat.leavesExact; rw [show cfg3.idle 6 (grid3.coords t) = false from rfl, dat3_after_6]
theorem dat3_leaves_7 (t : Fin cfg3.N) : (dat3 W c).leavesExact 7 t = owns (c : Thread nD τ) (win3_7.stage (cfg3.slots t 7)) fullShare (blk3 W c 7 t) := by
  unfold Dat.leavesExact; rw [show cfg3.idle 7 (grid3.coords t) = false from rfl, dat3_after_7]
theorem dat3_after_8 (t : Fin cfg3.N) : (dat3 W c).after 8 t = Mlp.lossOf (acc3 W c (t.val + 1)) (blk3 W c 2 t) (blk3 W c 3 t) (blk3 W c 4 t) (blk3 W c 5 t) (blk3 W c 6 t Mlp.at0) (blk3 W c 7 t) := by
  dsimp only [dat3]

theorem first3 : ∀ t : Fin cfg3.N, Mlp.firstAt (grid3.coords t 0).val = 1#1 ↔ t.val = 0 := by decide +kernel
theorem last3 : ∀ t : Fin cfg3.N, k3_cond2 (grid3.coords t) = 1#1 ↔ t.val = 13 := by decide +kernel
theorem idle3_8 : ∀ t : Fin cfg3.N, t.val ≠ 13 → cfg3.idle 8 (grid3.coords t) = true := by decide +kernel
theorem live3_8 : ∀ t : Fin cfg3.N, t.val = 13 → cfg3.idle 8 (grid3.coords t) = false := by decide +kernel
theorem flush3_8' : ∀ t : Fin cfg3.N, t.val ≠ 13 → (cfg3.win 8).flush t = false := by decide +kernel

/-- One point more of the accumulator. -/
theorem acc3_next (t : Fin cfg3.N) (d : Vec F S20x1024 .f32) (hd : t.val ≠ 0 → d = acc3 W c t.val) :
    Mlp.accStep (if Mlp.firstAt (grid3.coords t 0).val = 1#1 then k1_pay1 else d) (blk3 W c 0 t) (blk3 W c 1 t) = acc3 W c (t.val + 1) := by
  have h0 : (if Mlp.firstAt (grid3.coords t 0).val = 1#1 then k1_pay1 else d) = acc3 W c t.val := by
    by_cases h : t.val = 0
    · rw [if_pos ((first3 t).mpr h), h]; rfl
    · rw [if_neg (fun e => h ((first3 t).mp e)), hd h]
  rw [h0]
  show _ = if h : t.val < cfg3.N then Mlp.accStep (acc3 W c t.val) (blk3 W c 0 ⟨t.val, h⟩) (blk3 W c 1 ⟨t.val, h⟩) else acc3 W c t.val
  rw [dif_pos t.isLt]

/-- The result's buffer after the body is what the point hands back. -/
theorem dat3_leaves_8 (t : Fin cfg3.N) (d) (d9 : Vec F S1x1 .f32) (h9 : d9 = (dat3 W c).before 8 t d) :
    (owns (c : Thread nD τ) (win3_8.stage (cfg3.slots t 8)) fullShare
      (if k3_cond2 (grid3.coords t) = 1#1 then Mlp.lossOf (acc3 W c (t.val + 1)) (blk3 W c 2 t) (blk3 W c 3 t) (blk3 W c 4 t) (blk3 W c 5 t) (blk3 W c 6 t Mlp.at0) (blk3 W c 7 t) else d9) : sProp 𝕄)
    ⊢ (dat3 W c).leavesExact 8 t := by
  by_cases h : t.val = 13
  · rw [if_pos ((last3 t).mpr h), ← dat3_after_8]
    unfold Dat.leavesExact; rw [live3_8 t h]
  · rw [if_neg (fun e => h ((last3 t).mp e)), Dat.leavesExact_idle (dat3 W c) 8 t (idle3_8 t h) (flush3_8' t h), h9]
    iintro H; iexists _; iexact H

set_option maxHeartbeats 2000000 in
/-- The body at any point takes the windows' blocks to the proof data's. -/
theorem sound3 (t : Fin cfg3.N) :
    iprop((dat3 W c).Φ t.castSucc ∗ (dat3 W c).owesAt () t.castSucc
      ∗ (∃ d, owns (c : Thread nD τ) (win3_0.stage (cfg3.slots t 0)) fullShare ((dat3 W c).before 0 t d))
      ∗ (∃ d, owns (c : Thread nD τ) (win3_1.stage (cfg3.slots t 1)) fullShare ((dat3 W c).before 1 t d))
      ∗ (∃ d, owns (c : Thread nD τ) (win3_2.stage (cfg3.slots t 2)) fullShare ((dat3 W c).before 2 t d))
      ∗ (∃ d, owns (c : Thread nD τ) (win3_3.stage (cfg3.slots t 3)) fullShare ((dat3 W c).before 3 t d))
      ∗ (∃ d, owns (c : Thread nD τ) (win3_4.stage (cfg3.slots t 4)) fullShare ((dat3 W c).before 4 t d))
      ∗ (∃ d, owns (c : Thread nD τ) (win3_5.stage (cfg3.slots t 5)) fullShare ((dat3 W c).before 5 t d))
      ∗ (∃ d, owns (c : Thread nD τ) (win3_6.stage (cfg3.slots t 6)) fullShare ((dat3 W c).before 6 t d))
      ∗ (∃ d, owns (c : Thread nD τ) (win3_7.stage (cfg3.slots t 7)) fullShare ((dat3 W c).before 7 t d))
      ∗ (∃ d, owns (c : Thread nD τ) (win3_8.stage (cfg3.slots t 8)) fullShare ((dat3 W c).before 8 t d)))
    ⊢ wp frame (wpE (defs₀ (F := F)) Variants.none c none) Set.univ (bodyAt3 t) (fun _ => iprop((dat3 W c).Φ t.succ ∗ (dat3 W c).owesAt () t.succ
      ∗ (dat3 W c).leavesExact 0 t
      ∗ (dat3 W c).leavesExact 1 t
      ∗ (dat3 W c).leavesExact 2 t
      ∗ (dat3 W c).leavesExact 3 t
      ∗ (dat3 W c).leavesExact 4 t
      ∗ (dat3 W c).leavesExact 5 t
      ∗ (dat3 W c).leavesExact 6 t
      ∗ (dat3 W c).leavesExact 7 t
      ∗ (dat3 W c).leavesExact 8 t)) := by
  unfold bodyAt3
  rw [Mlp.body3_eq]
  simp only [dat3_before_0, dat3_before_1, dat3_before_2, dat3_before_3, dat3_before_4, dat3_before_5, dat3_before_6, dat3_before_7, dat3_leaves_0, dat3_leaves_1, dat3_leaves_2, dat3_leaves_3, dat3_leaves_4, dat3_leaves_5, dat3_leaves_6, dat3_leaves_7]
  rw [show (dat3 W c).Φ t.succ = between3 W c (t.val + 1) from rfl, show (dat3 W c).owesAt () t.succ = (dat3 W c).owesAt () t.castSucc from rfl,
    show (dat3 W c).Φ t.castSucc = between3 W c t.val from rfl]
  unfold between3
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Mlp.step_spec _ _ _ _ _ _ _ _ _ _ _ _ _ _ _ _ _ _ _ _ c _ _ (blk3 W c 0 t) (blk3 W c 1 t) (blk3 W c 2 t) (blk3 W c 3 t) (blk3 W c 4 t) (blk3 W c 5 t) (blk3 W c 6 t) (blk3 W c 7 t) _ d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  rw [acc3_next W c t d hd]
  iintro ⟨H0, H1, H2, H3, H4, H5, H6, H7, H8, HS⟩
  isplitl [HS HR Hg]
  · isplitl [HS HR]
    · isplitl [HS]
      · iexists _; isplitr
        swap; · iexact HS
        ipureintro; exact fun _ => rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (dat3_leaves_8 W c t d8 _ rfl)
  iexact H8

theorem defs3_at (t : Fin cfg3.N) : defs₀ (F := F) .tc cfg3.body (cfg3.bodyArgs t (cfg3.slots t)) = bodyAt3 t := by
  unfold defs₀; rw [Defs.onTc_tc]

theorem obligation3 : BodyObligation (dat3 (F := F) W c) (defs₀ (F := F)) Variants.none () Set.univ := fun t => by
  rw [bigSep_W3, bigSep_W3, defs3_at]
  exact triple_restated (sound3 W c t) rfl .rfl fun _ => .rfl

/-- The scoped buffers and the generator register are what holds before the first point, -/
theorem start3 : (Pipeline.ΦA spec3 c : sProp 𝕄) ⊢ between3 W c 0 := by
  unfold Pipeline.ΦA between3
  rw [scopedRest3_split]
  simp only [scratch3, owns_whole]
  iintro ⟨⟨⟨%f, HS⟩, HR⟩, Hg⟩
  isplitl [HS HR]
  · isplitl [HS]
    · iexists f; isplitr; · ipureintro; exact fun h => absurd rfl h
      iexact HS
    iexact HR
  iexact Hg

/-- and are given back after any. -/
theorem finish3 (n : ℕ) : between3 W c n ⊢ (Pipeline.ΦA spec3 c : sProp 𝕄) := by
  unfold Pipeline.ΦA between3
  rw [scopedRest3_split]
  simp only [scratch3, owns_whole]
  iintro ⟨⟨⟨%d, -, HS⟩, HR⟩, Hg⟩
  isplitl [HS HR]
  · isplitl [HS]; · iexists _; iexact HS
    iexact HR
  iexact Hg

/-- The second level's perceptron call. -/
def leg3 : Leg F 3 where
  dat W c := dat3 W c
  A_eq W c w := dat3_A W c w
  q_eq _ _ _ := rfl
  owed_eq _ _ _ := rfl
  recorded_eq _ _ _ := trivial
  body W c := (obligation3 W c).loose
  start W c := start3 W c
  finish W c := finish3 W c _

end Cert.KernelIdeal.Run

end
-- ==== Proof.Pool.Body4.lean ====
/- The third level's pooling body: what one grid point leaves in its buffers. -/
module

public import proofs.«01_k».proof.Proof.Pool.Vec

@[expose] public section

set_option maxRecDepth 65536

noncomputable section

namespace Cert.KernelIdeal.Pool

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The pooled blocks of the third level at a grid point, one for each 128 channels, from the boxes and the image's features. -/
def block4 (i : grid4.Coords) (b : Vec F S4x5x4 .f32) (f : Vec F S1x20x10240 .f32) : ℕ → FVec F S8x128x8 .f32 := fun cb =>
  poolBlock facts20 0x41980000#32 (boxAt b _ (k4_off1_inb i)) (boxAt b _ (k4_off2_inb i)) (boxAt b _ (k4_off3_inb i)) (boxAt b _ (k4_off4_inb i)) (chunk 20 2560 f cb)

/-- The vertical matrix as the body's statements spell it. -/
def rawA4 (v5 v11 : F .f32) : FVec F S8x20 .f32 :=
  k4_pay18 v5 (k4_pay8 v5 v11) k4_pay9 k4_pay10 k4_pay11 (k4_pay14 v5 v11) (k4_pay15 v5 v11) (k4_pay16 v5 v11) (k4_pay17 v5 v11) (Scalar.ofBits .f32 0x00000000#32)

/-- The horizontal matrix, before its scaling, as the body's statements spell it. -/
def rawB4 (v2 v8 : F .f32) : FVec F S8x20 .f32 :=
  k4_pay23 v2 (k4_pay7 v2 v8) k4_pay19 k4_pay20 k4_pay21 (k4_pay22 v2 (k4_pay7 v2 v8)) (Scalar.ofBits .f32 0x00000000#32) (Scalar.ofBits .f32 0x41980000#32)

/-- The first pooled block of the third level as the body's statements spell it. -/
def first4 (v2 v5 v8 v11 : F .f32) (f : Vec F S1x20x2560 .f32) : FVec F S8x128x8 .f32 :=
  k4_pay26 (rawB4 v2 v8) (Scalar.ofBits .f32 0x3F000000#32) (k4_pay25 (rawA4 v5 v11) f)

/-- A later pooled block of the third level as the body's statements spell it. -/
def later4 (v2 v5 v8 v11 : F .f32) (f : Vec F S1x20x2560 .f32) : FVec F S8x128x8 .f32 :=
  k4_pay36 (k4_pay24 (rawB4 v2 v8) (Scalar.ofBits .f32 0x3F000000#32)) (k4_pay35 (rawA4 v5 v11) f)

theorem first4_eq (v2 v5 v8 v11 : F .f32) (f : Vec F S1x20x2560 .f32) : first4 v2 v5 v8 v11 f = poolBlock facts20 0x41980000#32 v2 v5 v8 v11 f := rfl

theorem later4_eq (v2 v5 v8 v11 : F .f32) (f : Vec F S1x20x2560 .f32) : later4 v2 v5 v8 v11 f = poolBlock facts20 0x41980000#32 v2 v5 v8 v11 f := rfl

/-- What the third level's body leaves in its result window. -/
def out4 (i : grid4.Coords) (b : Vec F S4x5x4 .f32) (f : Vec F S1x20x10240 .f32) : Vec F S1x512x49 .f32 := assemble 512 (block4 i b f)

set_option maxHeartbeats 2000000 in
theorem body4_spec (c : Dev nD) (i : grid4.Coords) (arg2 : Memref sig .tc .smem S4x5x4 .f32) (harg2 : arg2.IsWhole)
    (arg3 : Memref sig .tc .vmem S1x20x10240 .f32) (harg3 : arg3.IsWhole) (arg4 : Memref sig .tc .vmem S1x512x49 .f32) (harg4 : arg4.IsWhole)
    (arg5 : Memref sig .tc .vmem S8x128x20 .f32) (harg5 : arg5.IsWhole) (x0 : Vec F S4x5x4 .f32) (x1 : Vec F S1x20x10240 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out4 i x0 x1) ∗ (∃ d, owns (c : Thread nD τ) arg5 fullShare d)) -∗ K ⟨⟩))
      ⊢ wp frame (wpE (defs₀ (F := F)) Variants.none c none) E (cc4__roialign_body i arg2 harg2 arg3 harg3 arg4 harg4 arg5 harg5) K := by
  simp only [cc4__roialign_body_eq_skeleton]; unfold cc4__roialign_body_skel
  simp only [k4_part1_eq_skeleton, k4_part2_eq_skeleton, k4_part3_eq_skeleton, k4_part4_eq_skeleton, k4_part5_eq_skeleton, k4_part6_eq_skeleton, k4_part7_eq_skeleton, k4_part8_eq_skeleton]
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  have hV0 : first4 (boxAt (arg2.view.read (Elt F) (harg2.unread x0)) _ (k4_off1_inb i)) (boxAt (arg2.view.read (Elt F) (harg2.unread x0)) _ (k4_off2_inb i))
      (boxAt (arg2.view.read (Elt F) (harg2.unread x0)) _ (k4_off3_inb i)) (boxAt (arg2.view.read (Elt F) (harg2.unread x0)) _ (k4_off4_inb i))
      (View.readAt (Elt F) arg3.view (Rect.unit (s := S1x20x10240) ![0, 0, 0] S1x20x2560.size inb_S1x20x10240_S1x20x2560_0_0_0).toLoadRect (harg3.unread x1)) = block4 i x0 x1 0 := by
    rw [harg2.read_unread, first4_eq, readAt_eq_chunk 20 2560 0 _ _ (harg3.read_unread x1)]; rfl
  have hV1 : later4 (boxAt (arg2.view.read (Elt F) (harg2.unread x0)) _ (k4_off1_inb i)) (boxAt (arg2.view.read (Elt F) (harg2.unread x0)) _ (k4_off2_inb i))
      (boxAt (arg2.view.read (Elt F) (harg2.unread x0)) _ (k4_off3_inb i)) (boxAt (arg2.view.read (Elt F) (harg2.unread x0)) _ (k4_off4_inb i))
      (View.readAt (Elt F) arg3.view (Rect.unit (s := S1x20x10240) ![0, 0, 2560] S1x20x2560.size inb_S1x20x10240_S1x20x2560_0_0_2560).toLoadRect (harg3.unread x1)) = block4 i x0 x1 1 := by
    rw [harg2.read_unread, later4_eq, readAt_eq_chunk 20 2560 1 _ _ (harg3.read_unread x1)]; rfl
  have hV2 : later4 (boxAt (arg2.view.read (Elt F) (harg2.unread x0)) _ (k4_off1_inb i)) (boxAt (arg2.view.read (Elt F) (harg2.unread x0)) _ (k4_off2_inb i))
      (boxAt (arg2.view.read (Elt F) (harg2.unread x0)) _ (k4_off3_inb i)) (boxAt (arg2.view.read (Elt F) (harg2.unread x0)) _ (k4_off4_inb i))
      (View.readAt (Elt F) arg3.view (Rect.unit (s := S1x20x10240) ![0, 0, 5120] S1x20x2560.size inb_S1x20x10240_S1x20x2560_0_0_5120).toLoadRect (harg3.unread x1)) = block4 i x0 x1 2 := by
    rw [harg2.read_unread, later4_eq, readAt_eq_chunk 20 2560 2 _ _ (harg3.read_unread x1)]; rfl
  have hV3 : later4 (boxAt (arg2.view.read (Elt F) (harg2.unread x0)) _ (k4_off1_inb i)) (boxAt (arg2.view.read (Elt F) (harg2.unread x0)) _ (k4_off2_inb i))
      (boxAt (arg2.view.read (Elt F) (harg2.unread x0)) _ (k4_off3_inb i)) (boxAt (arg2.view.read (Elt F) (harg2.unread x0)) _ (k4_off4_inb i))
      (View.readAt (Elt F) arg3.view (Rect.unit (s := S1x20x10240) ![0, 0, 7680] S1x20x2560.size inb_S1x20x10240_S1x20x2560_0_0_7680).toLoadRect (harg3.unread x1)) = block4 i x0 x1 3 := by
    rw [harg2.read_unread, later4_eq, readAt_eq_chunk 20 2560 3 _ _ (harg3.read_unread x1)]; rfl
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    sl_unfold_words
    repeat rw [View.readCov_full]
    refine (View.read_writes_eq_canon _ _ _ (View.cover_of_tiled_head _ _ _ (by sl_kernel_rfl))).trans (funext fun y =>
      View.canon_eq_of_allAt _ y _ (View.cover_of_tiled_head _ _ _ (by sl_kernel_rfl) y) ?_)
    have e0 : ∀ (oy : ℕ) (hoy : oy < 8) (x : S1x128x7.Idx), (∀ a : Fin 3, (y a : ℕ) = (![0, 0, 7 * oy] : Fin 3 → ℕ) a + x a) →
        block4 i x0 x1 0 (ix3 ⟨oy, hoy⟩ ⟨(x 1).val, (x 1).isLt⟩ ⟨(x 2).val, lt_trans (x 2).isLt (by decide)⟩) = out4 i x0 x1 y :=
      fun oy hoy x hx => assemble_at 512 _ 0 oy hoy y x hx
    rw [← hV0] at e0
    have e1 : ∀ (oy : ℕ) (hoy : oy < 8) (x : S1x128x7.Idx), (∀ a : Fin 3, (y a : ℕ) = (![0, 128, 7 * oy] : Fin 3 → ℕ) a + x a) →
        block4 i x0 x1 1 (ix3 ⟨oy, hoy⟩ ⟨(x 1).val, (x 1).isLt⟩ ⟨(x 2).val, lt_trans (x 2).isLt (by decide)⟩) = out4 i x0 x1 y :=
      fun oy hoy x hx => assemble_at 512 _ 1 oy hoy y x hx
    rw [← hV1] at e1
    have e2 : ∀ (oy : ℕ) (hoy : oy < 8) (x : S1x128x7.Idx), (∀ a : Fin 3, (y a : ℕ) = (![0, 256, 7 * oy] : Fin 3 → ℕ) a + x a) →
        block4 i x0 x1 2 (ix3 ⟨oy, hoy⟩ ⟨(x 1).val, (x 1).isLt⟩ ⟨(x 2).val, lt_trans (x 2).isLt (by decide)⟩) = out4 i x0 x1 y :=
      fun oy hoy x hx => assemble_at 512 _ 2 oy hoy y x hx
    rw [← hV2] at e2
    have e3 : ∀ (oy : ℕ) (hoy : oy < 8) (x : S1x128x7.Idx), (∀ a : Fin 3, (y a : ℕ) = (![0, 384, 7 * oy] : Fin 3 → ℕ) a + x a) →
        block4 i x0 x1 3 (ix3 ⟨oy, hoy⟩ ⟨(x 1).val, (x 1).isLt⟩ ⟨(x 2).val, lt_trans (x 2).isLt (by decide)⟩) = out4 i x0 x1 y :=
      fun oy hoy x hx => assemble_at 512 _ 3 oy hoy y x hx
    rw [← hV3] at e3
    refine View.allAt_cons_unit _ _ _ _ _ (fun x hx => ?_) ?_
    · exact (row_apply 6 (of_decide_eq_true rfl) _ slices_S8x128x8_o6_0_0_S1x128x7 shapeCasts_S1x128x7_S128x7 shapeCasts_S128x7_S1x128x7 x).trans (e3 6 (of_decide_eq_true rfl) x hx)
    refine View.allAt_cons_unit _ _ _ _ _ (fun x hx => ?_) ?_
    · exact (row_apply 5 (of_decide_eq_true rfl) _ slices_S8x128x8_o5_0_0_S1x128x7 shapeCasts_S1x128x7_S128x7 shapeCasts_S128x7_S1x128x7 x).trans (e3 5 (of_decide_eq_true rfl) x hx)
    refine View.allAt_cons_unit _ _ _ _ _ (fun x hx => ?_) ?_
    · exact (row_apply 4 (of_decide_eq_true rfl) _ slices_S8x128x8_o4_0_0_S1x128x7 shapeCasts_S1x128x7_S128x7 shapeCasts_S128x7_S1x128x7 x).trans (e3 4 (of_decide_eq_true rfl) x hx)
    refine View.allAt_cons_unit _ _ _ _ _ (fun x hx => ?_) ?_
    · exact (row_apply 3 (of_decide_eq_true rfl) _ slices_S8x128x8_o3_0_0_S1x128x7 shapeCasts_S1x128x7_S128x7 shapeCasts_S128x7_S1x128x7 x).trans (e3 3 (of_decide_eq_true rfl) x hx)
    refine View.allAt_cons_unit _ _ _ _ _ (fun x hx => ?_) ?_
    · exact (row_apply 2 (of_decide_eq_true rfl) _ slices_S8x128x8_o2_0_0_S1x128x7 shapeCasts_S1x128x7_S128x7 shapeCasts_S128x7_S1x128x7 x).trans (e3 2 (of_decide_eq_true rfl) x hx)
    refine View.allAt_cons_unit _ _ _ _ _ (fun x hx => ?_) ?_
    · exact (row_apply 1 (of_decide_eq_true rfl) _ slices_S8x128x8_o1_0_0_S1x128x7 shapeCasts_S1x128x7_S128x7 shapeCasts_S128x7_S1x128x7 x).trans (e3 1 (of_decide_eq_true rfl) x hx)
    refine View.allAt_cons_unit _ _ _ _ _ (fun x hx => ?_) ?_
    · exact (row_apply 0 (of_decide_eq_true rfl) _ slices_S8x128x8_o0_0_0_S1x128x7 shapeCasts_S1x128x7_S128x7 shapeCasts_S128x7_S1x128x7 x).trans (e3 0 (of_decide_eq_true rfl) x hx)
    refine View.allAt_cons_unit _ _ _ _ _ (fun x hx => ?_) ?_
    · exact (row_apply 6 (of_decide_eq_true rfl) _ slices_S8x128x8_o6_0_0_S1x128x7 shapeCasts_S1x128x7_S128x7 shapeCasts_S128x7_S1x128x7 x).trans (e2 6 (of_decide_eq_true rfl) x hx)
    refine View.allAt_cons_unit _ _ _ _ _ (fun x hx => ?_) ?_
    · exact (row_apply 5 (of_decide_eq_true rfl) _ slices_S8x128x8_o5_0_0_S1x128x7 shapeCasts_S1x128x7_S128x7 shapeCasts_S128x7_S1x128x7 x).trans (e2 5 (of_decide_eq_true rfl) x hx)
    refine View.allAt_cons_unit _ _ _ _ _ (fun x hx => ?_) ?_
    · exact (row_apply 4 (of_decide_eq_true rfl) _ slices_S8x128x8_o4_0_0_S1x128x7 shapeCasts_S1x128x7_S128x7 shapeCasts_S128x7_S1x128x7 x).trans (e2 4 (of_decide_eq_true rfl) x hx)
    refine View.allAt_cons_unit _ _ _ _ _ (fun x hx => ?_) ?_
    · exact (row_apply 3 (of_decide_eq_true rfl) _ slices_S8x128x8_o3_0_0_S1x128x7 shapeCasts_S1x128x7_S128x7 shapeCasts_S128x7_S1x128x7 x).trans (e2 3 (of_decide_eq_true rfl) x hx)
    refine View.allAt_cons_unit _ _ _ _ _ (fun x hx => ?_) ?_
    · exact (row_apply 2 (of_decide_eq_true rfl) _ slices_S8x128x8_o2_0_0_S1x128x7 shapeCasts_S1x128x7_S128x7 shapeCasts_S128x7_S1x128x7 x).trans (e2 2 (of_decide_eq_true rfl) x hx)
    refine View.allAt_cons_unit _ _ _ _ _ (fun x hx => ?_) ?_
    · exact (row_apply 1 (of_decide_eq_true rfl) _ slices_S8x128x8_o1_0_0_S1x128x7 shapeCasts_S1x128x7_S128x7 shapeCasts_S128x7_S1x128x7 x).trans (e2 1 (of_decide_eq_true rfl) x hx)
    refine View.allAt_cons_unit _ _ _ _ _ (fun x hx => ?_) ?_
    · exact (row_apply 0 (of_decide_eq_true rfl) _ slices_S8x128x8_o0_0_0_S1x128x7 shapeCasts_S1x128x7_S128x7 shapeCasts_S128x7_S1x128x7 x).trans (e2 0 (of_decide_eq_true rfl) x hx)
    refine View.allAt_cons_unit _ _ _ _ _ (fun x hx => ?_) ?_
    · exact (row_apply 6 (of_decide_eq_true rfl) _ slices_S8x128x8_o6_0_0_S1x128x7 shapeCasts_S1x128x7_S128x7 shapeCasts_S128x7_S1x128x7 x).trans (e1 6 (of_decide_eq_true rfl) x hx)
    refine View.allAt_cons_unit _ _ _ _ _ (fun x hx => ?_) ?_
    · exact (row_apply 5 (of_decide_eq_true rfl) _ slices_S8x128x8_o5_0_0_S1x128x7 shapeCasts_S1x128x7_S128x7 shapeCasts_S128x7_S1x128x7 x).trans (e1 5 (of_decide_eq_true rfl) x hx)
    refine View.allAt_cons_unit _ _ _ _ _ (fun x hx => ?_) ?_
    · exact (row_apply 4 (of_decide_eq_true rfl) _ slices_S8x128x8_o4_0_0_S1x128x7 shapeCasts_S1x128x7_S128x7 shapeCasts_S128x7_S1x128x7 x).trans (e1 4 (of_decide_eq_true rfl) x hx)
    refine View.allAt_cons_unit _ _ _ _ _ (fun x hx => ?_) ?_
    · exact (row_apply 3 (of_decide_eq_true rfl) _ slices_S8x128x8_o3_0_0_S1x128x7 shapeCasts_S1x128x7_S128x7 shapeCasts_S128x7_S1x128x7 x).trans (e1 3 (of_decide_eq_true rfl) x hx)
    refine View.allAt_cons_unit _ _ _ _ _ (fun x hx => ?_) ?_
    · exact (row_apply 2 (of_decide_eq_true rfl) _ slices_S8x128x8_o2_0_0_S1x128x7 shapeCasts_S1x128x7_S128x7 shapeCasts_S128x7_S1x128x7 x).trans (e1 2 (of_decide_eq_true rfl) x hx)
    refine View.allAt_cons_unit _ _ _ _ _ (fun x hx => ?_) ?_
    · exact (row_apply 1 (of_decide_eq_true rfl) _ slices_S8x128x8_o1_0_0_S1x128x7 shapeCasts_S1x128x7_S128x7 shapeCasts_S128x7_S1x128x7 x).trans (e1 1 (of_decide_eq_true rfl) x hx)
    refine View.allAt_cons_unit _ _ _ _ _ (fun x hx => ?_) ?_
    · exact (row_apply 0 (of_decide_eq_true rfl) _ slices_S8x128x8_o0_0_0_S1x128x7 shapeCasts_S1x128x7_S128x7 shapeCasts_S128x7_S1x128x7 x).trans (e1 0 (of_decide_eq_true rfl) x hx)
    refine View.allAt_cons_unit _ _ _ _ _ (fun x hx => ?_) ?_
    · exact (row_apply 6 (of_decide_eq_true rfl) _ slices_S8x128x8_o6_0_0_S1x128x7 shapeCasts_S1x128x7_S128x7 shapeCasts_S128x7_S1x128x7 x).trans (e0 6 (of_decide_eq_true rfl) x hx)
    refine View.allAt_cons_unit _ _ _ _ _ (fun x hx => ?_) ?_
    · exact (row_apply 5 (of_decide_eq_true rfl) _ slices_S8x128x8_o5_0_0_S1x128x7 shapeCasts_S1x128x7_S128x7 shapeCasts_S128x7_S1x128x7 x).trans (e0 5 (of_decide_eq_true rfl) x hx)
    refine View.allAt_cons_unit _ _ _ _ _ (fun x hx => ?_) ?_
    · exact (row_apply 4 (of_decide_eq_true rfl) _ slices_S8x128x8_o4_0_0_S1x128x7 shapeCasts_S1x128x7_S128x7 shapeCasts_S128x7_S1x128x7 x).trans (e0 4 (of_decide_eq_true rfl) x hx)
    refine View.allAt_cons_unit _ _ _ _ _ (fun x hx => ?_) ?_
    · exact (row_apply 3 (of_decide_eq_true rfl) _ slices_S8x128x8_o3_0_0_S1x128x7 shapeCasts_S1x128x7_S128x7 shapeCasts_S128x7_S1x128x7 x).trans (e0 3 (of_decide_eq_true rfl) x hx)
    refine View.allAt_cons_unit _ _ _ _ _ (fun x hx => ?_) ?_
    · exact (row_apply 2 (of_decide_eq_true rfl) _ slices_S8x128x8_o2_0_0_S1x128x7 shapeCasts_S1x128x7_S128x7 shapeCasts_S128x7_S1x128x7 x).trans (e0 2 (of_decide_eq_true rfl) x hx)
    refine View.allAt_cons_unit _ _ _ _ _ (fun x hx => ?_) ?_
    · exact (row_apply 1 (of_decide_eq_true rfl) _ slices_S8x128x8_o1_0_0_S1x128x7 shapeCasts_S1x128x7_S128x7 shapeCasts_S128x7_S1x128x7 x).trans (e0 1 (of_decide_eq_true rfl) x hx)
    refine View.allAt_cons_unit _ _ _ _ _ (fun x hx => ?_) ?_
    · exact (row_apply 0 (of_decide_eq_true rfl) _ slices_S8x128x8_o0_0_0_S1x128x7 shapeCasts_S1x128x7_S128x7 shapeCasts_S128x7_S1x128x7 x).trans (e0 0 (of_decide_eq_true rfl) x hx)
    exact View.allAt_nil _ _
  iexists _; iexists _; isplitr; swap; · iexact HS0
  ipureintro; rfl

end Cert.KernelIdeal.Pool

end
-- ==== Proof.Run.Pool4.lean ====
/- The third level's pooling call: its blocks, its proof data and its body at a grid point. -/
module

public import proofs.«01_k».proof.Proof.Run.Kit
public import proofs.«01_k».proof.Proof.Pool.Body4

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The block of a window at a point, in the array as the call finds it. -/
def blk4 (W : Contents F) (c : Dev nD) (w : Fin cfg4.W) (t : Fin cfg4.N) : ((cfg4.win w).xblock (cfg4.grid.coords t)).Idx → Elt F (cfg4.win w).elt :=
  ((cfg4.win w).blk t).view.read (Elt F) (atRefs W c (Pipeline.arrRef spec4 w))

/-- The proof data: the inputs' blocks stay, the result's block is the body's value. -/
def dat4 (W : Contents F) (c : Dev nD) : Dat τ (Elt F) Unit ℕ (UR sig nD τ) ℕ cfg4 c where
  A w := W c (Pipeline.arrRef spec4 w)
  after w t := match w with
    | ⟨0, _⟩ => blk4 W c 0 t
    | ⟨1, _⟩ => blk4 W c 1 t
    | ⟨2, _⟩ => Pool.out4 (grid4.coords t) (blk4 W c 0 t) (blk4 W c 1 t)
  Φ _ := Pipeline.ΦA spec4 c
  q _ := fullShare
  owed _ := 0

variable (W : Contents F) (c : Dev nD)

theorem dat4_A (w : Fin cfg4.W) : (dat4 W c).A w = W c (Pipeline.arrRef spec4 w) := by dsimp only [dat4]
theorem dat4_after_0 (t : Fin cfg4.N) : (dat4 W c).after 0 t = blk4 W c 0 t := by dsimp only [dat4]
theorem dat4_after_1 (t : Fin cfg4.N) : (dat4 W c).after 1 t = blk4 W c 1 t := by dsimp only [dat4]
theorem dat4_after_2 (t : Fin cfg4.N) : (dat4 W c).after 2 t = Pool.out4 (grid4.coords t) (blk4 W c 0 t) (blk4 W c 1 t) := by dsimp only [dat4]

theorem dat4_before_0 (t : Fin cfg4.N) (d) : (dat4 W c).before 0 t d = blk4 W c 0 t :=
  ((dat4 W c).before_in_eq_fetched 0 rfl (fun _ => rfl) (fun _ _ _ => rfl)
    (fun t => by rw [dat4_after_0]; unfold Dat.blockOf blk4; rw [dat4_A]) t d).trans
    (by unfold Dat.fetched Dat.blockOf blk4; rw [dat4_A]; rfl)
theorem dat4_before_1 (t : Fin cfg4.N) (d) : (dat4 W c).before 1 t d = blk4 W c 1 t :=
  ((dat4 W c).before_in_eq_fetched 1 rfl (fun _ => rfl) (fun _ _ _ => rfl)
    (fun t => by rw [dat4_after_1]; unfold Dat.blockOf blk4; rw [dat4_A]) t d).trans
    (by unfold Dat.fetched Dat.blockOf blk4; rw [dat4_A]; rfl)

/-- The body at any point takes the windows' blocks to the proof data's. -/
theorem sound4 (t : Fin cfg4.N) :
    iprop((dat4 W c).Φ t.castSucc ∗ (dat4 W c).owesAt () t.castSucc
      ∗ (∃ d, owns (c : Thread nD τ) (win4_0.stage (cfg4.slots t 0)) fullShare ((dat4 W c).before 0 t d))
      ∗ (∃ d, owns (c : Thread nD τ) (win4_1.stage (cfg4.slots t 1)) fullShare ((dat4 W c).before 1 t d))
      ∗ (∃ d, owns (c : Thread nD τ) (win4_2.stage (cfg4.slots t 2)) fullShare ((dat4 W c).before 2 t d)))
    ⊢ wp frame (wpE (defs₀ (F := F)) Variants.none c none) Set.univ (bodyAt4 t) (fun _ => iprop((dat4 W c).Φ t.succ ∗ (dat4 W c).owesAt () t.succ
      ∗ owns (c : Thread nD τ) (win4_0.stage (cfg4.slots t 0)) fullShare ((dat4 W c).after 0 t)
      ∗ owns (c : Thread nD τ) (win4_1.stage (cfg4.slots t 1)) fullShare ((dat4 W c).after 1 t)
      ∗ owns (c : Thread nD τ) (win4_2.stage (cfg4.slots t 2)) fullShare ((dat4 W c).after 2 t))) := by
  unfold bodyAt4
  simp only [dat4_before_0, dat4_before_1]
  rw [show (dat4 W c).Φ t.succ = Pipeline.ΦA spec4 c from rfl, show (dat4 W c).owesAt () t.succ = (dat4 W c).owesAt () t.castSucc from rfl,
    dat4_after_0, dat4_after_1, dat4_after_2, show (dat4 W c).Φ t.castSucc = Pipeline.ΦA spec4 c from rfl]
  unfold Pipeline.ΦA
  rw [scopedRest4_split]
  simp only [← owns_whole]
  iintro ⟨⟨⟨HS, HR⟩, Hg⟩, Ho, ⟨%d0, H0⟩, ⟨%d1, H1⟩, ⟨%d2, H2⟩⟩
  iapply (Pool.body4_spec c (grid4.coords t) _ _ _ _ _ _ _ _ (blk4 W c 0 t) (blk4 W c 1 t) Set.univ _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

theorem defs4_at (t : Fin cfg4.N) : defs₀ (F := F) .tc cfg4.body (cfg4.bodyArgs t (cfg4.slots t)) = bodyAt4 t := by
  unfold defs₀; rw [Defs.onTc_tc]

theorem obligation4 : BodyObligation (dat4 (F := F) W c) (defs₀ (F := F)) Variants.none () Set.univ := fun t => by
  rw [bigSep_W4, bigSep_W4, defs4_at]
  exact triple_restated (sound4 W c t) rfl .rfl fun _ => .rfl

/-- The third level's pooling call. -/
def leg4 : Leg F 4 where
  dat W c := dat4 W c
  A_eq W c w := dat4_A W c w
  q_eq _ _ _ := rfl
  owed_eq _ _ _ := rfl
  recorded_eq _ _ _ := trivial
  body W c := (obligation4 W c).loose
  start _ _ := .rfl
  finish _ _ := .rfl

end Cert.KernelIdeal.Run

end
-- ==== Proof.Run.Mlp5.lean ====
/- The third level's perceptron call: its blocks, its accumulator point by point, its proof data and its body at a grid point. -/
module

public import proofs.«01_k».proof.Proof.Run.Kit
public import proofs.«01_k».proof.Proof.Mlp.Step

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

/-- The block of a window at a point, in the array as the call finds it. -/
def blk5 (W : Contents F) (c : Dev nD) (w : Fin cfg5.W) (t : Fin cfg5.N) : ((cfg5.win w).xblock (cfg5.grid.coords t)).Idx → Elt F (cfg5.win w).elt :=
  ((cfg5.win w).blk t).view.read (Elt F) (atRefs W c (Pipeline.arrRef spec5 w))

/-- The accumulator before point `n`: zeros, then one block product more at each point. -/
def acc5 (W : Contents F) (c : Dev nD) : ℕ → Vec F S20x1024 .f32
  | 0 => k1_pay1
  | n + 1 => if h : n < cfg5.N then Mlp.accStep (acc5 W c n) (blk5 W c 0 ⟨n, h⟩) (blk5 W c 1 ⟨n, h⟩) else acc5 W c n

/-- The accumulator's buffer. -/
abbrev scratch5 : Memref sig .tc .vmem S20x1024 .f32 := Memref.whole cc5_scratch0

/-- What holds between points: the accumulator is `acc5` (anything before the first point). -/
def between5 (W : Contents F) (c : Dev nD) (n : ℕ) : sProp 𝕄 :=
  iprop(((∃ d, ⌜n ≠ 0 → d = acc5 W c n⌝ ∗ owns (c : Thread nD τ) scratch5 fullShare d)
    ∗ Pipeline.scopedRestBut (Ix := Unit) (Name := ℕ) (U := UR sig nD τ) (Lvl := ℕ) (Val := Elt F) spec5 c [cc5_scratch0]) ∗ (∃ r, prngReg c r))

/-- The proof data: the operands' blocks stay, the result is the loss of the accumulator so far. -/
def dat5 (W : Contents F) (c : Dev nD) : Dat τ (Elt F) Unit ℕ (UR sig nD τ) ℕ cfg5 c where
  A w := W c (Pipeline.arrRef spec5 w)
  after w t := match w with
    | ⟨0, _⟩ => blk5 W c 0 t
    | ⟨1, _⟩ => blk5 W c 1 t
    | ⟨2, _⟩ => blk5 W c 2 t
    | ⟨3, _⟩ => blk5 W c 3 t
    | ⟨4, _⟩ => blk5 W c 4 t
    | ⟨5, _⟩ => blk5 W c 5 t
    | ⟨6, _⟩ => blk5 W c 6 t
    | ⟨7, _⟩ => blk5 W c 7 t
    | ⟨8, _⟩ => Mlp.lossOf (acc5 W c (t.val + 1)) (blk5 W c 2 t) (blk5 W c 3 t) (blk5 W c 4 t) (blk5 W c 5 t) (blk5 W c 6 t Mlp.at0) (blk5 W c 7 t)
  Φ t := between5 W c t.val
  q _ := fullShare
  owed _ := 0

variable (W : Contents F) (c : Dev nD)

theorem dat5_A (w : Fin cfg5.W) : (dat5 W c).A w = W c (Pipeline.arrRef spec5 w) := by dsimp only [dat5]
theorem dat5_after_0 (t : Fin cfg5.N) : (dat5 W c).after 0 t = blk5 W c 0 t := by dsimp only [dat5]
theorem dat5_after_1 (t : Fin cfg5.N) : (dat5 W c).after 1 t = blk5 W c 1 t := by dsimp only [dat5]
theorem dat5_after_2 (t : Fin cfg5.N) : (dat5 W c).after 2 t = blk5 W c 2 t := by dsimp only [dat5]
theorem dat5_after_3 (t : Fin cfg5.N) : (dat5 W c).after 3 t = blk5 W c 3 t := by dsimp only [dat5]
theorem dat5_after_4 (t : Fin cfg5.N) : (dat5 W c).after 4 t = blk5 W c 4 t := by dsimp only [dat5]
theorem dat5_after_5 (t : Fin cfg5.N) : (dat5 W c).after 5 t = blk5 W c 5 t := by dsimp only [dat5]
theorem dat5_after_6 (t : Fin cfg5.N) : (dat5 W c).after 6 t = blk5 W c 6 t := by dsimp only [dat5]
theorem dat5_after_7 (t : Fin cfg5.N) : (dat5 W c).after 7 t = blk5 W c 7 t := by dsimp only [dat5]
theorem dat5_before_0 (t : Fin cfg5.N) (d) : (dat5 W c).before 0 t d = blk5 W c 0 t :=
  ((dat5 W c).before_in_eq_fetched 0 rfl (fun _ => rfl) (fun _ _ _ => rfl)
    (fun t => by rw [dat5_after_0]; unfold Dat.blockOf blk5; rw [dat5_A]) t d).trans
    (by unfold Dat.fetched Dat.blockOf blk5; rw [dat5_A]; rfl)
theorem dat5_before_1 (t : Fin cfg5.N) (d) : (dat5 W c).before 1 t d = blk5 W c 1 t :=
  ((dat5 W c).before_in_eq_fetched 1 rfl (fun _ => rfl) (fun _ _ _ => rfl)
    (fun t => by rw [dat5_after_1]; unfold Dat.blockOf blk5; rw [dat5_A]) t d).trans
    (by unfold Dat.fetched Dat.blockOf blk5; rw [dat5_A]; rfl)
theorem dat5_before_2 (t : Fin cfg5.N) (d) : (dat5 W c).before 2 t d = blk5 W c 2 t :=
  ((dat5 W c).before_in_eq_fetched 2 rfl (fun _ => rfl) (fun _ _ _ => rfl)
    (fun t => by rw [dat5_after_2]; unfold Dat.blockOf blk5; rw [dat5_A]) t d).trans
    (by unfold Dat.fetched Dat.blockOf blk5; rw [dat5_A]; rfl)
theorem dat5_before_3 (t : Fin cfg5.N) (d) : (dat5 W c).before 3 t d = blk5 W c 3 t :=
  ((dat5 W c).before_in_eq_fetched 3 rfl (fun _ => rfl) (fun _ _ _ => rfl)
    (fun t => by rw [dat5_after_3]; unfold Dat.blockOf blk5; rw [dat5_A]) t d).trans
    (by unfold Dat.fetched Dat.blockOf blk5; rw [dat5_A]; rfl)
theorem dat5_before_4 (t : Fin cfg5.N) (d) : (dat5 W c).before 4 t d = blk5 W c 4 t :=
  ((dat5 W c).before_in_eq_fetched 4 rfl (fun _ => rfl) (fun _ _ _ => rfl)
    (fun t => by rw [dat5_after_4]; unfold Dat.blockOf blk5; rw [dat5_A]) t d).trans
    (by unfold Dat.fetched Dat.blockOf blk5; rw [dat5_A]; rfl)
theorem dat5_before_5 (t : Fin cfg5.N) (d) : (dat5 W c).before 5 t d = blk5 W c 5 t :=
  ((dat5 W c).before_in_eq_fetched 5 rfl (fun _ => rfl) (fun _ _ _ => rfl)
    (fun t => by rw [dat5_after_5]; unfold Dat.blockOf blk5; rw [dat5_A]) t d).trans
    (by unfold Dat.fetched Dat.blockOf blk5; rw [dat5_A]; rfl)
theorem dat5_before_6 (t : Fin cfg5.N) (d) : (dat5 W c).before 6 t d = blk5 W c 6 t :=
  ((dat5 W c).before_in_eq_fetched 6 rfl (fun _ => rfl) (fun _ _ _ => rfl)
    (fun t => by rw [dat5_after_6]; unfold Dat.blockOf blk5; rw [dat5_A]) t d).trans
    (by unfold Dat.fetched Dat.blockOf blk5; rw [dat5_A]; rfl)
theorem dat5_before_7 (t : Fin cfg5.N) (d) : (dat5 W c).before 7 t d = blk5 W c 7 t :=
  ((dat5 W c).before_in_eq_fetched 7 rfl (fun _ => rfl) (fun _ _ _ => rfl)
    (fun t => by rw [dat5_after_7]; unfold Dat.blockOf blk5; rw [dat5_A]) t d).trans
    (by unfold Dat.fetched Dat.blockOf blk5; rw [dat5_A]; rfl)
/-- An operand's buffer is handed back holding its block. -/
theorem dat5_leaves_0 (t : Fin cfg5.N) : (dat5 W c).leavesExact 0 t = owns (c : Thread nD τ) (win5_0.stage (cfg5.slots t 0)) fullShare (blk5 W c 0 t) := by
  unfold Dat.leavesExact; rw [show cfg5.idle 0 (grid5.coords t) = false from rfl, dat5_after_0]
theorem dat5_leaves_1 (t : Fin cfg5.N) : (dat5 W c).leavesExact 1 t = owns (c : Thread nD τ) (win5_1.stage (cfg5.slots t 1)) fullShare (blk5 W c 1 t) := by
  unfold Dat.leavesExact; rw [show cfg5.idle 1 (grid5.coords t) = false from rfl, dat5_after_1]
theorem dat5_leaves_2 (t : Fin cfg5.N) : (dat5 W c).leavesExact 2 t = owns (c : Thread nD τ) (win5_2.stage (cfg5.slots t 2)) fullShare (blk5 W c 2 t) := by
  unfold Dat.leavesExact; rw [show cfg5.idle 2 (grid5.coords t) = false from rfl, dat5_after_2]
theorem dat5_leaves_3 (t : Fin cfg5.N) : (dat5 W c).leavesExact 3 t = owns (c : Thread nD τ) (win5_3.stage (cfg5.slots t 3)) fullShare (blk5 W c 3 t) := by
  unfold Dat.leavesExact; rw [show cfg5.idle 3 (grid5.coords t) = false from rfl, dat5_after_3]
theorem dat5_leaves_4 (t : Fin cfg5.N) : (dat5 W c).leavesExact 4 t = owns (c : Thread nD τ) (win5_4.stage (cfg5.slots t 4)) fullShare (blk5 W c 4 t) := by
  unfold Dat.leavesExact; rw [show cfg5.idle 4 (grid5.coords t) = false from rfl, dat5_after_4]
theorem dat5_leaves_5 (t : Fin cfg5.N) : (dat5 W c).leavesExact 5 t = owns (c : Thread nD τ) (win5_5.stage (cfg5.slots t 5)) fullShare (blk5 W c 5 t) := by
  unfold Dat.leavesExact; rw [show cfg5.idle 5 (grid5.coords t) = false from rfl, dat5_after_5]
theorem dat5_leaves_6 (t : Fin cfg5.N) : (dat5 W c).leavesExact 6 t = owns (c : Thread nD τ) (win5_6.stage (cfg5.slots t 6)) fullShare (blk5 W c 6 t) := by
  unfold Dat.leavesExact; rw [show cfg5.idle 6 (grid5.coords t) = false from rfl, dat5_after_6]
theorem dat5_leaves_7 (t : Fin cfg5.N) : (dat5 W c).leavesExact 7 t = owns (c : Thread nD τ) (win5_7.stage (cfg5.slots t 7)) fullShare (blk5 W c 7 t) := by
  unfold Dat.leavesExact; rw [show cfg5.idle 7 (grid5.coords t) = false from rfl, dat5_after_7]
theorem dat5_after_8 (t : Fin cfg5.N) : (dat5 W c).after 8 t = Mlp.lossOf (acc5 W c (t.val + 1)) (blk5 W c 2 t) (blk5 W c 3 t) (blk5 W c 4 t) (blk5 W c 5 t) (blk5 W c 6 t Mlp.at0) (blk5 W c 7 t) := by
  dsimp only [dat5]

theorem first5 : ∀ t : Fin cfg5.N, Mlp.firstAt (grid5.coords t 0).val = 1#1 ↔ t.val = 0 := by decide +kernel
theorem last5 : ∀ t : Fin cfg5.N, k5_cond2 (grid5.coords t) = 1#1 ↔ t.val = 27 := by decide +kernel
theorem idle5_8 : ∀ t : Fin cfg5.N, t.val ≠ 27 → cfg5.idle 8 (grid5.coords t) = true := by decide +kernel
theorem live5_8 : ∀ t : Fin cfg5.N, t.val = 27 → cfg5.idle 8 (grid5.coords t) = false := by decide +kernel
theorem flush5_8' : ∀ t : Fin cfg5.N, t.val ≠ 27 → (cfg5.win 8).flush t = false := by decide +kernel

/-- One point more of the accumulator. -/
theorem acc5_next (t : Fin cfg5.N) (d : Vec F S20x1024 .f32) (hd : t.val ≠ 0 → d = acc5 W c t.val) :
    Mlp.accStep (if Mlp.firstAt (grid5.coords t 0).val = 1#1 then k1_pay1 else d) (blk5 W c 0 t) (blk5 W c 1 t) = acc5 W c (t.val + 1) := by
  have h0 : (if Mlp.firstAt (grid5.coords t 0).val = 1#1 then k1_pay1 else d) = acc5 W c t.val := by
    by_cases h : t.val = 0
    · rw [if_pos ((first5 t).mpr h), h]; rfl
    · rw [if_neg (fun e => h ((first5 t).mp e)), hd h]
  rw [h0]
  show _ = if h : t.val < cfg5.N then Mlp.accStep (acc5 W c t.val) (blk5 W c 0 ⟨t.val, h⟩) (blk5 W c 1 ⟨t.val, h⟩) else acc5 W c t.val
  rw [dif_pos t.isLt]

/-- The result's buffer after the body is what the point hands back. -/
theorem dat5_leaves_8 (t : Fin cfg5.N) (d) (d9 : Vec F S1x1 .f32) (h9 : d9 = (dat5 W c).before 8 t d) :
    (owns (c : Thread nD τ) (win5_8.stage (cfg5.slots t 8)) fullShare
      (if k5_cond2 (grid5.coords t) = 1#1 then Mlp.lossOf (acc5 W c (t.val + 1)) (blk5 W c 2 t) (blk5 W c 3 t) (blk5 W c 4 t) (blk5 W c 5 t) (blk5 W c 6 t Mlp.at0) (blk5 W c 7 t) else d9) : sProp 𝕄)
    ⊢ (dat5 W c).leavesExact 8 t := by
  by_cases h : t.val = 27
  · rw [if_pos ((last5 t).mpr h), ← dat5_after_8]
    unfold Dat.leavesExact; rw [live5_8 t h]
  · rw [if_neg (fun e => h ((last5 t).mp e)), Dat.leavesExact_idle (dat5 W c) 8 t (idle5_8 t h) (flush5_8' t h), h9]
    iintro H; iexists _; iexact H

set_option maxHeartbeats 2000000 in
/-- The body at any point takes the windows' blocks to the proof data's. -/
theorem sound5 (t : Fin cfg5.N) :
    iprop((dat5 W c).Φ t.castSucc ∗ (dat5 W c).owesAt () t.castSucc
      ∗ (∃ d, owns (c : Thread nD τ) (win5_0.stage (cfg5.slots t 0)) fullShare ((dat5 W c).before 0 t d))
      ∗ (∃ d, owns (c : Thread nD τ) (win5_1.stage (cfg5.slots t 1)) fullShare ((dat5 W c).before 1 t d))
      ∗ (∃ d, owns (c : Thread nD τ) (win5_2.stage (cfg5.slots t 2)) fullShare ((dat5 W c).before 2 t d))
      ∗ (∃ d, owns (c : Thread nD τ) (win5_3.stage (cfg5.slots t 3)) fullShare ((dat5 W c).before 3 t d))
      ∗ (∃ d, owns (c : Thread nD τ) (win5_4.stage (cfg5.slots t 4)) fullShare ((dat5 W c).before 4 t d))
      ∗ (∃ d, owns (c : Thread nD τ) (win5_5.stage (cfg5.slots t 5)) fullShare ((dat5 W c).before 5 t d))
      ∗ (∃ d, owns (c : Thread nD τ) (win5_6.stage (cfg5.slots t 6)) fullShare ((dat5 W c).before 6 t d))
      ∗ (∃ d, owns (c : Thread nD τ) (win5_7.stage (cfg5.slots t 7)) fullShare ((dat5 W c).before 7 t d))
      ∗ (∃ d, owns (c : Thread nD τ) (win5_8.stage (cfg5.slots t 8)) fullShare ((dat5 W c).before 8 t d)))
    ⊢ wp frame (wpE (defs₀ (F := F)) Variants.none c none) Set.univ (bodyAt5 t) (fun _ => iprop((dat5 W c).Φ t.succ ∗ (dat5 W c).owesAt () t.succ
      ∗ (dat5 W c).leavesExact 0 t
      ∗ (dat5 W c).leavesExact 1 t
      ∗ (dat5 W c).leavesExact 2 t
      ∗ (dat5 W c).leavesExact 3 t
      ∗ (dat5 W c).leavesExact 4 t
      ∗ (dat5 W c).leavesExact 5 t
      ∗ (dat5 W c).leavesExact 6 t
      ∗ (dat5 W c).leavesExact 7 t
      ∗ (dat5 W c).leavesExact 8 t)) := by
  unfold bodyAt5
  rw [Mlp.body5_eq]
  simp only [dat5_before_0, dat5_before_1, dat5_before_2, dat5_before_3, dat5_before_4, dat5_before_5, dat5_before_6, dat5_before_7, dat5_leaves_0, dat5_leaves_1, dat5_leaves_2, dat5_leaves_3, dat5_leaves_4, dat5_leaves_5, dat5_leaves_6, dat5_leaves_7]
  rw [show (dat5 W c).Φ t.succ = between5 W c (t.val + 1) from rfl, show (dat5 W c).owesAt () t.succ = (dat5 W c).owesAt () t.castSucc from rfl,
    show (dat5 W c).Φ t.castSucc = between5 W c t.val from rfl]
  unfold between5
  iintro ⟨⟨⟨⟨%d, %hd, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (Mlp.step_spec _ _ _ _ _ _ _ _ _ _ _ _ _ _ _ _ _ _ _ _ c _ _ (blk5 W c 0 t) (blk5 W c 1 t) (blk5 W c 2 t) (blk5 W c 3 t) (blk5 W c 4 t) (blk5 W c 5 t) (blk5 W c 6 t) (blk5 W c 7 t) _ d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  rw [acc5_next W c t d hd]
  iintro ⟨H0, H1, H2, H3, H4, H5, H6, H7, H8, HS⟩
  isplitl [HS HR Hg]
  · isplitl [HS HR]
    · isplitl [HS]
      · iexists _; isplitr
        swap; · iexact HS
        ipureintro; exact fun _ => rfl
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (dat5_leaves_8 W c t d8 _ rfl)
  iexact H8

theorem defs5_at (t : Fin cfg5.N) : defs₀ (F := F) .tc cfg5.body (cfg5.bodyArgs t (cfg5.slots t)) = bodyAt5 t := by
  unfold defs₀; rw [Defs.onTc_tc]

theorem obligation5 : BodyObligation (dat5 (F := F) W c) (defs₀ (F := F)) Variants.none () Set.univ := fun t => by
  rw [bigSep_W5, bigSep_W5, defs5_at]
  exact triple_restated (sound5 W c t) rfl .rfl fun _ => .rfl

/-- The scoped buffers and the generator register are what holds before the first point, -/
theorem start5 : (Pipeline.ΦA spec5 c : sProp 𝕄) ⊢ between5 W c 0 := by
  unfold Pipeline.ΦA between5
  rw [scopedRest5_split]
  simp only [scratch5, owns_whole]
  iintro ⟨⟨⟨%f, HS⟩, HR⟩, Hg⟩
  isplitl [HS HR]
  · isplitl [HS]
    · iexists f; isplitr; · ipureintro; exact fun h => absurd rfl h
      iexact HS
    iexact HR
  iexact Hg

/-- and are given back after any. -/
theorem finish5 (n : ℕ) : between5 W c n ⊢ (Pipeline.ΦA spec5 c : sProp 𝕄) := by
  unfold Pipeline.ΦA between5
  rw [scopedRest5_split]
  simp only [scratch5, owns_whole]
  iintro ⟨⟨⟨%d, -, HS⟩, HR⟩, Hg⟩
  isplitl [HS HR]
  · isplitl [HS]; · iexists _; iexact HS
    iexact HR
  iexact Hg

/-- The third level's perceptron call. -/
def leg5 : Leg F 5 where
  dat W c := dat5 W c
  A_eq W c w := dat5_A W c w
  q_eq _ _ _ := rfl
  owed_eq _ _ _ := rfl
  recorded_eq _ _ _ := trivial
  body W c := (obligation5 W c).loose
  start W c := start5 W c
  finish W c := finish5 W c _

end Cert.KernelIdeal.Run

end
-- ==== Proof.Run.Chain.lean ====
/- The run of the whole program: the buffers' contents at every boundary between host statements and kernel calls,
   and the theorem that every execution ends with every buffer at the last of them. -/
module

public import proofs.«01_k».proof.Proof.Run.Pool0
public import proofs.«01_k».proof.Proof.Run.Mlp1
public import proofs.«01_k».proof.Proof.Run.Pool2
public import proofs.«01_k».proof.Proof.Run.Mlp3
public import proofs.«01_k».proof.Proof.Run.Pool4
public import proofs.«01_k».proof.Proof.Run.Mlp5

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The six calls. -/
def legs : (p : Fin 6) → Leg F p
  | ⟨0, _⟩ => leg0 | ⟨1, _⟩ => leg1 | ⟨2, _⟩ => leg2 | ⟨3, _⟩ => leg3 | ⟨4, _⟩ => leg4 | ⟨5, _⟩ => leg5

variable (m : (ℓ : Loc nD τ sig) → Buf (Elt F) ℓ) (ρ : Dev nD → PrngReg)

/-- The buffers at launch, and after each stretch of host statements and each call in turn. -/
def W0 : Contents F := fun c b => m (c, b)
def W1 : Contents F := fun c => StableHlo.after hostOps0 (W0 m c)
def W2 : Contents F := exitOf leg0 (W1 m)
def W3 : Contents F := fun c => StableHlo.after hostOps1 (W2 m c)
def W4 : Contents F := exitOf leg1 (W3 m)
def W5 : Contents F := fun c => StableHlo.after hostOps2 (W4 m c)
def W6 : Contents F := exitOf leg2 (W5 m)
def W7 : Contents F := fun c => StableHlo.after hostOps3 (W6 m c)
def W8 : Contents F := exitOf leg3 (W7 m)
def W9 : Contents F := fun c => StableHlo.after hostOps4 (W8 m c)
def W10 : Contents F := exitOf leg4 (W9 m)
def W11 : Contents F := fun c => StableHlo.after hostOps5 (W10 m c)
def W12 : Contents F := exitOf leg5 (W11 m)
def W13 : Contents F := fun c => StableHlo.after hostOps6 (W12 m c)

/-- What each call is entered at. -/
def entries : Fin 6 → Contents F
  | ⟨0, _⟩ => W1 m | ⟨1, _⟩ => W3 m | ⟨2, _⟩ => W5 m | ⟨3, _⟩ => W7 m | ⟨4, _⟩ => W9 m | ⟨5, _⟩ => W11 m

/-- The program in order: host statements and calls in turn. -/
abbrev segs : List (Pipeline.Seg (pcfgs (F := F)) noTables (datas legs (entries m)) () defs₀ Variants.none levels levelOf) :=
  [ .host (hostOf hostOps0 hostOps0_sub hostOps0_fresh (W0 m)), .region (regionOf legs (entries m) 0),
    .host (hostOf hostOps1 hostOps1_sub hostOps1_fresh (W2 m)), .region (regionOf legs (entries m) 1),
    .host (hostOf hostOps2 hostOps2_sub hostOps2_fresh (W4 m)), .region (regionOf legs (entries m) 2),
    .host (hostOf hostOps3 hostOps3_sub hostOps3_fresh (W6 m)), .region (regionOf legs (entries m) 3),
    .host (hostOf hostOps4 hostOps4_sub hostOps4_fresh (W8 m)), .region (regionOf legs (entries m) 4),
    .host (hostOf hostOps5 hostOps5_sub hostOps5_fresh (W10 m)), .region (regionOf legs (entries m) 5),
    .host (hostOf hostOps6 hostOps6_sub hostOps6_fresh (W12 m)) ]

theorem main_eq (c : Dev nD) : main (F := F) c = Pipeline.Seg.run (segs m) :=
  main_segs noTables (datas legs (entries m)) () Variants.none levels levelOf _ _ _ _ _ _ _ _ _ _ _ _ _ rfl rfl rfl rfl rfl rfl rfl c

theorem no_unscoped : ∀ sm : SemLoc sig, sm.isScoped .tc = true := by decide

set_option backward.isDefEq.respectTransparency.types false in
/-- Every execution ends, with every buffer at the last boundary's contents and every semaphore at zero. -/
theorem run : θ_run defs (onTc (τ := τ) (main (F := F))) ⟨m, fun _ => 0, ρ⟩ (fun r =>
    (∀ c : Dev nD, ∀ b ∈ Pipeline.ucRefs τ sig, r.2.mem (c, b) = W13 m c b) ∧ r.2.sem = fun _ => 0) :=
  Pipeline.θ_run_regions_kit_sems (pcfgs (F := F)) noTables (datas legs (entries m)) () cellOf_inj emb₁ defs₀ Variants.none levels levelOf m ρ main (segs m)
    (fun c Q => by rw [main_eq m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c))
    (Tₙ := fun c => iprop(StableHlo.held (c : Thread nD τ) (Pipeline.ucRefs τ sig) (W13 m c) ∗ (∃ r, prngReg c r)))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hostOf, Pipeline.HostSeg.ofOps]
      iintro ⟨Hh, Hp, HO⟩
      isplitl [Hh Hp]
      · isplitl [Hh]; · iexact Hh
        iexact Hp
      iexact HO⟩)
    (hinit := by
      refine Pipeline.initEach levels levelOf fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h hz => ⟨h, funext fun g => hz g (.inr (no_unscoped g.2))⟩)

/-- A buffer a call does not write is as before it. -/
theorem W2_of (c : Dev nD) (r : Ref sig .tc) (h : r ≠ main_v4) : W2 m c r = W1 m c r :=
  exitOf_of leg0 _ c r (by rintro w rfl; revert w h; decide)
theorem W4_of (c : Dev nD) (r : Ref sig .tc) (h : r ≠ main_v10) : W4 m c r = W3 m c r :=
  exitOf_of leg1 _ c r (by rintro w rfl; revert w h; decide)
theorem W6_of (c : Dev nD) (r : Ref sig .tc) (h : r ≠ main_v15) : W6 m c r = W5 m c r :=
  exitOf_of leg2 _ c r (by rintro w rfl; revert w h; decide)
theorem W8_of (c : Dev nD) (r : Ref sig .tc) (h : r ≠ main_v21) : W8 m c r = W7 m c r :=
  exitOf_of leg3 _ c r (by rintro w rfl; revert w h; decide)
theorem W10_of (c : Dev nD) (r : Ref sig .tc) (h : r ≠ main_v26) : W10 m c r = W9 m c r :=
  exitOf_of leg4 _ c r (by rintro w rfl; revert w h; decide)
theorem W12_of (c : Dev nD) (r : Ref sig .tc) (h : r ≠ main_v32) : W12 m c r = W11 m c r :=
  exitOf_of leg5 _ c r (by rintro w rfl; revert w h; decide)

/-- What the host statements write. -/
theorem W1_of (c : Dev nD) (r : Ref sig .tc) (h : r ∉ hostOps0_W) : W1 m c r = W0 m c r := StableHlo.after_of_writes_sub hostOps0 _ hostOps0_writes h
theorem W3_of (c : Dev nD) (r : Ref sig .tc) (h : r ∉ hostOps1_W) : W3 m c r = W2 m c r := StableHlo.after_of_writes_sub hostOps1 _ hostOps1_writes h
theorem W5_of (c : Dev nD) (r : Ref sig .tc) (h : r ∉ hostOps2_W) : W5 m c r = W4 m c r := StableHlo.after_of_writes_sub hostOps2 _ hostOps2_writes h
theorem W7_of (c : Dev nD) (r : Ref sig .tc) (h : r ∉ hostOps3_W) : W7 m c r = W6 m c r := StableHlo.after_of_writes_sub hostOps3 _ hostOps3_writes h
theorem W9_of (c : Dev nD) (r : Ref sig .tc) (h : r ∉ hostOps4_W) : W9 m c r = W8 m c r := StableHlo.after_of_writes_sub hostOps4 _ hostOps4_writes h
theorem W11_of (c : Dev nD) (r : Ref sig .tc) (h : r ∉ hostOps5_W) : W11 m c r = W10 m c r := StableHlo.after_of_writes_sub hostOps5 _ hostOps5_writes h
theorem W13_of (c : Dev nD) (r : Ref sig .tc) (h : r ∉ hostOps6_W) : W13 m c r = W12 m c r := StableHlo.after_of_writes_sub hostOps6 _ hostOps6_writes h

/-- Everything the program writes. -/
abbrev written : List (Ref sig .tc) := [main_v4, main_v10, main_v15, main_v21, main_v26, main_v32]
  ++ (hostOps0_W ++ hostOps1_W ++ hostOps2_W ++ hostOps3_W ++ hostOps4_W ++ hostOps5_W ++ hostOps6_W)

/-- A buffer the program writes nowhere is, at every boundary, as launched. -/
theorem kept (c : Dev nD) (r : Ref sig .tc) (h : r ∉ written) :
    W1 m c r = m (c, (r : DevRef τ sig)) ∧ W3 m c r = m (c, (r : DevRef τ sig)) ∧ W5 m c r = m (c, (r : DevRef τ sig)) ∧ W7 m c r = m (c, (r : DevRef τ sig))
    ∧ W9 m c r = m (c, (r : DevRef τ sig)) ∧ W11 m c r = m (c, (r : DevRef τ sig)) ∧ W13 m c r = m (c, (r : DevRef τ sig))
    ∧ W2 m c r = m (c, (r : DevRef τ sig)) ∧ W4 m c r = m (c, (r : DevRef τ sig)) ∧ W6 m c r = m (c, (r : DevRef τ sig))
    ∧ W8 m c r = m (c, (r : DevRef τ sig)) ∧ W10 m c r = m (c, (r : DevRef τ sig)) := by
  simp only [written, List.mem_append, not_or] at h
  obtain ⟨ho, ⟨⟨⟨⟨⟨h0, h1⟩, h2⟩, h3⟩, h4⟩, h5⟩, h6⟩ := h
  have ho' : ∀ b ∈ [main_v4, main_v10, main_v15, main_v21, main_v26, main_v32], r ≠ b := fun b hb e => ho (e ▸ hb)
  have e1 : W1 m c r = m (c, (r : DevRef τ sig)) := W1_of m c r h0
  have f2 := (W2_of m c r (ho' _ (by simp))).trans e1
  have e3 := (W3_of m c r h1).trans f2
  have f4 := (W4_of m c r (ho' _ (by simp))).trans e3
  have e5 := (W5_of m c r h2).trans f4
  have f6 := (W6_of m c r (ho' _ (by simp))).trans e5
  have e7 := (W7_of m c r h3).trans f6
  have f8 := (W8_of m c r (ho' _ (by simp))).trans e7
  have e9 := (W9_of m c r h4).trans f8
  have f10 := (W10_of m c r (ho' _ (by simp))).trans e9
  have e11 := (W11_of m c r h5).trans f10
  have f12 := (W12_of m c r (ho' _ (by simp))).trans e11
  exact ⟨e1, e3, e5, e7, e9, e11, (W13_of m c r h6).trans f12, f2, f4, f6, f8, f10⟩

theorem mem_uc (b : Ref sig .tc) (h : ¬ b.isScoped) : (b : DevRef τ sig) ∈ Pipeline.ucRefs τ sig :=
  Finset.mem_filter.mpr ⟨StableHlo.devRef_mem_tcRefs b, h⟩

end Cert.KernelIdeal.Run

end
-- ==== Proof.Run.Frames.lean ====
/- The frames: every execution of the program ends with its arguments as launched and every semaphore at zero. -/
module

public import proofs.«01_k».proof.Proof.Run.Chain
public import proofs.«01_k».proof.Proof.Gen.Kernel
public import proofs.«01_k».proof.Defs

@[expose] public section

set_option maxRecDepth 100000

noncomputable section

namespace Cert.KernelIdeal.Run

open Idealize.ShloMosaic Idealize.ShloMosaic.TcCoe Idealize.ShloMosaic.Tactic
open Idealize.SL.Sem
open Cert.KernelIdeal Cert.KernelIdeal.Gen

variable {F : FTy → Type} [FloatOps F]

/-- Every execution leaves the arguments as launched and every semaphore at zero, and the result at the last boundary's contents. -/
theorem ends (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v35) = W13 m c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) ∧ r.2.sem = fun _ => 0) := by
  refine (θ_run defs _ _).mono (fun r h => ⟨fun c => ?_, h.2⟩) (run m ρ)
  have keep : ∀ b : Ref sig .tc, b ∉ written → ¬ b.isScoped → r.2.mem ((c.tc : Thread nD τ).loc b) = m ((c.tc : Thread nD τ).loc b) :=
    fun b hb hs => (h.1 c _ (mem_uc b hs)).trans (kept m c b hb).2.2.2.2.2.2.1
  exact ⟨h.1 c _ (mem_uc main_v35 (by decide)),
       keep main_arg0 (by decide) (by decide),
       keep main_arg1 (by decide) (by decide),
       keep main_arg2 (by decide) (by decide),
       keep main_arg3 (by decide) (by decide),
       keep main_arg4 (by decide) (by decide),
       keep main_arg5 (by decide) (by decide),
       keep main_arg6 (by decide) (by decide),
       keep main_arg7 (by decide) (by decide),
       keep main_arg8 (by decide) (by decide),
       keep main_arg9 (by decide) (by decide),
       keep main_arg10 (by decide) (by decide),
       keep main_arg11 (by decide) (by decide),
       keep main_arg12 (by decide) (by decide),
       keep main_arg13 (by decide) (by decide),
       keep main_arg14 (by decide) (by decide),
       keep main_arg15 (by decide) (by decide),
       keep main_arg16 (by decide) (by decide),
       keep main_arg17 (by decide) (by decide),
       keep main_arg18 (by decide) (by decide),
       keep main_arg19 (by decide) (by decide),
       keep main_arg20 (by decide) (by decide),
       keep main_arg21 (by decide) (by decide),
       keep main_arg22 (by decide) (by decide),
       keep main_arg23 (by decide) (by decide),
       keep main_arg24 (by decide) (by decide)⟩

/-- The frame, at any reading of the floats. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) ∧ r.2.sem = fun _ => 0) :=
  (θ_run defs _ _).mono (fun _ h => ⟨fun c => (h.1 c).2, h.2⟩) (ends m ρ)

end Cert.KernelIdeal.Run

namespace Cert.Kernel.Run

open Idealize.ShloMosaic Idealize.ShloMosaic.TcCoe Idealize.ShloMosaic.Tactic
open Idealize.SL.Sem

set_option maxHeartbeats 4000000 in
/-- The frame of the program as printed: it is the same text as the idealized one, so at the same floats the same statement. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)) ∧ r.2.sem = fun _ => 0) := by
  have h := Cert.KernelIdeal.Run.frame (F := Bits) m g
  refine Eq.mp ?_ h
  chain_rfl

end Cert.Kernel.Run

end
-- ==== Proof.Value.Taps.lean ====
/-
  The pooling of one axis over the extended reals: where the two samples of a bin lie, the two positions each sample
  reads, the weight of each; and the identity that joins the two programs: multiplying by the interpolation matrices
  of the two axes is the mean, over the samples, of the weighted reads.
-/
module

public import Mathlib.Data.EReal.Operations
public import Mathlib.Algebra.BigOperators.Pi
public import Idealize.ShloMosaic.Lib.Pointwise

@[expose] public section

noncomputable section

namespace Cert.Pooling

open Idealize.ShloMosaic

/-- The `s`-th sample of bin `i`, in a box starting at `lo` with bins of width `w`, clipped to `[0, n - 1]`. -/
def samplePt (n : ℕ) (lo w : EReal) (i : ℕ) (s : Fin 2) : EReal :=
  min (((n : ℝ) - 1 : ℝ) : EReal) (max 0 (lo + (((i : ℝ) + (1 / 4 + (s : ℕ) / 2) : ℝ) : EReal) * w))

/-- The same as a real number. -/
def point (n : ℕ) (lo w : EReal) (i : ℕ) (s : Fin 2) : ℝ := (samplePt n lo w i s).toReal

/-- The position a sample at `p` reads: its floor, or the next one, kept on the grid. -/
def tap (n : ℕ) [NeZero n] (p : ℝ) (d : Fin 2) : Fin n :=
  ⟨min (⌊p⌋.toNat + d) (n - 1), by have := NeZero.pos n; omega⟩

/-- The weight of that read: one less the fractional part, or the fractional part. -/
def weight (p : ℝ) (d : Fin 2) : ℝ := if d = 0 then 1 - (p - ⌊p⌋) else p - ⌊p⌋

variable (n : ℕ) [NeZero n] (lo w : EReal) (i : ℕ) (s : Fin 2)

omit [NeZero n] in
theorem top_nonneg [NeZero n] : (0 : ℝ) ≤ (n : ℝ) - 1 := by
  have : (1 : ℝ) ≤ n := by exact_mod_cast NeZero.one_le (n := n)
  linarith

/-- A clipped sample position is a real number. -/
theorem samplePt_eq : samplePt n lo w i s = (point n lo w i s : EReal) := by
  have h0 : (0 : EReal) ≤ samplePt n lo w i s :=
    le_min (by exact_mod_cast top_nonneg n) (le_max_left _ _)
  have h1 : samplePt n lo w i s ≤ (((n : ℝ) - 1 : ℝ) : EReal) := min_le_left _ _
  refine (EReal.coe_toReal ?_ ?_).symm
  · exact ne_of_lt (lt_of_le_of_lt h1 (EReal.coe_lt_top _))
  · exact ne_of_gt (lt_of_lt_of_le (EReal.bot_lt_coe 0) (by exact_mod_cast h0))

theorem point_nonneg : 0 ≤ point n lo w i s := by
  have h0 : (0 : EReal) ≤ samplePt n lo w i s :=
    le_min (by exact_mod_cast top_nonneg n) (le_max_left _ _)
  rw [samplePt_eq] at h0
  exact_mod_cast h0

theorem point_le : point n lo w i s ≤ (n : ℝ) - 1 := by
  have h1 : samplePt n lo w i s ≤ (((n : ℝ) - 1 : ℝ) : EReal) := min_le_left _ _
  rw [samplePt_eq] at h1
  exact_mod_cast h1

omit [NeZero n] in
theorem weight_nonneg (p : ℝ) (d : Fin 2) : 0 ≤ weight p d := by
  unfold weight
  have := Int.floor_le p
  have := Int.lt_floor_add_one p
  split <;> linarith

/-- On the grid, the first read is at the floor. -/
theorem tap_zero {p : ℝ} (h0 : 0 ≤ p) (h1 : p ≤ (n : ℝ) - 1) : ((tap n p 0).val : ℤ) = ⌊p⌋ := by
  have hf : 0 ≤ ⌊p⌋ := Int.floor_nonneg.2 h0
  have hn : 0 < n := NeZero.pos n
  have hle : ⌊p⌋ ≤ (n : ℤ) - 1 := by
    have : (⌊p⌋ : ℝ) ≤ (n : ℝ) - 1 := le_trans (Int.floor_le p) h1
    exact_mod_cast this
  unfold tap
  simp only [Fin.val_zero]
  omega

/-- The second read is at the floor's successor, or at the last position. -/
theorem tap_one {p : ℝ} (h0 : 0 ≤ p) : ((tap n p 1).val : ℤ) = min (⌊p⌋ + 1) ((n : ℤ) - 1) := by
  have hf : 0 ≤ ⌊p⌋ := Int.floor_nonneg.2 h0
  have hn : 0 < n := NeZero.pos n
  unfold tap
  simp only [Fin.val_one]
  omega

section Sums
variable {ι : Type*}

/-- A sum of nonnegative terms distributes over a product on its right. -/
theorem sum_mul_of_nonneg (t : Finset ι) (c : ι → EReal) (hc : ∀ k, 0 ≤ c k) (v : EReal) :
    (∑ k ∈ t, c k) * v = ∑ k ∈ t, c k * v := by
  classical
  induction t using Finset.induction_on with
  | empty => simp
  | insert a t ha ih =>
    rw [Finset.sum_insert ha, Finset.sum_insert ha, EReal.right_distrib_of_nonneg (hc a) (Finset.sum_nonneg fun k _ => hc k), ih]

/-- A nonnegative real number distributes over any sum. -/
theorem coe_mul_sum (t : Finset ι) {r : ℝ} (hr : 0 ≤ r) (f : ι → EReal) :
    (r : EReal) * ∑ k ∈ t, f k = ∑ k ∈ t, (r : EReal) * f k := by
  classical
  induction t using Finset.induction_on with
  | empty => simp
  | insert a t ha ih =>
    rw [Finset.sum_insert ha, Finset.sum_insert ha,
      EReal.left_distrib_of_nonneg_of_ne_top (by exact_mod_cast hr) (EReal.coe_ne_top r), ih]

theorem sum_mul_coe (t : Finset ι) {r : ℝ} (hr : 0 ≤ r) (f : ι → EReal) :
    (∑ k ∈ t, f k) * (r : EReal) = ∑ k ∈ t, f k * (r : EReal) := by
  rw [mul_comm, coe_mul_sum t hr]
  exact Finset.sum_congr rfl fun k _ => mul_comm _ _

variable [Fintype ι]

/-- A row of an interpolation matrix times a column: the weighted reads. -/
theorem row_mul {m : ℕ} (a : ι → Fin m) (c : ι → ℝ) (hc : ∀ k, 0 ≤ c k) (f : Fin m → EReal) :
    ∑ y, ((∑ k, if a k = y then (c k : EReal) else 0) * ((1 / 2 : ℝ) : EReal)) * f y
      = ∑ k, ((c k : EReal) * ((1 / 2 : ℝ) : EReal)) * f (a k) := by
  have h2 : (0 : ℝ) ≤ 1 / 2 := by norm_num
  have hn : ∀ k, (0 : EReal) ≤ (c k : EReal) * ((1 / 2 : ℝ) : EReal) := fun k => by
    rw [← EReal.coe_mul]; exact_mod_cast mul_nonneg (hc k) h2
  have hy : ∀ y, ((∑ k, if a k = y then (c k : EReal) else 0) * ((1 / 2 : ℝ) : EReal)) * f y
      = ∑ k, if a k = y then ((c k : EReal) * ((1 / 2 : ℝ) : EReal)) * f y else 0 := fun y => by
    rw [sum_mul_coe _ h2, sum_mul_of_nonneg]
    · refine Finset.sum_congr rfl fun k _ => ?_
      split <;> simp
    · intro k
      split
      · exact hn k
      · simp
  rw [Finset.sum_congr rfl fun y _ => hy y, Finset.sum_comm]
  refine Finset.sum_congr rfl fun k _ => ?_
  rw [Finset.sum_ite_eq Finset.univ (a k)]
  simp

/-- Combining the rows and then the columns of a plane by the interpolation matrices is the mean of the weighted reads:
    `ay`, `wy` are the positions and weights of the reads of one axis, `ax`, `wx` of the other. -/
theorem pool_eq {m : ℕ} (img : Fin m → Fin m → EReal) (ay ax : ι → Fin m) (wy wx : ι → ℝ) (hy : ∀ k, 0 ≤ wy k) (hx : ∀ k, 0 ≤ wx k) :
    ∑ x, (∑ y, ((∑ k, if ay k = y then (wy k : EReal) else 0) * ((1 / 2 : ℝ) : EReal)) * img y x)
        * ((∑ k, if ax k = x then (wx k : EReal) else 0) * ((1 / 2 : ℝ) : EReal))
      = (∑ q : ι × ι, (img (ay q.1) (ax q.2) * (wy q.1 : EReal)) * (wx q.2 : EReal)) * ((1 / 4 : ℝ) : EReal) := by
  rw [Finset.sum_congr rfl fun x _ => by rw [mul_comm, row_mul ay wy hy], row_mul ax wx hx,
    sum_mul_coe _ (by norm_num), Fintype.sum_prod_type, Finset.sum_comm]
  refine Finset.sum_congr rfl fun k' _ => ?_
  have hk : 0 ≤ wx k' * (1 / 2) := mul_nonneg (hx k') (by norm_num)
  rw [← EReal.coe_mul, coe_mul_sum _ hk]
  refine Finset.sum_congr rfl fun k _ => ?_
  rw [show (1 / 4 : ℝ) = (1 / 2) * (1 / 2) by norm_num]
  simp only [EReal.coe_mul]
  ac_rfl

end Sums

end Cert.Pooling

end
-- ==== Proof.Value.Consts.lean ====
/-
  The float constants the two programs use, as real numbers.
-/
module

public import Idealize.ShloMosaic.Lib.Pointwise
public import Idealize.ShloMosaic.Lib.IdealHost

@[expose] public section

noncomputable section

namespace Cert.Consts

open Idealize.ShloMosaic

theorem quarter : Ideal.ofBits .f32 0x3E800000#32 = ((1 / 4 : ℝ) : EReal) := by
  simp [Ideal.ofBits, Ideal.ieee, -EReal.coe_mul]; norm_num
theorem three_quarters : Ideal.ofBits .f32 0x3F400000#32 = ((3 / 4 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem five : Ideal.ofBits .f32 0x40A00000#32 = ((5 : ℝ) : EReal) := by
  simp [Ideal.ofBits, Ideal.ieee, -EReal.coe_mul]; norm_num
theorem seven : Ideal.ofBits .f32 0x40E00000#32 = ((7 : ℝ) : EReal) := by
  simp [Ideal.ofBits, Ideal.ieee, -EReal.coe_mul]; norm_num
theorem twelve : Ideal.ofBits .f32 0x41400000#32 = ((12 : ℝ) : EReal) := by
  simp [Ideal.ofBits, Ideal.ieee, -EReal.coe_mul]; norm_num
theorem nineteen : Ideal.ofBits .f32 0x41980000#32 = ((19 : ℝ) : EReal) := by
  simp [Ideal.ofBits, Ideal.ieee, -EReal.coe_mul]; norm_num
theorem thirtynine : Ideal.ofBits .f32 0x421C0000#32 = ((39 : ℝ) : EReal) := by
  simp [Ideal.ofBits, Ideal.ieee, -EReal.coe_mul]; norm_num
theorem sixty : Ideal.ofBits .f32 0x42700000#32 = ((60 : ℝ) : EReal) := by
  simp [Ideal.ofBits, Ideal.ieee, -EReal.coe_mul]; norm_num
theorem seventynine : Ideal.ofBits .f32 0x429E0000#32 = ((79 : ℝ) : EReal) := by
  simp [Ideal.ofBits, Ideal.ieee, -EReal.coe_mul]; norm_num

/-- A number below 2³¹ is itself as a signed 32-bit word. -/
theorem toInt_ofNat {k : ℕ} (h : k < 2 ^ 31) : (BitVec.ofNat 32 k).toInt = (k : ℤ) := by
  rw [BitVec.toInt_ofNat']
  exact Int.bmod_eq_of_le (by omega) (by omega)

end Cert.Consts

end
-- ==== Proof.Value.KernelPool.lean ====
/-
  The pooling calls' blocks read at an entry: the interpolation matrix of one axis is the weights of the reads of
  that axis (halved), and a pooled entry is the mean of the weighted reads.
-/
module

public import proofs.«01_k».proof.Proof.Pool.Vec
public import proofs.«01_k».proof.Proof.Value.Taps
public import proofs.«01_k».proof.Proof.Value.Consts

@[expose] public section

noncomputable section

namespace Cert.Pooling

open Idealize.ShloMosaic
open Cert.KernelIdeal Cert.KernelIdeal.Pool

variable {n m : ℕ} [NeZero n] (hf : Facts n m)

/-- The kernel's sample positions are the clipped sample points. -/
theorem samplePos_apply (top off : BitVec 32) (lo w : EReal) (s : Fin 2) (htop : Ideal.ofBits .f32 top = (((n : ℝ) - 1 : ℝ) : EReal))
    (hoff : Ideal.ofBits .f32 off = ((1 / 4 + (s : ℕ) / 2 : ℝ) : EReal)) (i : Fin 8) (h : Fin n) :
    samplePos (F := Ideal) hf top off lo w (ix2 i h) = samplePt n lo w i s := by
  have hi : (FloatOps.sitofp (F := Ideal) .f32 (BitVec.ofNat 32 i.val) : EReal) = (((i.val : ℕ) : ℝ) : EReal) := by
    show (((BitVec.ofNat 32 i.val).toInt : ℝ) : EReal) = _
    rw [Consts.toInt_ofNat (by omega)]
    simp
  pointwise [samplePos, rowNo]
  unfold samplePt
  rw [htop, hoff, EReal.coe_add (i.val : ℝ)]
  erw [hi]

/-- The smaller of two reals, as extended reals. -/
theorem coe_min (a b : ℝ) : ((min a b : ℝ) : EReal) = min (a : EReal) (b : EReal) :=
  (Monotone.map_min EReal.coe_strictMono.monotone)

/-- One sample adds its two weights, each at the position it reads. -/
theorem addTap_apply (hn : n < 2 ^ 31) (top : BitVec 32) (htop : Ideal.ofBits .f32 top = (((n : ℝ) - 1 : ℝ) : EReal))
    (pos acc : FVec Ideal ⟨2, ![8, n]⟩ .f32) (i : Fin 8) (h : Fin n) (p : ℝ) (hp : pos (ix2 i h) = (p : EReal))
    (h0 : 0 ≤ p) (h1 : p ≤ (n : ℝ) - 1) :
    addTap (F := Ideal) hf top pos acc (ix2 i h)
      = (acc (ix2 i h) + if tap n p 0 = h then (weight p 0 : EReal) else 0) + if tap n p 1 = h then (weight p 1 : EReal) else 0 := by
  have hh : (FloatOps.sitofp (F := Ideal) .f32 (BitVec.ofNat 32 h.val) : EReal) = (((h.val : ℤ) : ℝ) : EReal) := by
    show (((BitVec.ofNat 32 h.val).toInt : ℝ) : EReal) = _
    rw [Consts.toInt_ofNat (by omega)]
  have e0 : ((((h.val : ℤ) : ℝ) : EReal) = ((⌊p⌋ : ℝ) : EReal)) ↔ tap n p 0 = h := by
    rw [EReal.coe_eq_coe_iff, Int.cast_inj, ← tap_zero n h0 h1, Fin.ext_iff]
    omega
  have e1 : ((((h.val : ℤ) : ℝ) : EReal) = min (((⌊p⌋ : ℝ) : EReal) + 1) (((n : ℝ) - 1 : ℝ) : EReal)) ↔ tap n p 1 = h := by
    rw [show (1 : EReal) = ((1 : ℝ) : EReal) from rfl, ← EReal.coe_add, ← coe_min,
      show min ((⌊p⌋ : ℝ) + 1) ((n : ℝ) - 1) = ((min (⌊p⌋ + 1) ((n : ℤ) - 1) : ℤ) : ℝ) by push_cast; rfl,
      EReal.coe_eq_coe_iff, Int.cast_inj, ← tap_one n h0, Fin.ext_iff]
    omega
  pointwise [addTap, colNo]
  erw [hh, hp, htop]
  simp only [Ideal.liftRound_coe]
  rw [← EReal.coe_sub, show (1 : EReal) - ((p - (⌊p⌋ : ℝ) : ℝ) : EReal) = ((1 - (p - ⌊p⌋) : ℝ) : EReal) by rw [EReal.coe_sub]; rfl]
  simp only [e0, e1]
  rfl

/-- The interpolation matrix: row `i` holds half the weights of the four reads of bin `i`. -/
theorem interp_apply (hn : n < 2 ^ 31) (top : BitVec 32) (htop : Ideal.ofBits .f32 top = (((n : ℝ) - 1 : ℝ) : EReal)) (lo w : EReal) (i : Fin 8) (h : Fin n) :
    interp (F := Ideal) hf top lo w (ix2 i h)
      = (∑ k : Fin 2 × Fin 2, if tap n (point n lo w i k.1) k.2 = h then (weight (point n lo w i k.1) k.2 : EReal) else 0)
          * ((1 / 2 : ℝ) : EReal) := by
  unfold Pool.interp
  show addTap hf top _ _ (ix2 i h) * Ideal.ofBits .f32 0x3F000000#32 = _
  rw [Consts.half, addTap_apply hf hn top htop _ _ i h _ ((samplePos_apply hf top _ lo w 1 htop
      (by rw [Consts.three_quarters]; norm_num) i h).trans (samplePt_eq ..)) (point_nonneg ..) (point_le ..),
    addTap_apply hf hn top htop _ _ i h _ ((samplePos_apply hf top _ lo w 0 htop
      (by rw [Consts.quarter]; norm_num) i h).trans (samplePt_eq ..)) (point_nonneg ..) (point_le ..)]
  congr 1
  rw [Fintype.sum_prod_type, Fin.sum_univ_two, Fin.sum_univ_two, Fin.sum_univ_two]
  show (Ideal.ofBits .f32 0x00000000#32 + _ + _ + _ + _ : EReal) = _
  rw [Ideal.ofBits_zero_f32, zero_add, add_assoc, add_assoc]

/-- The rows of a block combined: entry (i, c, x) sums the column of lane `c n + x`. -/
theorem rowsOf_apply (hm : m = 128 * n) (A : FVec Ideal ⟨2, ![8, n]⟩ .f32) (blk : Vec Ideal ⟨3, ![1, n, m]⟩ .f32) (i : Fin 8) (c : Fin 128) (x : Fin n) :
    rowsOf (F := Ideal) hf A blk (ValueIdx.ix3 i c x)
      = ∑ y : Fin n, A (ValueIdx.ix2 i y) * blk (ValueIdx.ix3 (0 : Fin 1) y ⟨c.val * n + x.val, by subst hm; have := c.isLt; have := x.isLt; nlinarith⟩) := by
  have hl : c.val * n + x.val < m := by subst hm; have := c.isLt; have := x.isLt; nlinarith
  unfold rowsOf
  rw [shapeCast_apply _ hf.same _ (ValueIdx.ix3 i c x) rfl,
    shapeCast_apply _ hf.split _ (ValueIdx.ix2 i ⟨c.val * n + x.val, hl⟩) (by
      rw [Shape.rowMajor_val_two, Shape.rowMajor_val_three]
      show i.val * m + (c.val * n + x.val) = (i.val * 128 + c.val) * n + x.val
      subst hm; ring)]
  refine (Ideal.matmul_plain_apply ..).trans ?_
  rw [show (constant (F := Ideal) ⟨2, ![8, m]⟩ .f32 0x00000000#32) (ValueIdx.ix2 i ⟨c.val * n + x.val, hl⟩) = 0 from Ideal.ofBits_zero_f32, zero_add]
  refine Finset.sum_congr rfl fun y _ => ?_
  rw [ValueIdx.shapeCast_1ab_ab_apply]

/-- The columns combined: entry (i, c, j) sums row (i, c) against row `j` of the matrix. -/
theorem colsOf_apply (B : FVec Ideal ⟨2, ![8, n]⟩ .f32) (u : Vec Ideal ⟨3, ![8, 128, n]⟩ .f32) (i : Fin 8) (c : Fin 128) (j : Fin 8) :
    colsOf (F := Ideal) hf B u (ValueIdx.ix3 i c j) = ∑ x : Fin n, u (ValueIdx.ix3 i c x) * B (ValueIdx.ix2 j x) := by
  have hl : i.val * 128 + c.val < 1024 := by have := i.isLt; have := c.isLt; omega
  unfold colsOf
  rw [shapeCast_apply _ hf.back _ (ValueIdx.ix2 ⟨i.val * 128 + c.val, hl⟩ j) (by
      rw [Shape.rowMajor_val_two, Shape.rowMajor_val_three]; rfl)]
  refine (Ideal.matmul_plain_apply ..).trans ?_
  rw [show (constant (F := Ideal) ⟨2, ![1024, 8]⟩ .f32 0x00000000#32) (ValueIdx.ix2 ⟨i.val * 128 + c.val, hl⟩ j) = 0 from Ideal.ofBits_zero_f32, zero_add]
  refine Finset.sum_congr rfl fun x _ => ?_
  rw [ValueIdx.transpose_ix2_apply, shapeCast_apply _ hf.merge _ (ValueIdx.ix3 i c x) (by
      rw [Shape.rowMajor_val_two, Shape.rowMajor_val_three]; rfl)]

/-- The mean of the sixteen weighted reads of bin (i, j) of a box in a plane: the vertical axis starts at `ylo` with
    bins of height `yw`, the horizontal at `xlo` with width `xw`. -/
def pooled (n : ℕ) [NeZero n] (img : Fin n → Fin n → EReal) (ylo yw xlo xw : EReal) (i j : ℕ) : EReal :=
  (∑ q : (Fin 2 × Fin 2) × (Fin 2 × Fin 2),
      (img (tap n (point n ylo yw i q.1.1) q.1.2) (tap n (point n xlo xw j q.2.1) q.2.2)
        * (weight (point n ylo yw i q.1.1) q.1.2 : EReal)) * (weight (point n xlo xw j q.2.1) q.2.2 : EReal)) * ((1 / 4 : ℝ) : EReal)

/-- The bin width over the extended reals. -/
def binWidth (lo hi : EReal) : EReal := max (hi - lo) 1 * ((1 / 7 : ℝ) : EReal)

theorem bin_eq (lo hi : EReal) : bin (F := Ideal) lo hi = binWidth lo hi := by
  show Ideal.div (max (hi - lo) (Ideal.ofBits .f32 0x3F800000#32)) (Ideal.ofBits .f32 0x40E00000#32) = _
  rw [Ideal.ofBits_one_f32, Consts.seven, Ideal.div_coe (by norm_num)]
  rfl

/-- A pooled block's entry (i, c, j) is the mean of the weighted reads of plane `c`. -/
theorem poolBlock_apply (hn : n < 2 ^ 31) (hm : m = 128 * n) (top : BitVec 32) (htop : Ideal.ofBits .f32 top = (((n : ℝ) - 1 : ℝ) : EReal))
    (x1 y1 x2 y2 : EReal) (blk : Vec Ideal ⟨3, ![1, n, m]⟩ .f32) (i : Fin 8) (c : Fin 128) (j : Fin 8) :
    poolBlock (F := Ideal) hf top x1 y1 x2 y2 blk (ValueIdx.ix3 i c j)
      = pooled n (fun y x => blk (ValueIdx.ix3 (0 : Fin 1) y ⟨c.val * n + x.val, by subst hm; have := c.isLt; have := x.isLt; nlinarith⟩))
          y1 (binWidth y1 y2) x1 (binWidth x1 x2) i j := by
  have hl : ∀ x : Fin n, c.val * n + x.val < m := fun x => by subst hm; have := c.isLt; have := x.isLt; nlinarith
  unfold poolBlock pooled
  rw [colsOf_apply, bin_eq, bin_eq]
  refine Eq.trans ?_ (pool_eq (ι := Fin 2 × Fin 2) (fun y x => blk (ValueIdx.ix3 (0 : Fin 1) y ⟨c.val * n + x.val, hl x⟩))
    (fun k => tap n (point n y1 (binWidth y1 y2) i k.1) k.2) (fun k => tap n (point n x1 (binWidth x1 x2) j k.1) k.2)
    (fun k => weight (point n y1 (binWidth y1 y2) i k.1) k.2) (fun k => weight (point n x1 (binWidth x1 x2) j k.1) k.2)
    (fun k => weight_nonneg _ _) (fun k => weight_nonneg _ _))
  refine Finset.sum_congr rfl fun x _ => ?_
  rw [rowsOf_apply hf hm]
  refine congrArg₂ (· * ·) (Finset.sum_congr rfl fun y _ => ?_) ?_
  · exact congrArg (· * _) (interp_apply hf hn top htop _ _ i y)
  · exact interp_apply hf hn top htop _ _ j x

end Cert.Pooling

end
-- ==== Proof.Value.PoolArray.lean ====
/- What the pooling calls leave in their result arrays: entry (box, channel, place) is the mean of the weighted reads of
   the channel's plane of the box's image. -/
module

public import proofs.«01_k».proof.Proof.Run.Chain
public import proofs.«01_k».proof.Proof.Value.KernelPool
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic
open Idealize.SL Idealize.SL.Sem
open Cert.KernelIdeal Cert.KernelIdeal.Gen Cert.Pooling

/-- A box's entry, read at an offset of known value. -/
theorem boxAt_apply (b : Vec Ideal S4x5x4 .f32) (off : Fin 3 → ℕ) (inb) (i : Fin 4) (j : Fin 5) (k : Fin 4) (h : off = ![i.val, j.val, k.val]) :
    Pool.boxAt b off inb = b (ix3 i j k) := by
  subst h
  unfold Pool.boxAt
  refine congrArg b (funext fun a => Fin.ext ?_)
  fin_cases a <;> rfl

/-- The pooled value of box `j` of image `i` at a bin, over the plane `img`. -/
def boxPool (n : ℕ) [NeZero n] (b : FVec Ideal S4x5x4 .f32) (img : Fin n → Fin n → EReal) (i : Fin 4) (j : Fin 5) (oy ox : ℕ) : EReal :=
  pooled n img (b (ix3 i j 1)) (binWidth (b (ix3 i j 1)) (b (ix3 i j 3))) (b (ix3 i j 0)) (binWidth (b (ix3 i j 0)) (b (ix3 i j 2))) oy ox

/-- A pooled block's entry, with the box read from the boxes' array. -/
theorem block_apply {n m : ℕ} [NeZero n] (hf : Pool.Facts n m) (hn : n < 2 ^ 31) (hm : m = 128 * n) (top : BitVec 32)
    (htop : Ideal.ofBits .f32 top = (((n : ℝ) - 1 : ℝ) : EReal)) (b : Vec Ideal S4x5x4 .f32) (o1 o2 o3 o4 : Fin 3 → ℕ) (i1 i2 i3 i4)
    (i : Fin 4) (j : Fin 5) (h : o1 = ![i.val, j.val, 0] ∧ o2 = ![i.val, j.val, 1] ∧ o3 = ![i.val, j.val, 2] ∧ o4 = ![i.val, j.val, 3])
    (blk : Vec Ideal ⟨3, ![1, n, m]⟩ .f32) (oy : Fin 8) (ch : Fin 128) (ox : Fin 8) (img : Fin n → Fin n → EReal)
    (himg : ∀ (y x : Fin n) (hl : ch.val * n + x.val < m), blk (ValueIdx.ix3 (0 : Fin 1) y ⟨ch.val * n + x.val, hl⟩) = img y x) :
    Pool.poolBlock (F := Ideal) hf top (Pool.boxAt b o1 i1) (Pool.boxAt b o2 i2) (Pool.boxAt b o3 i3) (Pool.boxAt b o4 i4) blk (ValueIdx.ix3 oy ch ox)
      = boxPool n b img i j oy ox := by
  rw [poolBlock_apply hf hn hm top htop, boxAt_apply b o1 i1 i j 0 h.1, boxAt_apply b o2 i2 i j 1 h.2.1,
    boxAt_apply b o3 i3 i j 2 h.2.2.1, boxAt_apply b o4 i4 i j 3 h.2.2.2]
  unfold boxPool
  exact congrArg (pooled n · _ _ _ _ _ _) (funext fun y => funext fun x => himg y x _)

variable (W : Contents Ideal) (c : Dev nD)

/-! ## The first level -/

theorem cover0 : (cfg0.win 2).Covers := by decide +kernel

/-- Which block each window has at a point, and which box the body reads there. -/
theorem places0 : ∀ t : Fin grid0.N, (win0_2.index t = ![t.val, 0, 0] ∧ win0_1.index t = ![t.val / 5, 0, 0] ∧ win0_0.index t = ![0, 0, 0])
    ∧ k0_off1 (grid0.coords t) = ![t.val / 5, t.val % 5, 0] ∧ k0_off2 (grid0.coords t) = ![t.val / 5, t.val % 5, 1]
    ∧ k0_off3 (grid0.coords t) = ![t.val / 5, t.val % 5, 2] ∧ k0_off4 (grid0.coords t) = ![t.val / 5, t.val % 5, 3] := by decide +kernel

/-- The features window has the image the box belongs to. -/
theorem image0 (t : Fin cfg0.N) (y : Fin 80) (l : Fin 10240) (q : Fin 4) (hq : q.val = t.val / 5) :
    (blk0 W c 1 t : Vec Ideal S1x80x10240 .f32) (ix3 (0 : Fin 1) y l) = (W c main_v3 : FVec Ideal S4x80x10240 .f32) (ix3 q y l) := by
  unfold blk0
  have e := (places0 t).1.2.1
  blk_simp
  refine congrArg (W c main_v3) (funext fun a => Fin.ext ?_)
  match a with
  | ⟨0, _⟩ => blk_simp [e]; exact hq.symm
  | ⟨1, _⟩ => blk_simp [e]
  | ⟨2, _⟩ => blk_simp [e]

/-- The boxes window has all boxes. -/
theorem boxes0 (t : Fin cfg0.N) : (blk0 W c 0 t : Vec Ideal S4x5x4 .f32) = W c main_arg0 := by
  unfold blk0
  have e := (places0 t).1.2.2
  funext x
  blk_simp
  refine congrArg (W c main_arg0) (funext fun a => Fin.ext ?_)
  match a with
  | ⟨0, _⟩ => blk_simp [e]
  | ⟨1, _⟩ => blk_simp [e]
  | ⟨2, _⟩ => blk_simp [e]

/-- What the call leaves in its result array. -/
def rows0 : FVec Ideal S20x128x49 .f32 := fun z =>
  boxPool 80 (W c main_arg0) (fun y x => (W c main_v3 : FVec Ideal S4x80x10240 .f32)
      (ix3 ⟨(z 0).val / 5, by have : (z 0).val < 20 := (z 0).isLt; omega⟩ y
        ⟨((z 1).val * 80 + x.val) % 10240, Nat.mod_lt _ (by decide)⟩))
    ⟨(z 0).val / 5, by have : (z 0).val < 20 := (z 0).isLt; omega⟩ ⟨(z 0).val % 5, Nat.mod_lt _ (by decide)⟩ ((z 2).val / 7) ((z 2).val % 7)

theorem final0 : (dat0 W c).arrAt 2 cfg0.N = rows0 W c := by
  refine (dat0 W c).arrAt_eq_of_covers 2 _ cover0 fun t hf y => ?_
  have ht : t.val < 20 := t.isLt
  have y0 : (y 0).val < 1 := (y 0).isLt
  have y1 : (y 1).val < 128 := (y 1).isLt
  have e := (places0 t).1.1
  have h0 : ((win0_2.blk t).view.emb y 0).val = t.val := by blk_simp [e]
  have h1 : ((win0_2.blk t).view.emb y 1).val = (y 1).val := by blk_simp [e]
  have h2 : ((win0_2.blk t).view.emb y 2).val = (y 2).val := by blk_simp [e]
  blk_simp
  rw [dat0_after_2]
  unfold Pool.out0 Pool.assemble Pool.block0
  rw [boxes0]
  refine (block_apply Pool.facts80 (by decide) (by decide) _ (by rw [Consts.seventynine]; norm_num) _ _ _ _ _ _ _ _ _
    ⟨t.val / 5, by omega⟩ ⟨t.val % 5, Nat.mod_lt _ (by decide)⟩ (places0 t).2 _ _ _ _ (fun y' x => (W c main_v3 : FVec Ideal S4x80x10240 .f32)
      (ix3 ⟨t.val / 5, by omega⟩ y' ⟨((y 1).val * 80 + x.val) % 10240, Nat.mod_lt _ (by decide)⟩)) fun y' x hl => ?_).trans ?_
  · refine (image0 W c t _ _ ⟨t.val / 5, by omega⟩ rfl).trans (congrArg (W c main_v3) (congrArg (ix3 _ _) (Fin.ext ?_)))
    have := x.isLt
    simp only []
    omega
  · unfold rows0
    simp only [h0, h1, h2]

/-! ## The second level -/

theorem cover2 : (cfg2.win 2).Covers := by decide +kernel

/-- Which block each window has at a point, and which box the body reads there. -/
theorem places2 : ∀ t : Fin grid2.N, (win2_2.index t = ![t.val, 0, 0] ∧ win2_1.index t = ![t.val / 5, 0, 0] ∧ win2_0.index t = ![0, 0, 0])
    ∧ k2_off1 (grid2.coords t) = ![t.val / 5, t.val % 5, 0] ∧ k2_off2 (grid2.coords t) = ![t.val / 5, t.val % 5, 1]
    ∧ k2_off3 (grid2.coords t) = ![t.val / 5, t.val % 5, 2] ∧ k2_off4 (grid2.coords t) = ![t.val / 5, t.val % 5, 3] := by decide +kernel

/-- The features window has the image the box belongs to. -/
theorem image2 (t : Fin cfg2.N) (y : Fin 40) (l : Fin 10240) (q : Fin 4) (hq : q.val = t.val / 5) :
    (blk2 W c 1 t : Vec Ideal S1x40x10240 .f32) (ix3 (0 : Fin 1) y l) = (W c main_v14 : FVec Ideal S4x40x10240 .f32) (ix3 q y l) := by
  unfold blk2
  have e := (places2 t).1.2.1
  blk_simp
  refine congrArg (W c main_v14) (funext fun a => Fin.ext ?_)
  match a with
  | ⟨0, _⟩ => blk_simp [e]; exact hq.symm
  | ⟨1, _⟩ => blk_simp [e]
  | ⟨2, _⟩ => blk_simp [e]

/-- The boxes window has all boxes. -/
theorem boxes2 (t : Fin cfg2.N) : (blk2 W c 0 t : Vec Ideal S4x5x4 .f32) = W c main_arg1 := by
  unfold blk2
  have e := (places2 t).1.2.2
  funext x
  blk_simp
  refine congrArg (W c main_arg1) (funext fun a => Fin.ext ?_)
  match a with
  | ⟨0, _⟩ => blk_simp [e]
  | ⟨1, _⟩ => blk_simp [e]
  | ⟨2, _⟩ => blk_simp [e]

/-- What the call leaves in its result array. -/
def rows2 : FVec Ideal S20x256x49 .f32 := fun z =>
  boxPool 40 (W c main_arg1) (fun y x => (W c main_v14 : FVec Ideal S4x40x10240 .f32)
      (ix3 ⟨(z 0).val / 5, by have : (z 0).val < 20 := (z 0).isLt; omega⟩ y
        ⟨((z 1).val * 40 + x.val) % 10240, Nat.mod_lt _ (by decide)⟩))
    ⟨(z 0).val / 5, by have : (z 0).val < 20 := (z 0).isLt; omega⟩ ⟨(z 0).val % 5, Nat.mod_lt _ (by decide)⟩ ((z 2).val / 7) ((z 2).val % 7)

theorem final2 : (dat2 W c).arrAt 2 cfg2.N = rows2 W c := by
  refine (dat2 W c).arrAt_eq_of_covers 2 _ cover2 fun t hf y => ?_
  have ht : t.val < 20 := t.isLt
  have y0 : (y 0).val < 1 := (y 0).isLt
  have y1 : (y 1).val < 256 := (y 1).isLt
  have e := (places2 t).1.1
  have h0 : ((win2_2.blk t).view.emb y 0).val = t.val := by blk_simp [e]
  have h1 : ((win2_2.blk t).view.emb y 1).val = (y 1).val := by blk_simp [e]
  have h2 : ((win2_2.blk t).view.emb y 2).val = (y 2).val := by blk_simp [e]
  blk_simp
  rw [dat2_after_2]
  unfold Pool.out2 Pool.assemble Pool.block2 Pool.chunk
  rw [boxes2]
  refine (block_apply Pool.facts40 (by decide) (by decide) _ (by rw [Consts.thirtynine]; norm_num) _ _ _ _ _ _ _ _ _
    ⟨t.val / 5, by omega⟩ ⟨t.val % 5, Nat.mod_lt _ (by decide)⟩ (places2 t).2 _ _ _ _ (fun y' x => (W c main_v14 : FVec Ideal S4x40x10240 .f32)
      (ix3 ⟨t.val / 5, by omega⟩ y' ⟨((y 1).val * 40 + x.val) % 10240, Nat.mod_lt _ (by decide)⟩)) fun y' x hl => ?_).trans ?_
  · refine (image2 W c t _ _ ⟨t.val / 5, by omega⟩ rfl).trans (congrArg (W c main_v14) (congrArg (ix3 _ _) (Fin.ext ?_)))
    have := x.isLt
    simp only []
    omega
  · unfold rows2
    simp only [h0, h1, h2]

/-! ## The third level -/

theorem cover4 : (cfg4.win 2).Covers := by decide +kernel

/-- Which block each window has at a point, and which box the body reads there. -/
theorem places4 : ∀ t : Fin grid4.N, (win4_2.index t = ![t.val, 0, 0] ∧ win4_1.index t = ![t.val / 5, 0, 0] ∧ win4_0.index t = ![0, 0, 0])
    ∧ k4_off1 (grid4.coords t) = ![t.val / 5, t.val % 5, 0] ∧ k4_off2 (grid4.coords t) = ![t.val / 5, t.val % 5, 1]
    ∧ k4_off3 (grid4.coords t) = ![t.val / 5, t.val % 5, 2] ∧ k4_off4 (grid4.coords t) = ![t.val / 5, t.val % 5, 3] := by decide +kernel

/-- The features window has the image the box belongs to. -/
theorem image4 (t : Fin cfg4.N) (y : Fin 20) (l : Fin 10240) (q : Fin 4) (hq : q.val = t.val / 5) :
    (blk4 W c 1 t : Vec Ideal S1x20x10240 .f32) (ix3 (0 : Fin 1) y l) = (W c main_v25 : FVec Ideal S4x20x10240 .f32) (ix3 q y l) := by
  unfold blk4
  have e := (places4 t).1.2.1
  blk_simp
  refine congrArg (W c main_v25) (funext fun a => Fin.ext ?_)
  match a with
  | ⟨0, _⟩ => blk_simp [e]; exact hq.symm
  | ⟨1, _⟩ => blk_simp [e]
  | ⟨2, _⟩ => blk_simp [e]

/-- The boxes window has all boxes. -/
theorem boxes4 (t : Fin cfg4.N) : (blk4 W c 0 t : Vec Ideal S4x5x4 .f32) = W c main_arg2 := by
  unfold blk4
  have e := (places4 t).1.2.2
  funext x
  blk_simp
  refine congrArg (W c main_arg2) (funext fun a => Fin.ext ?_)
  match a with
  | ⟨0, _⟩ => blk_simp [e]
  | ⟨1, _⟩ => blk_simp [e]
  | ⟨2, _⟩ => blk_simp [e]

/-- What the call leaves in its result array. -/
def rows4 : FVec Ideal S20x512x49 .f32 := fun z =>
  boxPool 20 (W c main_arg2) (fun y x => (W c main_v25 : FVec Ideal S4x20x10240 .f32)
      (ix3 ⟨(z 0).val / 5, by have : (z 0).val < 20 := (z 0).isLt; omega⟩ y
        ⟨((z 1).val * 20 + x.val) % 10240, Nat.mod_lt _ (by decide)⟩))
    ⟨(z 0).val / 5, by have : (z 0).val < 20 := (z 0).isLt; omega⟩ ⟨(z 0).val % 5, Nat.mod_lt _ (by decide)⟩ ((z 2).val / 7) ((z 2).val % 7)

theorem final4 : (dat4 W c).arrAt 2 cfg4.N = rows4 W c := by
  refine (dat4 W c).arrAt_eq_of_covers 2 _ cover4 fun t hf y => ?_
  have ht : t.val < 20 := t.isLt
  have y0 : (y 0).val < 1 := (y 0).isLt
  have y1 : (y 1).val < 512 := (y 1).isLt
  have e := (places4 t).1.1
  have h0 : ((win4_2.blk t).view.emb y 0).val = t.val := by blk_simp [e]
  have h1 : ((win4_2.blk t).view.emb y 1).val = (y 1).val := by blk_simp [e]
  have h2 : ((win4_2.blk t).view.emb y 2).val = (y 2).val := by blk_simp [e]
  blk_simp
  rw [dat4_after_2]
  unfold Pool.out4 Pool.assemble Pool.block4 Pool.chunk
  rw [boxes4]
  refine (block_apply Pool.facts20 (by decide) (by decide) _ (by rw [Consts.nineteen]; norm_num) _ _ _ _ _ _ _ _ _
    ⟨t.val / 5, by omega⟩ ⟨t.val % 5, Nat.mod_lt _ (by decide)⟩ (places4 t).2 _ _ _ _ (fun y' x => (W c main_v25 : FVec Ideal S4x20x10240 .f32)
      (ix3 ⟨t.val / 5, by omega⟩ y' ⟨((y 1).val * 20 + x.val) % 10240, Nat.mod_lt _ (by decide)⟩)) fun y' x hl => ?_).trans ?_
  · refine (image4 W c t _ _ ⟨t.val / 5, by omega⟩ rfl).trans (congrArg (W c main_v25) (congrArg (ix3 _ _) (Fin.ext ?_)))
    have := x.isLt
    simp only []
    omega
  · unfold rows4
    simp only [h0, h1, h2]

end Cert.KernelIdeal.Run

end
-- ==== Proof.Value.Loss.lean ====
/- The loss over the extended reals: the head of the network on one row, the binary cross-entropy of one row, the
   first layer's product cut in tiles of 896, and the two ways of averaging over the rows. -/
module

public import proofs.«01_k».proof.Proof.Mlp.Step
public import proofs.«01_k».proof.Proof.Value.Consts
public import proofs.«01_k».proof.Proof.Value.Taps

@[expose] public section

noncomputable section

namespace Cert.Loss

open Idealize.ShloMosaic
open Cert.KernelIdeal Cert.KernelIdeal.Gen

/-- The cross-entropy of a logit and a label, in its stable form. -/
def bce (l t : EReal) : EReal := (max l 0 - l * t) + Ideal.log (1 + Ideal.exp (0 - max l (-l)))

/-- The two upper layers on the first layer's values before its rectifier: one row's logit. -/
def head (a : Fin 1024 → EReal) (W2 : Fin 1024 → Fin 1024 → EReal) (b2 w3 : Fin 1024 → EReal) (b3 : EReal) : EReal :=
  (∑ k2, max ((∑ k1, max (a k1) 0 * W2 k1 k2) + b2 k2) 0 * w3 k2) + b3

/-- The whole network on one row of `K` features. -/
def logit {K : ℕ} (X : Fin K → EReal) (W1 : Fin K → Fin 1024 → EReal) (b1 : Fin 1024 → EReal) (W2 : Fin 1024 → Fin 1024 → EReal)
    (b2 w3 : Fin 1024 → EReal) (b3 : EReal) : EReal :=
  head (fun k1 => (∑ k, X k * W1 k k1) + b1 k1) W2 b2 w3 b3

/-- One step of the accumulation, at an entry. -/
theorem accStep_apply (acc : Vec Ideal S20x1024 .f32) (x : Vec Ideal S20x896 .f32) (w : Vec Ideal S896x1024 .f32) (r : Fin 20) (k : Fin 1024) :
    Mlp.accStep (F := Ideal) acc x w (ix2 r k) = acc (ix2 r k) + ∑ y : Fin 896, x (ix2 r y) * w (ix2 y k) := by
  pointwise [Mlp.accStep, k1_pay2]

/-- The accumulator starts at zero. -/
theorem start_apply (r : Fin 20) (k : Fin 1024) : k1_pay1 (F := Ideal) (ix2 r k) = 0 := by
  pointwise [k1_pay1]

theorem rowLoss_apply (acc : Vec Ideal S20x1024 .f32) (b1 : Vec Ideal S1x1024 .f32) (w2 : Vec Ideal S1024x1024 .f32) (b2 : Vec Ideal S1x1024 .f32)
    (w3 : Vec Ideal S1x1024 .f32) (b3 : Elt Ideal .f32) (lab : Vec Ideal S20x1 .f32) (r : Fin 20) :
    k1_pay4 (F := Ideal) acc b1 w2 b2 w3 b3 lab (ix2 r 0)
      = bce (head (fun k => acc (ix2 r k) + b1 (ix2 0 k)) (fun k1 k2 => w2 (ix2 k1 k2)) (fun k => b2 (ix2 0 k)) (fun k => w3 (ix2 0 k)) b3)
          (lab (ix2 r 0)) := by
  pointwise [k1_pay4]
  rfl

theorem total_apply (v : FVec Ideal S20x1 .f32) : k1_pay3 v k1_pay5 (ix2 0 0) = ∑ r : Fin 20, v (ix2 r 0) := by
  pointwise [k1_pay3, k1_pay5]
  exact Finset.sum_congr rfl fun r _ => Fin.sum_univ_one _

/-- What a call writes: the sum over the 20 rows of the rows' losses. -/
theorem lossOf_apply (acc : Vec Ideal S20x1024 .f32) (b1 : Vec Ideal S1x1024 .f32) (w2 : Vec Ideal S1024x1024 .f32) (b2 : Vec Ideal S1x1024 .f32)
    (w3 : Vec Ideal S1x1024 .f32) (b3 : Elt Ideal .f32) (lab : Vec Ideal S20x1 .f32) :
    Mlp.lossOf (F := Ideal) acc b1 w2 b2 w3 b3 lab (ix2 0 0)
      = ∑ r : Fin 20, bce (head (fun k => acc (ix2 r k) + b1 (ix2 0 k)) (fun k1 k2 => w2 (ix2 k1 k2)) (fun k => b2 (ix2 0 k)) (fun k => w3 (ix2 0 k)) b3)
          (lab (ix2 r 0)) := by
  unfold Mlp.lossOf
  rw [total_apply]
  exact Finset.sum_congr rfl fun r _ => rowLoss_apply acc b1 w2 b2 w3 b3 lab r

/-- A sum over `N` tiles of 896 is the sum over all `N * 896`. -/
theorem sum_tiles {N K : ℕ} (hK : K = N * 896) (f : Fin N → Fin 896 → EReal) (g : Fin K → EReal)
    (h : ∀ t x, f t x = g ⟨x.val + 896 * t.val, by subst hK; have := t.isLt; have := x.isLt; omega⟩) :
    ∑ t, ∑ x, f t x = ∑ k, g k := by
  subst hK
  rw [← Equiv.sum_comp finProdFinEquiv g, Fintype.sum_prod_type]
  exact Finset.sum_congr rfl fun t _ => Finset.sum_congr rfl fun x _ => h t x

/-- Accumulating `N` steps from zero gives the sum of the steps' products. -/
theorem acc_apply {N : ℕ} (acc : ℕ → Vec Ideal S20x1024 .f32) (xb : Fin N → Vec Ideal S20x896 .f32) (wb : Fin N → Vec Ideal S896x1024 .f32)
    (h0 : acc 0 = k1_pay1 (F := Ideal)) (hs : ∀ n (h : n < N), acc (n + 1) = Mlp.accStep (acc n) (xb ⟨n, h⟩) (wb ⟨n, h⟩)) (r : Fin 20) (k : Fin 1024) :
    acc N (ix2 r k) = ∑ t : Fin N, ∑ y : Fin 896, xb t (ix2 r y) * wb t (ix2 y k) := by
  have key : ∀ n (h : n ≤ N), acc n (ix2 r k) = ∑ t : Fin n, ∑ y : Fin 896, xb (t.castLE h) (ix2 r y) * wb (t.castLE h) (ix2 y k) := by
    intro n
    induction n with
    | zero => intro _; rw [h0, start_apply]; rfl
    | succ n ih =>
      intro h
      rw [hs n h, accStep_apply, ih (Nat.le_of_succ_le h), Fin.sum_univ_castSucc (n := n)]
      rfl
  exact key N le_rfl

/-- The sum over 20 rows is the sum over 4 images of the sums over their 5 boxes. -/
theorem sum_rows (f : Fin 20 → EReal) : ∑ r, f r = ∑ a : Fin 4, ∑ b : Fin 5, f ⟨5 * a.val + b.val, by omega⟩ := by
  rw [← Equiv.sum_comp (finProdFinEquiv : Fin 4 × Fin 5 ≃ Fin 20) f, Fintype.sum_prod_type]
  refine Finset.sum_congr rfl fun a _ => Finset.sum_congr rfl fun b _ => congrArg f (Fin.ext ?_)
  show b.val + 5 * a.val = 5 * a.val + b.val
  omega

/-- The mean of one level: the sum over the images of the means over their boxes. -/
theorem level_mean (f : Fin 20 → EReal) :
    ∑ a : Fin 4, Ideal.div (∑ b : Fin 5, f ⟨5 * a.val + b.val, by omega⟩) ((5 : ℝ) : EReal) = (∑ r, f r) * ((1 / 5 : ℝ) : EReal) := by
  rw [sum_rows, Cert.Pooling.sum_mul_coe _ (by norm_num)]
  exact Finset.sum_congr rfl fun a _ => Ideal.div_coe (by norm_num) _

/-- The mean over all 60 rows is the mean over 12 of the levels' sums of means. -/
theorem mean_eq (f g h : Fin 20 → EReal) :
    Ideal.div ((((∑ r, f r) + ∑ r, g r)) + ∑ r, h r) ((60 : ℝ) : EReal)
      = Ideal.div ((∑ a : Fin 4, Ideal.div (∑ b : Fin 5, f ⟨5 * a.val + b.val, by omega⟩) ((5 : ℝ) : EReal)
          + ∑ a : Fin 4, Ideal.div (∑ b : Fin 5, g ⟨5 * a.val + b.val, by omega⟩) ((5 : ℝ) : EReal))
          + ∑ a : Fin 4, Ideal.div (∑ b : Fin 5, h ⟨5 * a.val + b.val, by omega⟩) ((5 : ℝ) : EReal)) ((12 : ℝ) : EReal) := by
  have h5 : (0 : EReal) ≤ ((1 / 5 : ℝ) : EReal) := by exact_mod_cast (by norm_num : (0 : ℝ) ≤ 1 / 5)
  rw [level_mean, level_mean, level_mean, ← EReal.right_distrib_of_nonneg_of_ne_top h5 (EReal.coe_ne_top _),
    ← EReal.right_distrib_of_nonneg_of_ne_top h5 (EReal.coe_ne_top _), Ideal.div_coe (by norm_num), Ideal.div_coe (by norm_num), mul_assoc, ← EReal.coe_mul]
  norm_num

end Cert.Loss

end
-- ==== Proof.Value.MlpArray.lean ====
/- What the network calls leave in their result arrays: the sum over the 20 boxes of the cross-entropy of the network's
   logit and the label. -/
module

public import proofs.«01_k».proof.Proof.Run.Chain
public import proofs.«01_k».proof.Proof.Value.Loss
public import Idealize.ShloMosaic.Lib.Pipeline.ValueKit.Geometry

@[expose] public section

set_option maxRecDepth 16384

noncomputable section

namespace Cert.KernelIdeal.Run

open Idealize.ShloMosaic Idealize.ShloMosaic.TcCoe Idealize.ShloMosaic.Tactic
open Idealize.SL Idealize.SL.Sem
open Cert.KernelIdeal Cert.KernelIdeal.Gen Cert.Loss

/-- The sum over the 20 boxes of the losses of their logits. -/
def lossSum {K : ℕ} (X : FVec Ideal ⟨2, ![20, K]⟩ .f32) (w1 : FVec Ideal ⟨2, ![K, 1024]⟩ .f32) (b1 : FVec Ideal S1x1024 .f32)
    (w2 : FVec Ideal S1024x1024 .f32) (b2 w3 : FVec Ideal S1x1024 .f32) (b3 : FVec Ideal S1 .f32) (lab : FVec Ideal S20x1 .f32) : EReal :=
  ∑ r : Fin 20, bce (logit (fun k => X (ix2 r k)) (fun k k1 => w1 (ix2 k k1)) (fun k => b1 (ix2 0 k)) (fun k1 k2 => w2 (ix2 k1 k2))
    (fun k => b2 (ix2 0 k)) (fun k => w3 (ix2 0 k)) (b3 (ix1 0))) (lab (ix2 r 0))

/-- The last point's value is that sum when the accumulator has run over all tiles. -/
theorem lossOf_sum {N K : ℕ} (hK : K = N * 896) (acc : ℕ → Vec Ideal S20x1024 .f32) (xb : Fin N → Vec Ideal S20x896 .f32) (wb : Fin N → Vec Ideal S896x1024 .f32)
    (h0 : acc 0 = k1_pay1 (F := Ideal)) (hs : ∀ n (h : n < N), acc (n + 1) = Mlp.accStep (acc n) (xb ⟨n, h⟩) (wb ⟨n, h⟩))
    (X : FVec Ideal ⟨2, ![20, K]⟩ .f32) (w1 : FVec Ideal ⟨2, ![K, 1024]⟩ .f32)
    (hx : ∀ (t : Fin N) (r : Fin 20) (y : Fin 896) (h : y.val + 896 * t.val < K), xb t (ix2 r y) = X (ix2 r ⟨y.val + 896 * t.val, h⟩))
    (hw : ∀ (t : Fin N) (y : Fin 896) (k : Fin 1024) (h : y.val + 896 * t.val < K), wb t (ix2 y k) = w1 (ix2 ⟨y.val + 896 * t.val, h⟩ k))
    (b1 : FVec Ideal S1x1024 .f32) (w2 : FVec Ideal S1024x1024 .f32) (b2 w3 : FVec Ideal S1x1024 .f32) (b3 : FVec Ideal S1 .f32) (lab : FVec Ideal S20x1 .f32) :
    Mlp.lossOf (F := Ideal) (acc N) b1 w2 b2 w3 (b3 Mlp.at0) lab (ix2 0 0) = lossSum X w1 b1 w2 b2 w3 b3 lab := by
  rw [lossOf_apply]
  unfold lossSum logit
  have hb : b3 Mlp.at0 = b3 (ix1 0) := congrArg b3 (funext fun a => Fin.ext (by fin_cases a; rfl))
  rw [hb]
  refine Finset.sum_congr rfl fun r _ => congrArg (fun a => bce (head a _ _ _ _) _) (funext fun k => congrArg (· + b1 (ix2 0 k)) ?_)
  rw [acc_apply acc xb wb h0 hs]
  exact sum_tiles hK _ (fun q => X (ix2 r q) * w1 (ix2 q k)) fun t y => by rw [hx, hw]

variable (W : Contents Ideal) (c : Dev nD)

/-! ## The first level -/

/-- The result is written whole at the last point. -/
theorem whole1 : (cfg1.win 8).WholeAt (⟨6, by decide⟩ : Fin cfg1.N) := by decide +kernel

/-- Which block each window has at a point. -/
theorem tiles1 : ∀ t : Fin grid1.N, win1_0.index t = ![0, t.val] ∧ win1_1.index t = ![t.val, 0] ∧ win1_2.index t = ![0, 0]
    ∧ win1_3.index t = ![0, 0] ∧ win1_4.index t = ![0, 0] ∧ win1_5.index t = ![0, 0] ∧ win1_6.index t = ![0] ∧ win1_7.index t = ![0, 0] := by
  decide +kernel

theorem rowTile1 (t : Fin cfg1.N) (r : Fin 20) (y : Fin 896) (h : y.val + 896 * t.val < 6272) :
    (blk1 W c 0 t : Vec Ideal S20x896 .f32) (ix2 r y) = (W c main_v5 : FVec Ideal S20x6272 .f32) (ix2 r ⟨y.val + 896 * t.val, h⟩) := by
  unfold blk1
  have e := (tiles1 t).1
  blk_simp
  refine congrArg (W c main_v5) (funext fun a => Fin.ext ?_)
  match a with
  | ⟨0, _⟩ => blk_simp [e]
  | ⟨1, _⟩ => blk_simp [e]; show t.val * 896 + y.val = y.val + 896 * t.val; omega

theorem weightTile1 (t : Fin cfg1.N) (y : Fin 896) (q : Fin 1024) (h : y.val + 896 * t.val < 6272) :
    (blk1 W c 1 t : Vec Ideal S896x1024 .f32) (ix2 y q) = (W c main_arg7 : FVec Ideal S6272x1024 .f32) (ix2 ⟨y.val + 896 * t.val, h⟩ q) := by
  unfold blk1
  have e := (tiles1 t).2.1
  blk_simp
  refine congrArg (W c main_arg7) (funext fun a => Fin.ext ?_)
  match a with
  | ⟨0, _⟩ => blk_simp [e]; show t.val * 896 + y.val = y.val + 896 * t.val; omega
  | ⟨1, _⟩ => blk_simp [e]

theorem whole1_2 (t : Fin cfg1.N) : (blk1 W c 2 t : Vec Ideal S1x1024 .f32) = W c main_v6 := by
  unfold blk1
  have e := (tiles1 t).2.2.1
  funext x
  blk_simp
  refine congrArg (W c main_v6) (funext fun a => Fin.ext ?_)
  match a with
  | ⟨0, _⟩ => blk_simp [e]
  | ⟨1, _⟩ => blk_simp [e]

theorem whole1_3 (t : Fin cfg1.N) : (blk1 W c 3 t : Vec Ideal S1024x1024 .f32) = W c main_arg9 := by
  unfold blk1
  have e := (tiles1 t).2.2.2.1
  funext x
  blk_simp
  refine congrArg (W c main_arg9) (funext fun a => Fin.ext ?_)
  match a with
  | ⟨0, _⟩ => blk_simp [e]
  | ⟨1, _⟩ => blk_simp [e]

theorem whole1_4 (t : Fin cfg1.N) : (blk1 W c 4 t : Vec Ideal S1x1024 .f32) = W c main_v7 := by
  unfold blk1
  have e := (tiles1 t).2.2.2.2.1
  funext x
  blk_simp
  refine congrArg (W c main_v7) (funext fun a => Fin.ext ?_)
  match a with
  | ⟨0, _⟩ => blk_simp [e]
  | ⟨1, _⟩ => blk_simp [e]

theorem whole1_5 (t : Fin cfg1.N) : (blk1 W c 5 t : Vec Ideal S1x1024 .f32) = W c main_v8 := by
  unfold blk1
  have e := (tiles1 t).2.2.2.2.2.1
  funext x
  blk_simp
  refine congrArg (W c main_v8) (funext fun a => Fin.ext ?_)
  match a with
  | ⟨0, _⟩ => blk_simp [e]
  | ⟨1, _⟩ => blk_simp [e]

theorem whole1_6 (t : Fin cfg1.N) : (blk1 W c 6 t : Vec Ideal S1 .f32) = W c main_arg12 := by
  unfold blk1
  have e := (tiles1 t).2.2.2.2.2.2.1
  funext x
  blk_simp
  refine congrArg (W c main_arg12) (funext fun a => Fin.ext ?_)
  match a with
  | ⟨0, _⟩ => blk_simp [e]

theorem whole1_7 (t : Fin cfg1.N) : (blk1 W c 7 t : Vec Ideal S20x1 .f32) = W c main_v9 := by
  unfold blk1
  have e := (tiles1 t).2.2.2.2.2.2.2
  funext x
  blk_simp
  refine congrArg (W c main_v9) (funext fun a => Fin.ext ?_)
  match a with
  | ⟨0, _⟩ => blk_simp [e]
  | ⟨1, _⟩ => blk_simp [e]

theorem final1 : ((dat1 W c).arrAt 8 cfg1.N : FVec Ideal S1x1 .f32) (ix2 0 0)
    = lossSum (K := 6272) (W c main_v5) (W c main_arg7) (W c main_v6) (W c main_arg9) (W c main_v7) (W c main_v8) (W c main_arg12) (W c main_v9) := by
  refine Eq.trans ((dat1 W c).arrAt_emb_eq_after_last 8 ⟨6, by decide⟩ whole1 (ix2 (0 : Fin 1) (0 : Fin 1))) ?_
  rw [dat1_after_8]
  rw [whole1_2, whole1_3, whole1_4, whole1_5, whole1_6, whole1_7]
  exact lossOf_sum (N := 7) (K := 6272) (by decide) (acc1 W c) (fun t => blk1 W c 0 t) (fun t => blk1 W c 1 t) rfl
    (fun n h => dif_pos h) _ _ (fun t r y h => rowTile1 W c t r y h) (fun t y q h => weightTile1 W c t y q h) _ _ _ _ _ _

/-! ## The second level -/

/-- The result is written whole at the last point. -/
theorem whole3 : (cfg3.win 8).WholeAt (⟨13, by decide⟩ : Fin cfg3.N) := by decide +kernel

/-- Which block each window has at a point. -/
theorem tiles3 : ∀ t : Fin grid3.N, win3_0.index t = ![0, t.val] ∧ win3_1.index t = ![t.val, 0] ∧ win3_2.index t = ![0, 0]
    ∧ win3_3.index t = ![0, 0] ∧ win3_4.index t = ![0, 0] ∧ win3_5.index t = ![0, 0] ∧ win3_6.index t = ![0] ∧ win3_7.index t = ![0, 0] := by
  decide +kernel

theorem rowTile3 (t : Fin cfg3.N) (r : Fin 20) (y : Fin 896) (h : y.val + 896 * t.val < 12544) :
    (blk3 W c 0 t : Vec Ideal S20x896 .f32) (ix2 r y) = (W c main_v16 : FVec Ideal S20x12544 .f32) (ix2 r ⟨y.val + 896 * t.val, h⟩) := by
  unfold blk3
  have e := (tiles3 t).1
  blk_simp
  refine congrArg (W c main_v16) (funext fun a => Fin.ext ?_)
  match a with
  | ⟨0, _⟩ => blk_simp [e]
  | ⟨1, _⟩ => blk_simp [e]; show t.val * 896 + y.val = y.val + 896 * t.val; omega

theorem weightTile3 (t : Fin cfg3.N) (y : Fin 896) (q : Fin 1024) (h : y.val + 896 * t.val < 12544) :
    (blk3 W c 1 t : Vec Ideal S896x1024 .f32) (ix2 y q) = (W c main_arg13 : FVec Ideal S12544x1024 .f32) (ix2 ⟨y.val + 896 * t.val, h⟩ q) := by
  unfold blk3
  have e := (tiles3 t).2.1
  blk_simp
  refine congrArg (W c main_arg13) (funext fun a => Fin.ext ?_)
  match a with
  | ⟨0, _⟩ => blk_simp [e]; show t.val * 896 + y.val = y.val + 896 * t.val; omega
  | ⟨1, _⟩ => blk_simp [e]

theorem whole3_2 (t : Fin cfg3.N) : (blk3 W c 2 t : Vec Ideal S1x1024 .f32) = W c main_v17 := by
  unfold blk3
  have e := (tiles3 t).2.2.1
  funext x
  blk_simp
  refine congrArg (W c main_v17) (funext fun a => Fin.ext ?_)
  match a with
  | ⟨0, _⟩ => blk_simp [e]
  | ⟨1, _⟩ => blk_simp [e]

theorem whole3_3 (t : Fin cfg3.N) : (blk3 W c 3 t : Vec Ideal S1024x1024 .f32) = W c main_arg15 := by
  unfold blk3
  have e := (tiles3 t).2.2.2.1
  funext x
  blk_simp
  refine congrArg (W c main_arg15) (funext fun a => Fin.ext ?_)
  match a with
  | ⟨0, _⟩ => blk_simp [e]
  | ⟨1, _⟩ => blk_simp [e]

theorem whole3_4 (t : Fin cfg3.N) : (blk3 W c 4 t : Vec Ideal S1x1024 .f32) = W c main_v18 := by
  unfold blk3
  have e := (tiles3 t).2.2.2.2.1
  funext x
  blk_simp
  refine congrArg (W c main_v18) (funext fun a => Fin.ext ?_)
  match a with
  | ⟨0, _⟩ => blk_simp [e]
  | ⟨1, _⟩ => blk_simp [e]

theorem whole3_5 (t : Fin cfg3.N) : (blk3 W c 5 t : Vec Ideal S1x1024 .f32) = W c main_v19 := by
  unfold blk3
  have e := (tiles3 t).2.2.2.2.2.1
  funext x
  blk_simp
  refine congrArg (W c main_v19) (funext fun a => Fin.ext ?_)
  match a with
  | ⟨0, _⟩ => blk_simp [e]
  | ⟨1, _⟩ => blk_simp [e]

theorem whole3_6 (t : Fin cfg3.N) : (blk3 W c 6 t : Vec Ideal S1 .f32) = W c main_arg18 := by
  unfold blk3
  have e := (tiles3 t).2.2.2.2.2.2.1
  funext x
  blk_simp
  refine congrArg (W c main_arg18) (funext fun a => Fin.ext ?_)
  match a with
  | ⟨0, _⟩ => blk_simp [e]

theorem whole3_7 (t : Fin cfg3.N) : (blk3 W c 7 t : Vec Ideal S20x1 .f32) = W c main_v20 := by
  unfold blk3
  have e := (tiles3 t).2.2.2.2.2.2.2
  funext x
  blk_simp
  refine congrArg (W c main_v20) (funext fun a => Fin.ext ?_)
  match a with
  | ⟨0, _⟩ => blk_simp [e]
  | ⟨1, _⟩ => blk_simp [e]

theorem final3 : ((dat3 W c).arrAt 8 cfg3.N : FVec Ideal S1x1 .f32) (ix2 0 0)
    = lossSum (K := 12544) (W c main_v16) (W c main_arg13) (W c main_v17) (W c main_arg15) (W c main_v18) (W c main_v19) (W c main_arg18) (W c main_v20) := by
  refine Eq.trans ((dat3 W c).arrAt_emb_eq_after_last 8 ⟨13, by decide⟩ whole3 (ix2 (0 : Fin 1) (0 : Fin 1))) ?_
  rw [dat3_after_8]
  rw [whole3_2, whole3_3, whole3_4, whole3_5, whole3_6, whole3_7]
  exact lossOf_sum (N := 14) (K := 12544) (by decide) (acc3 W c) (fun t => blk3 W c 0 t) (fun t => blk3 W c 1 t) rfl
    (fun n h => dif_pos h) _ _ (fun t r y h => rowTile3 W c t r y h) (fun t y q h => weightTile3 W c t y q h) _ _ _ _ _ _

/-! ## The third level -/

/-- The result is written whole at the last point. -/
theorem whole5 : (cfg5.win 8).WholeAt (⟨27, by decide⟩ : Fin cfg5.N) := by decide +kernel

/-- Which block each window has at a point. -/
theorem tiles5 : ∀ t : Fin grid5.N, win5_0.index t = ![0, t.val] ∧ win5_1.index t = ![t.val, 0] ∧ win5_2.index t = ![0, 0]
    ∧ win5_3.index t = ![0, 0] ∧ win5_4.index t = ![0, 0] ∧ win5_5.index t = ![0, 0] ∧ win5_6.index t = ![0] ∧ win5_7.index t = ![0, 0] := by
  decide +kernel

theorem rowTile5 (t : Fin cfg5.N) (r : Fin 20) (y : Fin 896) (h : y.val + 896 * t.val < 25088) :
    (blk5 W c 0 t : Vec Ideal S20x896 .f32) (ix2 r y) = (W c main_v27 : FVec Ideal S20x25088 .f32) (ix2 r ⟨y.val + 896 * t.val, h⟩) := by
  unfold blk5
  have e := (tiles5 t).1
  blk_simp
  refine congrArg (W c main_v27) (funext fun a => Fin.ext ?_)
  match a with
  | ⟨0, _⟩ => blk_simp [e]
  | ⟨1, _⟩ => blk_simp [e]; show t.val * 896 + y.val = y.val + 896 * t.val; omega

theorem weightTile5 (t : Fin cfg5.N) (y : Fin 896) (q : Fin 1024) (h : y.val + 896 * t.val < 25088) :
    (blk5 W c 1 t : Vec Ideal S896x1024 .f32) (ix2 y q) = (W c main_arg19 : FVec Ideal S25088x1024 .f32) (ix2 ⟨y.val + 896 * t.val, h⟩ q) := by
  unfold blk5
  have e := (tiles5 t).2.1
  blk_simp
  refine congrArg (W c main_arg19) (funext fun a => Fin.ext ?_)
  match a with
  | ⟨0, _⟩ => blk_simp [e]; show t.val * 896 + y.val = y.val + 896 * t.val; omega
  | ⟨1, _⟩ => blk_simp [e]

theorem whole5_2 (t : Fin cfg5.N) : (blk5 W c 2 t : Vec Ideal S1x1024 .f32) = W c main_v28 := by
  unfold blk5
  have e := (tiles5 t).2.2.1
  funext x
  blk_simp
  refine congrArg (W c main_v28) (funext fun a => Fin.ext ?_)
  match a with
  | ⟨0, _⟩ => blk_simp [e]
  | ⟨1, _⟩ => blk_simp [e]

theorem whole5_3 (t : Fin cfg5.N) : (blk5 W c 3 t : Vec Ideal S1024x1024 .f32) = W c main_arg21 := by
  unfold blk5
  have e := (tiles5 t).2.2.2.1
  funext x
  blk_simp
  refine congrArg (W c main_arg21) (funext fun a => Fin.ext ?_)
  match a with
  | ⟨0, _⟩ => blk_simp [e]
  | ⟨1, _⟩ => blk_simp [e]

theorem whole5_4 (t : Fin cfg5.N) : (blk5 W c 4 t : Vec Ideal S1x1024 .f32) = W c main_v29 := by
  unfold blk5
  have e := (tiles5 t).2.2.2.2.1
  funext x
  blk_simp
  refine congrArg (W c main_v29) (funext fun a => Fin.ext ?_)
  match a with
  | ⟨0, _⟩ => blk_simp [e]
  | ⟨1, _⟩ => blk_simp [e]

theorem whole5_5 (t : Fin cfg5.N) : (blk5 W c 5 t : Vec Ideal S1x1024 .f32) = W c main_v30 := by
  unfold blk5
  have e := (tiles5 t).2.2.2.2.2.1
  funext x
  blk_simp
  refine congrArg (W c main_v30) (funext fun a => Fin.ext ?_)
  match a with
  | ⟨0, _⟩ => blk_simp [e]
  | ⟨1, _⟩ => blk_simp [e]

theorem whole5_6 (t : Fin cfg5.N) : (blk5 W c 6 t : Vec Ideal S1 .f32) = W c main_arg24 := by
  unfold blk5
  have e := (tiles5 t).2.2.2.2.2.2.1
  funext x
  blk_simp
  refine congrArg (W c main_arg24) (funext fun a => Fin.ext ?_)
  match a with
  | ⟨0, _⟩ => blk_simp [e]

theorem whole5_7 (t : Fin cfg5.N) : (blk5 W c 7 t : Vec Ideal S20x1 .f32) = W c main_v31 := by
  unfold blk5
  have e := (tiles5 t).2.2.2.2.2.2.2
  funext x
  blk_simp
  refine congrArg (W c main_v31) (funext fun a => Fin.ext ?_)
  match a with
  | ⟨0, _⟩ => blk_simp [e]
  | ⟨1, _⟩ => blk_simp [e]

theorem final5 : ((dat5 W c).arrAt 8 cfg5.N : FVec Ideal S1x1 .f32) (ix2 0 0)
    = lossSum (K := 25088) (W c main_v27) (W c main_arg19) (W c main_v28) (W c main_arg21) (W c main_v29) (W c main_v30) (W c main_arg24) (W c main_v31) := by
  refine Eq.trans ((dat5 W c).arrAt_emb_eq_after_last 8 ⟨27, by decide⟩ whole5 (ix2 (0 : Fin 1) (0 : Fin 1))) ?_
  rw [dat5_after_8]
  rw [whole5_2, whole5_3, whole5_4, whole5_5, whole5_6, whole5_7]
  exact lossOf_sum (N := 28) (K := 25088) (by decide) (acc5 W c) (fun t => blk5 W c 0 t) (fun t => blk5 W c 1 t) rfl
    (fun n h => dif_pos h) _ _ (fun t r y h => rowTile5 W c t r y h) (fun t y q h => weightTile5 W c t y q h) _ _ _ _ _ _

end Cert.KernelIdeal.Run

end
-- ==== Proof.Value.Spec.lean ====
/- What the program computes, in one place: the pooled features of a box, the loss of a box, and the mean over all
   boxes of all levels. -/
module

public import proofs.«01_k».proof.Proof.Value.PoolArray
public import proofs.«01_k».proof.Proof.Value.MlpArray

@[expose] public section

noncomputable section

namespace Cert.Spec

open Idealize.ShloMosaic
open Cert.KernelIdeal Cert.KernelIdeal.Run Cert.Loss

/-- One level's arguments: the boxes, the features of the four images, the network's weights, and the images' labels. -/
structure Level (n C K : ℕ) where
  rois : FVec Ideal S4x5x4 .f32
  feat : FVec Ideal ⟨4, ![4, C, n, n]⟩ .f32
  w1 : FVec Ideal ⟨2, ![K, 1024]⟩ .f32
  b1 : FVec Ideal S1024 .f32
  w2 : FVec Ideal S1024x1024 .f32
  b2 : FVec Ideal S1024 .f32
  w3 : FVec Ideal S1024x1 .f32
  b3 : FVec Ideal S1 .f32
  lab : FVec Ideal S4 .f32

variable {n C K : ℕ} [NeZero n]

/-- Feature `k` of a box: the pooled value of channel `k / 49` at bin `k % 49`. -/
def feature (hK : K = C * 49) (L : Level n C K) (a : Fin 4) (b : Fin 5) (k : Fin K) : EReal :=
  boxPool n L.rois (fun y x => L.feat (ix4 a ⟨k.val / 49, by subst hK; exact Nat.div_lt_of_lt_mul (Nat.mul_comm C 49 ▸ k.isLt)⟩ y x)) a b
    (k.val % 49 / 7) (k.val % 49 % 7)

/-- The loss of a box. -/
def boxLoss (hK : K = C * 49) (L : Level n C K) (a : Fin 4) (b : Fin 5) : EReal :=
  bce (logit (feature hK L a b) (fun k k1 => L.w1 (ix2 k k1)) (fun k => L.b1 (ix1 k)) (fun k1 k2 => L.w2 (ix2 k1 k2)) (fun k => L.b2 (ix1 k))
    (fun k => L.w3 (ix2 k 0)) (L.b3 (ix1 0))) (L.lab (ix1 a))

/-- The losses of the 20 boxes, image by image. -/
def rowLoss (hK : K = C * 49) (L : Level n C K) (r : Fin 20) : EReal :=
  boxLoss hK L ⟨r.val / 5, by omega⟩ ⟨r.val % 5, Nat.mod_lt _ (by decide)⟩

theorem rowLoss_at (hK : K = C * 49) (L : Level n C K) (a : Fin 4) (b : Fin 5) (h : 5 * a.val + b.val < 20) :
    rowLoss hK L ⟨5 * a.val + b.val, h⟩ = boxLoss hK L a b := by
  unfold rowLoss
  exact congrArg₂ (boxLoss hK L) (Fin.ext (by show (5 * a.val + b.val) / 5 = _; omega)) (Fin.ext (by show (5 * a.val + b.val) % 5 = _; omega))

/-- A network call's sum, from its operands read at an index. -/
theorem lossSum_eq (hK : K = C * 49) (L : Level n C K) (X : FVec Ideal ⟨2, ![20, K]⟩ .f32) (w1 : FVec Ideal ⟨2, ![K, 1024]⟩ .f32)
    (b1 : FVec Ideal S1x1024 .f32) (w2 : FVec Ideal S1024x1024 .f32) (b2 w3 : FVec Ideal S1x1024 .f32) (b3 : FVec Ideal S1 .f32)
    (lab : FVec Ideal S20x1 .f32)
    (hX : ∀ (r : Fin 20) k, X (ix2 r k) = feature hK L ⟨r.val / 5, by omega⟩ ⟨r.val % 5, Nat.mod_lt _ (by decide)⟩ k)
    (hw1 : w1 = L.w1) (hb1 : ∀ k, b1 (ix2 0 k) = L.b1 (ix1 k)) (hw2 : w2 = L.w2) (hb2 : ∀ k, b2 (ix2 0 k) = L.b2 (ix1 k))
    (hw3 : ∀ k, w3 (ix2 0 k) = L.w3 (ix2 k 0)) (hb3 : b3 = L.b3) (hlab : ∀ r : Fin 20, lab (ix2 r 0) = L.lab (ix1 ⟨r.val / 5, by omega⟩)) :
    lossSum X w1 b1 w2 b2 w3 b3 lab = ∑ r, rowLoss hK L r := by
  subst hw1 hw2 hb3
  unfold lossSum rowLoss boxLoss
  simp only [hX, hb1, hb2, hw3, hlab]

end Cert.Spec

end
-- ==== Proof.Value.HostRead.lean ====
/- The host's statements between the kernel calls, read at an index: relayouts of the features, the pooled rows, the
   biases and the labels, and the final mean. -/
module

public import proofs.«01_k».proof.Proof.Gen.KernelIdeal.Regions
public import proofs.«01_k».proof.Proof.Value.Consts
public import Idealize.ShloMosaic.Lib.Pointwise
public import Idealize.ShloMosaic.Lib.StableHlo.RunClose

@[expose] public section

set_option maxRecDepth 16384

noncomputable section

namespace Cert.HostRead

open Idealize.ShloMosaic Idealize.ShloMosaic.TcCoe
open Cert.KernelIdeal Cert.KernelIdeal.Gen

/-! ## The relayouts -/

theorem planes80 (f : FVec Ideal S4x128x80x80 .f32) (a : Fin 4) (y : Fin 80) (ch : Fin 128) (x : Fin 80) (h : ch.val * 80 + x.val < 10240) :
    shapeCast S4x80x10240 (transpose S4x80x128x80 [0, 2, 1, 3] f transposes_S4x128x80x80_S4x80x128x80_0_2_1_3) shapeCasts_S4x80x128x80_S4x80x10240
      (ix3 a y ⟨ch.val * 80 + x.val, h⟩) = f (ix4 a ch y x) := by
  pointwise []

theorem planes40 (f : FVec Ideal S4x256x40x40 .f32) (a : Fin 4) (y : Fin 40) (ch : Fin 256) (x : Fin 40) (h : ch.val * 40 + x.val < 10240) :
    shapeCast S4x40x10240 (transpose S4x40x256x40 [0, 2, 1, 3] f transposes_S4x256x40x40_S4x40x256x40_0_2_1_3) shapeCasts_S4x40x256x40_S4x40x10240
      (ix3 a y ⟨ch.val * 40 + x.val, h⟩) = f (ix4 a ch y x) := by
  pointwise []

theorem planes20 (f : FVec Ideal S4x512x20x20 .f32) (a : Fin 4) (y : Fin 20) (ch : Fin 512) (x : Fin 20) (h : ch.val * 20 + x.val < 10240) :
    shapeCast S4x20x10240 (transpose S4x20x512x20 [0, 2, 1, 3] f transposes_S4x512x20x20_S4x20x512x20_0_2_1_3) shapeCasts_S4x20x512x20_S4x20x10240
      (ix3 a y ⟨ch.val * 20 + x.val, h⟩) = f (ix4 a ch y x) := by
  pointwise []

theorem flat128 (p : FVec Ideal S20x128x49 .f32) (r : Fin 20) (ch : Fin 128) (q : Fin 49) (h : ch.val * 49 + q.val < 6272) :
    shapeCast S20x6272 p shapeCasts_S20x128x49_S20x6272 (ix2 r ⟨ch.val * 49 + q.val, h⟩) = p (ix3 r ch q) := by
  pointwise []

theorem flat256 (p : FVec Ideal S20x256x49 .f32) (r : Fin 20) (ch : Fin 256) (q : Fin 49) (h : ch.val * 49 + q.val < 12544) :
    shapeCast S20x12544 p shapeCasts_S20x256x49_S20x12544 (ix2 r ⟨ch.val * 49 + q.val, h⟩) = p (ix3 r ch q) := by
  pointwise []

theorem flat512 (p : FVec Ideal S20x512x49 .f32) (r : Fin 20) (ch : Fin 512) (q : Fin 49) (h : ch.val * 49 + q.val < 25088) :
    shapeCast S20x25088 p shapeCasts_S20x512x49_S20x25088 (ix2 r ⟨ch.val * 49 + q.val, h⟩) = p (ix3 r ch q) := by
  pointwise []

theorem row1024 (b : FVec Ideal S1024 .f32) (k : Fin 1024) : shapeCast S1x1024 b shapeCasts_S1024_S1x1024 (ix2 0 k) = b (ix1 k) := by
  pointwise []

theorem col1024 (w : FVec Ideal S1024x1 .f32) (k : Fin 1024) : shapeCast S1x1024 w shapeCasts_S1024x1_S1x1024 (ix2 0 k) = w (ix2 k 0) := by
  pointwise []

/-- The labels, repeated once for each of an image's 5 boxes. -/
def labels (l : FVec Ideal S4 .f32) : FVec Ideal S20 .f32 := shapeCast S20 (broadcastInDim S4x5 ![0] bcast_S4_S4x5_0 l) shapeCasts_S4x5_S20

theorem labels_apply (l : FVec Ideal S4 .f32) (a : Fin 4) (b : Fin 5) (h : 5 * a.val + b.val < 20) :
    shapeCast S20x1 (labels l) shapeCasts_S20_S20x1 (ix2 ⟨5 * a.val + b.val, h⟩ 0) = l (ix1 a) := by
  unfold labels
  pointwise []

theorem scalar_apply (s : FVec Ideal S1x1 .f32) (i : S_.Idx) : shapeCast S_ s shapeCasts_S1x1_S_ i = s (ix2 0 0) := by
  exact congrArg s (funext fun a => Fin.ext (by fin_cases a <;> exact Nat.lt_one_iff.mp (Fin.isLt _)))

/-! ## What each stretch of host statements leaves -/

variable (V : Valuation τ sig (Elt Ideal))

theorem host0_v1 : StableHlo.after hostOps0 V main_v1 = labels (V main_arg6) := by after_results_simp; rfl
theorem host0_v3 : StableHlo.after hostOps0 V main_v3
    = shapeCast S4x80x10240 (transpose S4x80x128x80 [0, 2, 1, 3] (V main_arg3 : FVec Ideal S4x128x80x80 .f32) transposes_S4x128x80x80_S4x80x128x80_0_2_1_3)
      shapeCasts_S4x80x128x80_S4x80x10240 := by after_results_simp; rfl
theorem host2_v14 : StableHlo.after hostOps2 V main_v14
    = shapeCast S4x40x10240 (transpose S4x40x256x40 [0, 2, 1, 3] (V main_arg4 : FVec Ideal S4x256x40x40 .f32) transposes_S4x256x40x40_S4x40x256x40_0_2_1_3)
      shapeCasts_S4x40x256x40_S4x40x10240 := by after_results_simp; rfl
theorem host4_v25 : StableHlo.after hostOps4 V main_v25
    = shapeCast S4x20x10240 (transpose S4x20x512x20 [0, 2, 1, 3] (V main_arg5 : FVec Ideal S4x512x20x20 .f32) transposes_S4x512x20x20_S4x20x512x20_0_2_1_3)
      shapeCasts_S4x20x512x20_S4x20x10240 := by after_results_simp; rfl

theorem host1_v5 : StableHlo.after hostOps1 V main_v5 = shapeCast S20x6272 (V main_v4 : FVec Ideal S20x128x49 .f32) shapeCasts_S20x128x49_S20x6272 := by after_results_simp; rfl
theorem host1_v6 : StableHlo.after hostOps1 V main_v6 = shapeCast S1x1024 (V main_arg8 : FVec Ideal S1024 .f32) shapeCasts_S1024_S1x1024 := by after_results_simp; rfl
theorem host1_v7 : StableHlo.after hostOps1 V main_v7 = shapeCast S1x1024 (V main_arg10 : FVec Ideal S1024 .f32) shapeCasts_S1024_S1x1024 := by after_results_simp; rfl
theorem host1_v8 : StableHlo.after hostOps1 V main_v8 = shapeCast S1x1024 (V main_arg11 : FVec Ideal S1024x1 .f32) shapeCasts_S1024x1_S1x1024 := by after_results_simp; rfl
theorem host1_v9 : StableHlo.after hostOps1 V main_v9 = shapeCast S20x1 (V main_v1 : FVec Ideal S20 .f32) shapeCasts_S20_S20x1 := by after_results_simp; rfl

theorem host3_v16 : StableHlo.after hostOps3 V main_v16 = shapeCast S20x12544 (V main_v15 : FVec Ideal S20x256x49 .f32) shapeCasts_S20x256x49_S20x12544 := by after_results_simp; rfl
theorem host3_v17 : StableHlo.after hostOps3 V main_v17 = shapeCast S1x1024 (V main_arg14 : FVec Ideal S1024 .f32) shapeCasts_S1024_S1x1024 := by after_results_simp; rfl
theorem host3_v18 : StableHlo.after hostOps3 V main_v18 = shapeCast S1x1024 (V main_arg16 : FVec Ideal S1024 .f32) shapeCasts_S1024_S1x1024 := by after_results_simp; rfl
theorem host3_v19 : StableHlo.after hostOps3 V main_v19 = shapeCast S1x1024 (V main_arg17 : FVec Ideal S1024x1 .f32) shapeCasts_S1024x1_S1x1024 := by after_results_simp; rfl
theorem host3_v20 : StableHlo.after hostOps3 V main_v20 = shapeCast S20x1 (V main_v1 : FVec Ideal S20 .f32) shapeCasts_S20_S20x1 := by after_results_simp; rfl

theorem host5_v27 : StableHlo.after hostOps5 V main_v27 = shapeCast S20x25088 (V main_v26 : FVec Ideal S20x512x49 .f32) shapeCasts_S20x512x49_S20x25088 := by after_results_simp; rfl
theorem host5_v28 : StableHlo.after hostOps5 V main_v28 = shapeCast S1x1024 (V main_arg20 : FVec Ideal S1024 .f32) shapeCasts_S1024_S1x1024 := by after_results_simp; rfl
theorem host5_v29 : StableHlo.after hostOps5 V main_v29 = shapeCast S1x1024 (V main_arg22 : FVec Ideal S1024 .f32) shapeCasts_S1024_S1x1024 := by after_results_simp; rfl
theorem host5_v30 : StableHlo.after hostOps5 V main_v30 = shapeCast S1x1024 (V main_arg23 : FVec Ideal S1024x1 .f32) shapeCasts_S1024x1_S1x1024 := by after_results_simp; rfl
theorem host5_v31 : StableHlo.after hostOps5 V main_v31 = shapeCast S20x1 (V main_v1 : FVec Ideal S20 .f32) shapeCasts_S20_S20x1 := by after_results_simp; rfl

/-- A scalar buffer's value, and the value of a buffer of one entry. -/
def val (s : FVec Ideal S_ .f32) (i : S_.Idx) : EReal := s i
def entry (s : FVec Ideal S1x1 .f32) : EReal := s (ix2 0 0)

/-- The first level's sum enters the total. -/
theorem host2_v12 (i : S_.Idx) : val (StableHlo.after hostOps2 V main_v12) i = entry (V main_v10) := by
  after_results_simp
  exact (congrArg₂ (α := EReal) (β := EReal) (· + ·) Ideal.ofBits_zero_f32 (scalar_apply _ i)).trans (zero_add _)

/-- The second level's sum is added. -/
theorem host4_v23 (i : S_.Idx) : val (StableHlo.after hostOps4 V main_v23) i = val (V main_v12) i + entry (V main_v21) := by
  after_results_simp
  exact congrArg (val (V main_v12) i + ·) (scalar_apply _ i)

/-- The third level's sum is added and the total divided by 60. -/
theorem host6_v35 (i : S_.Idx) : val (StableHlo.after hostOps6 V main_v35) i
    = Ideal.div (val (V main_v23) i + entry (V main_v32)) ((60 : ℝ) : EReal) := by
  after_results_simp
  exact congrArg₂ Ideal.div (congrArg (val (V main_v23) i + ·) (scalar_apply _ i)) Consts.sixty

end Cert.HostRead

end
-- ==== Proof.Value.KernelRead.lean ====
/- The program's result over the extended reals: the buffers between the calls read at an index, and the mean of the
   boxes' losses at the end. -/
module

public import proofs.«01_k».proof.Proof.Value.Spec
public import proofs.«01_k».proof.Proof.Value.HostRead

@[expose] public section

set_option maxRecDepth 16384

noncomputable section

namespace Cert.KernelIdeal.Run

open Idealize.ShloMosaic Idealize.ShloMosaic.TcCoe
open Cert.KernelIdeal Cert.KernelIdeal.Gen Cert.Spec Cert.HostRead

variable (m : (ℓ : Loc nD τ sig) → Buf (Elt Ideal) ℓ) (c : Dev nD)

/-- An argument or other buffer at launch. -/
abbrev at0 (r : Ref sig .tc) := m (c, (r : DevRef τ sig))

theorem labels_row (l : FVec Ideal S4 .f32) (r : Fin 20) :
    shapeCast S20x1 (labels l) shapeCasts_S20_S20x1 (ix2 r 0) = l (ix1 ⟨r.val / 5, by omega⟩) := by
  have e : r = ⟨5 * (⟨r.val / 5, by omega⟩ : Fin 4).val + (⟨r.val % 5, Nat.mod_lt _ (by decide)⟩ : Fin 5).val, by
      show 5 * (r.val / 5) + r.val % 5 < 20; omega⟩ := Fin.ext (by show r.val = 5 * (r.val / 5) + r.val % 5; omega)
  conv_lhs => rw [e]
  exact labels_apply l _ _ _

/-- The labels' rows, made before the first call and kept since. -/
theorem v1_after : W2 m c main_v1 = labels (at0 m c main_arg6) ∧ W6 m c main_v1 = labels (at0 m c main_arg6) ∧ W10 m c main_v1 = labels (at0 m c main_arg6) := by
  have h1 : W2 m c main_v1 = labels (at0 m c main_arg6) := (W2_of m c main_v1 (by decide)).trans (host0_v1 (W0 m c))
  have h2 : W6 m c main_v1 = W2 m c main_v1 := (W6_of m c main_v1 (by decide)).trans ((W5_of m c main_v1 (by decide)).trans
    ((W4_of m c main_v1 (by decide)).trans (W3_of m c main_v1 (by decide))))
  have h3 : W10 m c main_v1 = W6 m c main_v1 := (W10_of m c main_v1 (by decide)).trans ((W9_of m c main_v1 (by decide)).trans
    ((W8_of m c main_v1 (by decide)).trans (W7_of m c main_v1 (by decide))))
  exact ⟨h1, h2.trans h1, h3.trans (h2.trans h1)⟩

/-! ## The first level -/

/-- The first level's arguments. -/
def level0 : Level 80 128 6272 :=
  ⟨at0 m c main_arg0, at0 m c main_arg3, at0 m c main_arg7, at0 m c main_arg8, at0 m c main_arg9, at0 m c main_arg10, at0 m c main_arg11, at0 m c main_arg12, at0 m c main_arg6⟩

theorem pooledRows0 : W2 m c main_v4 = rows0 (W1 m) c := (exitOf_arr leg0 (W1 m) c 2).trans (final0 (W1 m) c)

theorem planes0 : W1 m c main_v3 = shapeCast S4x80x10240 (transpose S4x80x128x80 [0, 2, 1, 3] (at0 m c main_arg3 : FVec Ideal S4x128x80x80 .f32)
    transposes_S4x128x80x80_S4x80x128x80_0_2_1_3) shapeCasts_S4x80x128x80_S4x80x10240 := by
  have h : W0 m c main_arg3 = at0 m c main_arg3 := rfl
  exact (host0_v3 (W0 m c)).trans (by rw [h])

/-- The network's operand, entry by entry. -/
theorem features0 (r : Fin 20) (k : Fin 6272) :
    (W3 m c main_v5 : FVec Ideal S20x6272 .f32) (ix2 r k)
      = feature (by decide) (level0 m c) ⟨r.val / 5, by omega⟩ ⟨r.val % 5, Nat.mod_lt _ (by decide)⟩ k := by
  have hk : k = ⟨(⟨k.val / 49, by omega⟩ : Fin 128).val * 49 + (⟨k.val % 49, Nat.mod_lt _ (by decide)⟩ : Fin 49).val, by
      show k.val / 49 * 49 + k.val % 49 < 6272; omega⟩ := Fin.ext (by show k.val = k.val / 49 * 49 + k.val % 49; omega)
  have e : W3 m c main_v5 = shapeCast S20x6272 (rows0 (W1 m) c) shapeCasts_S20x128x49_S20x6272 :=
    (host1_v5 (W2 m c)).trans (by rw [pooledRows0])
  rw [e]
  conv_lhs => rw [hk]
  rw [flat128]
  unfold rows0 feature
  rw [planes0, show W1 m c main_arg0 = at0 m c main_arg0 from ((kept m c main_arg0 (by decide)).1)]
  refine congrArg (boxPool 80 _ · _ _ _ _) (funext fun y => funext fun x => ?_)
  have hl : (⟨k.val / 49, by omega⟩ : Fin 128).val * 80 + x.val < 10240 := by show k.val / 49 * 80 + x.val < 10240; omega
  have hx : (⟨((⟨k.val / 49, by omega⟩ : Fin 128).val * 80 + x.val) % 10240, Nat.mod_lt _ (by decide)⟩ : Fin 10240)
      = ⟨(⟨k.val / 49, by omega⟩ : Fin 128).val * 80 + x.val, hl⟩ := Fin.ext (Nat.mod_eq_of_lt hl)
  exact Eq.trans (congrArg _ (congrArg (ix3 _ y) hx)) (planes80 _ _ y ⟨k.val / 49, by omega⟩ x hl)

/-- The call's result is the sum of the boxes' losses. -/
theorem sum0 : entry (W4 m c main_v10) = ∑ r, rowLoss (by decide) (level0 m c) r := by
  refine (congrArg entry (exitOf_arr leg1 (W3 m) c 8)).trans ((final1 (W3 m) c).trans ?_)
  refine lossSum_eq _ (level0 m c) _ _ _ _ _ _ _ _ (features0 m c) ((kept m c main_arg7 (by decide)).2.1) (fun q => ?_) ((kept m c main_arg9 (by decide)).2.1) (fun q => ?_) (fun q => ?_) ((kept m c main_arg12 (by decide)).2.1) fun r => ?_
  · rw [show W3 m c main_v6 = _ from host1_v6 (W2 m c), ((kept m c main_arg8 (by decide)).2.2.2.2.2.2.2.1)]
    exact row1024 _ q
  · rw [show W3 m c main_v7 = _ from host1_v7 (W2 m c), ((kept m c main_arg10 (by decide)).2.2.2.2.2.2.2.1)]
    exact row1024 _ q
  · rw [show W3 m c main_v8 = _ from host1_v8 (W2 m c), ((kept m c main_arg11 (by decide)).2.2.2.2.2.2.2.1)]
    exact col1024 _ q
  · rw [show W3 m c main_v9 = _ from host1_v9 (W2 m c), v1_after m c |>.1]
    exact labels_row _ r

/-! ## The second level -/

/-- The second level's arguments. -/
def level1 : Level 40 256 12544 :=
  ⟨at0 m c main_arg1, at0 m c main_arg4, at0 m c main_arg13, at0 m c main_arg14, at0 m c main_arg15, at0 m c main_arg16, at0 m c main_arg17, at0 m c main_arg18, at0 m c main_arg6⟩

theorem pooledRows1 : W6 m c main_v15 = rows2 (W5 m) c := (exitOf_arr leg2 (W5 m) c 2).trans (final2 (W5 m) c)

theorem planes1 : W5 m c main_v14 = shapeCast S4x40x10240 (transpose S4x40x256x40 [0, 2, 1, 3] (at0 m c main_arg4 : FVec Ideal S4x256x40x40 .f32)
    transposes_S4x256x40x40_S4x40x256x40_0_2_1_3) shapeCasts_S4x40x256x40_S4x40x10240 := by
  have h : W4 m c main_arg4 = at0 m c main_arg4 := ((kept m c main_arg4 (by decide)).2.2.2.2.2.2.2.2.1)
  exact (host2_v14 (W4 m c)).trans (by rw [h])

/-- The network's operand, entry by entry. -/
theorem features1 (r : Fin 20) (k : Fin 12544) :
    (W7 m c main_v16 : FVec Ideal S20x12544 .f32) (ix2 r k)
      = feature (by decide) (level1 m c) ⟨r.val / 5, by omega⟩ ⟨r.val % 5, Nat.mod_lt _ (by decide)⟩ k := by
  have hk : k = ⟨(⟨k.val / 49, by omega⟩ : Fin 256).val * 49 + (⟨k.val % 49, Nat.mod_lt _ (by decide)⟩ : Fin 49).val, by
      show k.val / 49 * 49 + k.val % 49 < 12544; omega⟩ := Fin.ext (by show k.val = k.val / 49 * 49 + k.val % 49; omega)
  have e : W7 m c main_v16 = shapeCast S20x12544 (rows2 (W5 m) c) shapeCasts_S20x256x49_S20x12544 :=
    (host3_v16 (W6 m c)).trans (by rw [pooledRows1])
  rw [e]
  conv_lhs => rw [hk]
  rw [flat256]
  unfold rows2 feature
  rw [planes1, show W5 m c main_arg1 = at0 m c main_arg1 from ((kept m c main_arg1 (by decide)).2.2.1)]
  refine congrArg (boxPool 40 _ · _ _ _ _) (funext fun y => funext fun x => ?_)
  have hl : (⟨k.val / 49, by omega⟩ : Fin 256).val * 40 + x.val < 10240 := by show k.val / 49 * 40 + x.val < 10240; omega
  have hx : (⟨((⟨k.val / 49, by omega⟩ : Fin 256).val * 40 + x.val) % 10240, Nat.mod_lt _ (by decide)⟩ : Fin 10240)
      = ⟨(⟨k.val / 49, by omega⟩ : Fin 256).val * 40 + x.val, hl⟩ := Fin.ext (Nat.mod_eq_of_lt hl)
  exact Eq.trans (congrArg _ (congrArg (ix3 _ y) hx)) (planes40 _ _ y ⟨k.val / 49, by omega⟩ x hl)

/-- The call's result is the sum of the boxes' losses. -/
theorem sum1 : entry (W8 m c main_v21) = ∑ r, rowLoss (by decide) (level1 m c) r := by
  refine (congrArg entry (exitOf_arr leg3 (W7 m) c 8)).trans ((final3 (W7 m) c).trans ?_)
  refine lossSum_eq _ (level1 m c) _ _ _ _ _ _ _ _ (features1 m c) ((kept m c main_arg13 (by decide)).2.2.2.1) (fun q => ?_) ((kept m c main_arg15 (by decide)).2.2.2.1) (fun q => ?_) (fun q => ?_) ((kept m c main_arg18 (by decide)).2.2.2.1) fun r => ?_
  · rw [show W7 m c main_v17 = _ from host3_v17 (W6 m c), ((kept m c main_arg14 (by decide)).2.2.2.2.2.2.2.2.2.1)]
    exact row1024 _ q
  · rw [show W7 m c main_v18 = _ from host3_v18 (W6 m c), ((kept m c main_arg16 (by decide)).2.2.2.2.2.2.2.2.2.1)]
    exact row1024 _ q
  · rw [show W7 m c main_v19 = _ from host3_v19 (W6 m c), ((kept m c main_arg17 (by decide)).2.2.2.2.2.2.2.2.2.1)]
    exact col1024 _ q
  · rw [show W7 m c main_v20 = _ from host3_v20 (W6 m c), v1_after m c |>.2.1]
    exact labels_row _ r

/-! ## The third level -/

/-- The third level's arguments. -/
def level2 : Level 20 512 25088 :=
  ⟨at0 m c main_arg2, at0 m c main_arg5, at0 m c main_arg19, at0 m c main_arg20, at0 m c main_arg21, at0 m c main_arg22, at0 m c main_arg23, at0 m c main_arg24, at0 m c main_arg6⟩

theorem pooledRows2 : W10 m c main_v26 = rows4 (W9 m) c := (exitOf_arr leg4 (W9 m) c 2).trans (final4 (W9 m) c)

theorem planes2 : W9 m c main_v25 = shapeCast S4x20x10240 (transpose S4x20x512x20 [0, 2, 1, 3] (at0 m c main_arg5 : FVec Ideal S4x512x20x20 .f32)
    transposes_S4x512x20x20_S4x20x512x20_0_2_1_3) shapeCasts_S4x20x512x20_S4x20x10240 := by
  have h : W8 m c main_arg5 = at0 m c main_arg5 := ((kept m c main_arg5 (by decide)).2.2.2.2.2.2.2.2.2.2.1)
  exact (host4_v25 (W8 m c)).trans (by rw [h])

/-- The network's operand, entry by entry. -/
theorem features2 (r : Fin 20) (k : Fin 25088) :
    (W11 m c main_v27 : FVec Ideal S20x25088 .f32) (ix2 r k)
      = feature (by decide) (level2 m c) ⟨r.val / 5, by omega⟩ ⟨r.val % 5, Nat.mod_lt _ (by decide)⟩ k := by
  have hk : k = ⟨(⟨k.val / 49, by omega⟩ : Fin 512).val * 49 + (⟨k.val % 49, Nat.mod_lt _ (by decide)⟩ : Fin 49).val, by
      show k.val / 49 * 49 + k.val % 49 < 25088; omega⟩ := Fin.ext (by show k.val = k.val / 49 * 49 + k.val % 49; omega)
  have e : W11 m c main_v27 = shapeCast S20x25088 (rows4 (W9 m) c) shapeCasts_S20x512x49_S20x25088 :=
    (host5_v27 (W10 m c)).trans (by rw [pooledRows2])
  rw [e]
  conv_lhs => rw [hk]
  rw [flat512]
  unfold rows4 feature
  rw [planes2, show W9 m c main_arg2 = at0 m c main_arg2 from ((kept m c main_arg2 (by decide)).2.2.2.2.1)]
  refine congrArg (boxPool 20 _ · _ _ _ _) (funext fun y => funext fun x => ?_)
  have hl : (⟨k.val / 49, by omega⟩ : Fin 512).val * 20 + x.val < 10240 := by show k.val / 49 * 20 + x.val < 10240; omega
  have hx : (⟨((⟨k.val / 49, by omega⟩ : Fin 512).val * 20 + x.val) % 10240, Nat.mod_lt _ (by decide)⟩ : Fin 10240)
      = ⟨(⟨k.val / 49, by omega⟩ : Fin 512).val * 20 + x.val, hl⟩ := Fin.ext (Nat.mod_eq_of_lt hl)
  exact Eq.trans (congrArg _ (congrArg (ix3 _ y) hx)) (planes20 _ _ y ⟨k.val / 49, by omega⟩ x hl)

/-- The call's result is the sum of the boxes' losses. -/
theorem sum2 : entry (W12 m c main_v32) = ∑ r, rowLoss (by decide) (level2 m c) r := by
  refine (congrArg entry (exitOf_arr leg5 (W11 m) c 8)).trans ((final5 (W11 m) c).trans ?_)
  refine lossSum_eq _ (level2 m c) _ _ _ _ _ _ _ _ (features2 m c) ((kept m c main_arg19 (by decide)).2.2.2.2.2.1) (fun q => ?_) ((kept m c main_arg21 (by decide)).2.2.2.2.2.1) (fun q => ?_) (fun q => ?_) ((kept m c main_arg24 (by decide)).2.2.2.2.2.1) fun r => ?_
  · rw [show W11 m c main_v28 = _ from host5_v28 (W10 m c), ((kept m c main_arg20 (by decide)).2.2.2.2.2.2.2.2.2.2.2)]
    exact row1024 _ q
  · rw [show W11 m c main_v29 = _ from host5_v29 (W10 m c), ((kept m c main_arg22 (by decide)).2.2.2.2.2.2.2.2.2.2.2)]
    exact row1024 _ q
  · rw [show W11 m c main_v30 = _ from host5_v30 (W10 m c), ((kept m c main_arg23 (by decide)).2.2.2.2.2.2.2.2.2.2.2)]
    exact col1024 _ q
  · rw [show W11 m c main_v31 = _ from host5_v31 (W10 m c), v1_after m c |>.2.2]
    exact labels_row _ r

/-! ## The result -/

/-- The program's result is the mean of the 60 boxes' losses. -/
theorem result (i : S_.Idx) : val (W13 m c main_v35) i
    = Ideal.div (((∑ r, rowLoss (by decide) (level0 m c) r) + ∑ r, rowLoss (by decide) (level1 m c) r) + ∑ r, rowLoss (by decide) (level2 m c) r) ((60 : ℝ) : EReal) := by
  have h12 : W8 m c main_v12 = W5 m c main_v12 := (W8_of m c main_v12 (by decide)).trans ((W7_of m c main_v12 (by decide)).trans (W6_of m c main_v12 (by decide)))
  have h23 : W12 m c main_v23 = W9 m c main_v23 := (W12_of m c main_v23 (by decide)).trans ((W11_of m c main_v23 (by decide)).trans (W10_of m c main_v23 (by decide)))
  refine (host6_v35 (W12 m c) i).trans (congrArg (Ideal.div · _) (congrArg₂ (· + ·) ?_ (sum2 m c)))
  rw [h23]
  refine (host4_v23 (W8 m c) i).trans (congrArg₂ (· + ·) ?_ (sum1 m c))
  rw [h12]
  exact (host2_v12 (W4 m c) i).trans (sum0 m c)

end Cert.KernelIdeal.Run

end
-- ==== Proof.Value.RefPool.lean ====
/-
  The pooling of the reference read at an entry, at a channel count `C` and a side length `n` that stay variables:
  its sample positions, the positions and weights of the reads, the gather, the mean over the sixteen reads.
-/
module

public import proofs.«01_k».proof.Proof.Gen.ReferenceIdeal
public import proofs.«01_k».proof.Proof.Value.KernelPool

@[expose] public section

noncomputable section

namespace Cert.Pooling

open Idealize.ShloMosaic Idealize.ShloMosaic.StableHlo
open Cert.ReferenceIdeal Cert.ReferenceIdeal.Gen

/-- The shape of the reads: image, channel, box, then bin, sample and side of the vertical and of the horizontal axis. -/
abbrev S9 (C : ℕ) : Shape := ⟨9, ![4, C, 5, 7, 2, 2, 7, 2, 2]⟩

/-- The clipped sample positions of every box, both axes. -/
def posR (top : BitVec 32) (rois : FVec Ideal S4x5x4 .f32) : FVec Ideal S4x5x2x7x2 .f32 :=
  minimumf (maximumf (addf (broadcastInDim S4x5x2x7x2 ![0, 1, 2, 3, 4] bcast_S4x5x2x1x1_S4x5x2x7x2_0_1_2_3_4 (broadcastInDim S4x5x2x1x1 ![0, 1, 2] bcast_S4x5x2_S4x5x2x1x1_0_1_2 (extractStridedSlice S4x5x2 ![0, 0, 0] rois slices_S4x5x4_S4x5x2_0_0_0))) (mulf (broadcastInDim S4x5x2x7x2 ![0, 1, 2, 3, 4] bcast_S1x1x1x7x2_S4x5x2x7x2_0_1_2_3_4 (broadcastInDim S1x1x1x7x2 ![1, 2, 3, 4] bcast_S1x1x7x2_S1x1x1x7x2_1_2_3_4 (broadcastInDim S1x1x7x2 ![2, 3] bcast_S7x2_S1x1x7x2_2_3 (addf (broadcastInDim S7x2 ![0, 1] bcast_S7x1_S7x2_0_1 (broadcastInDim S7x1 ![0] bcast_S7_S7x1_0 (sitofp .f32 (iotaInDim S7 32 0)))) (broadcastInDim S7x2 ![0, 1] bcast_S1x2_S7x2_0_1 (broadcastInDim S1x2 ![1] bcast_S2_S1x2_1 (Host.divf (addf (sitofp .f32 (iotaInDim S2 32 0)) (broadcastInDim S2 ![] bcast_S_S2 (constant S_ .f32 0x3F000000#32))) (broadcastInDim S2 ![] bcast_S_S2 (constant S_ .f32 0x40000000#32))))))))) (broadcastInDim S4x5x2x7x2 ![0, 1, 2, 3, 4] bcast_S4x5x2x1x1_S4x5x2x7x2_0_1_2_3_4 (broadcastInDim S4x5x2x1x1 ![0, 1, 2] bcast_S4x5x2_S4x5x2x1x1_0_1_2 (Host.divf (maximumf (subf (extractStridedSlice S4x5x2 ![0, 0, 2] rois slices_S4x5x4_S4x5x2_0_0_2) (extractStridedSlice S4x5x2 ![0, 0, 0] rois slices_S4x5x4_S4x5x2_0_0_0)) (broadcastInDim S4x5x2 ![] bcast_S_S4x5x2 (constant S_ .f32 0x3F800000#32))) (broadcastInDim S4x5x2 ![] bcast_S_S4x5x2 (constant S_ .f32 0x40E00000#32))))))) (broadcastInDim S4x5x2x7x2 ![] bcast_S_S4x5x2x7x2 (constant S_ .f32 0x00000000#32))) (broadcastInDim S4x5x2x7x2 ![] bcast_S_S4x5x2x7x2 (constant S_ .f32 top))

/-- The floors of the positions, as integers. -/
def floorR (pos : FVec Ideal S4x5x2x7x2 .f32) : IVec S4x5x2x7x2 32 := fptosi 32 (Host.floor pos)

/-- The fractional parts of the positions. -/
def fracR (pos : FVec Ideal S4x5x2x7x2 .f32) : FVec Ideal S4x5x2x7x2x1 .f32 :=
  broadcastInDim S4x5x2x7x2x1 ![0, 1, 2, 3, 4] bcast_S4x5x2x7x2_S4x5x2x7x2x1_0_1_2_3_4 (subf pos (sitofp .f32 (floorR pos)))

/-- The positions read. -/
def tapR (last : BitVec 32) (pos : FVec Ideal S4x5x2x7x2 .f32) : IVec S4x5x2x7x2x2 32 :=
  minsi (addi (broadcastInDim S4x5x2x7x2x2 ![0, 1, 2, 3, 4, 5] bcast_S4x5x2x7x2x1_S4x5x2x7x2x2_0_1_2_3_4_5 (broadcastInDim S4x5x2x7x2x1 ![0, 1, 2, 3, 4] bcast_S4x5x2x7x2_S4x5x2x7x2x1_0_1_2_3_4 (floorR pos))) (broadcastInDim S4x5x2x7x2x2 ![0, 1, 2, 3, 4, 5] bcast_S1x1x1x1x1x2_S4x5x2x7x2x2_0_1_2_3_4_5 (broadcastInDim S1x1x1x1x1x2 ![1, 2, 3, 4, 5] bcast_S1x1x1x1x2_S1x1x1x1x1x2_1_2_3_4_5 (broadcastInDim S1x1x1x1x2 ![4] bcast_S2_S1x1x1x1x2_4 (iotaInDim S2 32 0))))) (broadcastInDim S4x5x2x7x2x2 ![] bcast_S_S4x5x2x7x2x2 (constantI S_ 32 last))

/-- The weights of the reads. -/
def weightR (pos : FVec Ideal S4x5x2x7x2 .f32) : FVec Ideal S4x5x2x7x2x2 .f32 :=
  select (broadcastInDim S4x5x2x7x2x2 ![1, 2, 3, 4, 5] bcast_S5x2x7x2x2_S4x5x2x7x2x2_1_2_3_4_5 (broadcastInDim S5x2x7x2x2 ![4] bcast_S2_S5x2x7x2x2_4 (cmpi .eq (iotaInDim S2 32 0) (broadcastInDim S2 ![] bcast_S_S2 (constantI S_ 32 0#32))))) (broadcastInDim S4x5x2x7x2x2 ![0, 1, 2, 3, 4, 5] bcast_S4x5x2x7x2x1_S4x5x2x7x2x2_0_1_2_3_4_5 (subf (broadcastInDim S4x5x2x7x2x1 ![] bcast_S_S4x5x2x7x2x1 (constant S_ .f32 0x3F800000#32)) (fracR pos))) (broadcastInDim S4x5x2x7x2x2 ![0, 1, 2, 3, 4, 5] bcast_S4x5x2x7x2x1_S4x5x2x7x2x2_0_1_2_3_4_5 (fracR pos))

/-- A sample position of the reference is the clipped sample point. -/
theorem posR_apply {n : ℕ} [NeZero n] (top : BitVec 32) (htop : Ideal.ofBits .f32 top = (((n : ℝ) - 1 : ℝ) : EReal)) (rois : FVec Ideal S4x5x4 .f32)
    (a : Fin 4) (b : Fin 5) (d : Fin 2) (i : Fin 7) (s : Fin 2) :
    posR top rois (ix5 a b d i s)
      = samplePt n (rois (ix3 a b ⟨d.val, by omega⟩)) (binWidth (rois (ix3 a b ⟨d.val, by omega⟩)) (rois (ix3 a b ⟨2 + d.val, by omega⟩))) i s := by
  have hi : (FloatOps.sitofp (F := Ideal) .f32 (BitVec.ofNat 32 i.val) : EReal) = (((i.val : ℕ) : ℝ) : EReal) := by
    show (((BitVec.ofNat 32 i.val).toInt : ℝ) : EReal) = _
    rw [Consts.toInt_ofNat (by omega)]
    simp
  have hs : (FloatOps.sitofp (F := Ideal) .f32 (BitVec.ofNat 32 s.val) : EReal) = (((s.val : ℕ) : ℝ) : EReal) := by
    show (((BitVec.ofNat 32 s.val).toInt : ℝ) : EReal) = _
    rw [Consts.toInt_ofNat (by omega)]
    simp
  pointwise [posR]
  rw [htop, Consts.half, Consts.two, Consts.seven, Ideal.div_coe (by norm_num), Ideal.div_coe (by norm_num)]
  erw [hi, hs]
  rw [← EReal.coe_add, ← EReal.coe_mul, ← EReal.coe_add, show ((s.val : ℝ) + 1 / 2) * (1 / 2) = 1 / 4 + (s.val : ℝ) / 2 by ring, min_comm, max_comm _ (0 : EReal)]
  rfl

/-- The floor of a position on the grid, as a 32-bit word. -/
theorem floorR_apply {n : ℕ} (hn : n < 2 ^ 31) (pos : FVec Ideal S4x5x2x7x2 .f32) (k : S4x5x2x7x2.Idx) (p : ℝ) (hp : pos k = (p : EReal)) (h0 : 0 ≤ p)
    (h1 : p ≤ (n : ℝ) - 1) : (floorR pos k).toInt = ⌊p⌋ ∧ ⌊p⌋ < n ∧ 0 ≤ ⌊p⌋ := by
  have hf : 0 ≤ ⌊p⌋ := Int.floor_nonneg.2 h0
  have hlt : ⌊p⌋ < (n : ℤ) := by
    have : (⌊p⌋ : ℝ) < (n : ℝ) := lt_of_le_of_lt (Int.floor_le p) (by linarith)
    exact_mod_cast this
  refine ⟨?_, hlt, hf⟩
  show (Ideal.fptosi 32 (Ideal.liftRound Int.floor (pos k))).toInt = _
  rw [hp, Ideal.liftRound_coe]
  unfold Ideal.fptosi
  rw [Ideal.toIntClamped_coe, if_pos (by exact_mod_cast hf), Int.floor_intCast, BitVec.toInt_ofInt]
  have e : max (-((2 ^ (32 - 1) : ℕ) : ℤ)) (min (((2 ^ (32 - 1) : ℕ) : ℤ) - 1) ⌊p⌋) = ⌊p⌋ := by
    norm_num; omega
  rw [e]
  exact Int.bmod_eq_of_le (by omega) (by omega)

/-- A position read by the reference. -/
theorem tapR_apply {n : ℕ} [NeZero n] (hn : n < 2 ^ 30) (last : BitVec 32) (hlast : last.toInt = (n : ℤ) - 1) (pos : FVec Ideal S4x5x2x7x2 .f32)
    (a : Fin 4) (b : Fin 5) (d : Fin 2) (i : Fin 7) (s e : Fin 2) (p : ℝ) (hp : pos (ix5 a b d i s) = (p : EReal)) (h0 : 0 ≤ p) (h1 : p ≤ (n : ℝ) - 1) :
    (tapR last pos (ix6 a b d i s e)).toInt = (tap n p e).val := by
  obtain ⟨hf, hlt, hnn⟩ := floorR_apply (by omega) pos _ p hp h0 h1
  have he : (BitVec.ofNat 32 e.val).toInt = (e.val : ℤ) := Consts.toInt_ofNat (by omega)
  have hadd : (floorR pos (ix5 a b d i s) + BitVec.ofNat 32 e.val).toInt = ⌊p⌋ + e.val := by
    rw [BitVec.toInt_add, hf, he]
    exact Int.bmod_eq_of_le (by omega) (by omega)
  have hw : tapR last pos (ix6 a b d i s e) = IntOp.minsi (IntOp.addi (floorR pos (ix5 a b d i s)) (BitVec.ofNat 32 e.val)) last := by
    pointwise [tapR]
  have ht : ((tap n p e).val : ℤ) = min (⌊p⌋ + e.val) ((n : ℤ) - 1) := by
    have hn : 0 < n := NeZero.pos n
    unfold tap
    simp only
    omega
  have hm : ∀ x y : BitVec 32, (IntOp.minsi x y).toInt = min x.toInt y.toInt := fun x y => by
    unfold IntOp.minsi BitVec.slt
    split
    · next h => rw [min_eq_left (le_of_lt (of_decide_eq_true h))]
    · next h => rw [min_eq_right (not_lt.1 fun h' => h (decide_eq_true h'))]
  rw [hw, ht, hm, hlast]
  exact congrArg (min · _) hadd

/-- A weight of the reference. -/
theorem weightR_apply {n : ℕ} (hn : n < 2 ^ 31) (pos : FVec Ideal S4x5x2x7x2 .f32)
    (a : Fin 4) (b : Fin 5) (d : Fin 2) (i : Fin 7) (s e : Fin 2) (p : ℝ) (hp : pos (ix5 a b d i s) = (p : EReal)) (h0 : 0 ≤ p) (h1 : p ≤ (n : ℝ) - 1) :
    weightR pos (ix6 a b d i s e) = (weight p e : EReal) := by
  obtain ⟨hf, -, -⟩ := floorR_apply hn pos _ p hp h0 h1
  have hfr : fracR pos (ix6 a b d i s 0) = ((p - ⌊p⌋ : ℝ) : EReal) := by
    have hw : fracR pos (ix6 a b d i s 0) = pos (ix5 a b d i s) - FloatOps.sitofp (F := Ideal) .f32 (floorR pos (ix5 a b d i s)) := by
      pointwise [fracR]
    rw [hw, hp, EReal.coe_sub]
    show (p : EReal) - ((((floorR pos (ix5 a b d i s)).toInt : ℤ) : ℝ) : EReal) = _
    rw [hf]
  have hw : weightR pos (ix6 a b d i s e) = Scalar.select (IntOp.cmpi CmpIPredicate.eq (BitVec.ofNat 32 e.val) 0#32) (1 - fracR pos (ix6 a b d i s 0))
      (fracR pos (ix6 a b d i s 0)) := by
    pointwise [weightR]
  rw [hw, hfr]
  match e with
  | ⟨0, _⟩ => show (1 : EReal) - ((p - ⌊p⌋ : ℝ) : EReal) = ((1 - (p - ⌊p⌋) : ℝ) : EReal); rw [EReal.coe_sub 1]; rfl
  | ⟨1, _⟩ => rfl

theorem readV {α : Type} (t : S4x5x2x7x2x2.Idx → α) (a b i s d) :
    shapeCast S4x5x7x2x2 (extractStridedSlice S4x5x1x7x2x2 ![0, 0, 1, 0, 0, 0] t slices_S4x5x2x7x2x2_S4x5x1x7x2x2_0_0_1_0_0_0) shapeCasts_S4x5x1x7x2x2_S4x5x7x2x2 (ix5 a b i s d)
      = t (ix6 a b 1 i s d) := by pointwise
theorem readH {α : Type} (t : S4x5x2x7x2x2.Idx → α) (a b i s d) :
    shapeCast S4x5x7x2x2 (extractStridedSlice S4x5x1x7x2x2 ![0, 0, 0, 0, 0, 0] t slices_S4x5x2x7x2x2_S4x5x1x7x2x2_0_0_0_0_0_0) shapeCasts_S4x5x1x7x2x2_S4x5x7x2x2 (ix5 a b i s d)
      = t (ix6 a b 0 i s d) := by pointwise

/-- The start indices of the gather: the vertical position, then the horizontal. -/
def startsR (t : IVec S4x5x2x7x2x2 32) : IVec S4x5x7x2x2x7x2x2x2 32 :=
  concatenate S4x5x7x2x2x7x2x2x2 8 [⟨S4x5x7x2x2x7x2x2x1, (broadcastInDim S4x5x7x2x2x7x2x2x1 ![0, 1, 2, 3, 4, 5, 6, 7] bcast_S4x5x7x2x2x7x2x2_S4x5x7x2x2x7x2x2x1_0_1_2_3_4_5_6_7 (broadcastInDim S4x5x7x2x2x7x2x2 ![0, 1, 2, 3, 4, 5, 6, 7] bcast_S4x5x7x2x2x1x1x1_S4x5x7x2x2x7x2x2_0_1_2_3_4_5_6_7 (broadcastInDim S4x5x7x2x2x1x1x1 ![0, 1, 2, 3, 4] bcast_S4x5x7x2x2_S4x5x7x2x2x1x1x1_0_1_2_3_4 (shapeCast _ (extractStridedSlice S4x5x1x7x2x2 ![0, 0, 1, 0, 0, 0] t slices_S4x5x2x7x2x2_S4x5x1x7x2x2_0_0_1_0_0_0) shapeCasts_S4x5x1x7x2x2_S4x5x7x2x2))))⟩, ⟨S4x5x7x2x2x7x2x2x1, (broadcastInDim S4x5x7x2x2x7x2x2x1 ![0, 1, 2, 3, 4, 5, 6, 7] bcast_S4x5x7x2x2x7x2x2_S4x5x7x2x2x7x2x2x1_0_1_2_3_4_5_6_7 (broadcastInDim S4x5x7x2x2x7x2x2 ![0, 1, 2, 3, 4, 5, 6, 7] bcast_S4x5x1x1x1x7x2x2_S4x5x7x2x2x7x2x2_0_1_2_3_4_5_6_7 (broadcastInDim S4x5x1x1x1x7x2x2 ![0, 1, 5, 6, 7] bcast_S4x5x7x2x2_S4x5x1x1x1x7x2x2_0_1_5_6_7 (shapeCast _ (extractStridedSlice S4x5x1x7x2x2 ![0, 0, 0, 0, 0, 0] t slices_S4x5x2x7x2x2_S4x5x1x7x2x2_0_0_0_0_0_0) shapeCasts_S4x5x1x7x2x2_S4x5x7x2x2))))⟩] concatenates_S4x5x7x2x2x7x2x2x1_S4x5x7x2x2x7x2x2x1_S4x5x7x2x2x7x2x2x2_d8

/-- The first of two start-index components. -/
theorem pair_zero (x y : S4x5x7x2x2x7x2x2x1.Idx → BitVec 32) (a : Fin 4) (b : Fin 5) (i : Fin 7) (s d : Fin 2) (j : Fin 7) (s' d' : Fin 2) :
    concatenate S4x5x7x2x2x7x2x2x2 8 [⟨S4x5x7x2x2x7x2x2x1, x⟩, ⟨S4x5x7x2x2x7x2x2x1, y⟩] concatenates_S4x5x7x2x2x7x2x2x1_S4x5x7x2x2x7x2x2x1_S4x5x7x2x2x7x2x2x2_d8
      (ix9 a b i s d j s' d' 0) = x (ix9 a b i s d j s' d' 0) :=
  concatenate_pair_apply_left (t := S4x5x7x2x2x7x2x2x2) (s₁ := S4x5x7x2x2x7x2x2x1) (s₂ := S4x5x7x2x2x7x2x2x1) (8 : Fin 9) x y _ _ rfl (ix9 a b i s d j s' d' 0) fun z => match z with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl

/-- The second of two start-index components. -/
theorem pair_one (x y : S4x5x7x2x2x7x2x2x1.Idx → BitVec 32) (a : Fin 4) (b : Fin 5) (i : Fin 7) (s d : Fin 2) (j : Fin 7) (s' d' : Fin 2) :
    concatenate S4x5x7x2x2x7x2x2x2 8 [⟨S4x5x7x2x2x7x2x2x1, x⟩, ⟨S4x5x7x2x2x7x2x2x1, y⟩] concatenates_S4x5x7x2x2x7x2x2x1_S4x5x7x2x2x7x2x2x1_S4x5x7x2x2x7x2x2x2_d8
      (ix9 a b i s d j s' d' 1) = y (ix9 a b i s d j s' d' 0) :=
  concatenate_pair_apply_right (t := S4x5x7x2x2x7x2x2x2) (s₁ := S4x5x7x2x2x7x2x2x1) (s₂ := S4x5x7x2x2x7x2x2x1) (8 : Fin 9) x y _ _ rfl rfl (ix9 a b i s d j s' d' 0) (fun z => match z with
    | ⟨0, _⟩ => fun _ => rfl
    | ⟨1, _⟩ => fun _ => rfl
    | ⟨2, _⟩ => fun _ => rfl
    | ⟨3, _⟩ => fun _ => rfl
    | ⟨4, _⟩ => fun _ => rfl
    | ⟨5, _⟩ => fun _ => rfl
    | ⟨6, _⟩ => fun _ => rfl
    | ⟨7, _⟩ => fun _ => rfl
    | ⟨8, _⟩ => fun h => absurd rfl h) rfl

theorem startsR_zero (t a b i s d j s' d') : startsR t (ix9 a b i s d j s' d' 0) = t (ix6 a b 1 i s d) := by
  unfold startsR
  refine (pair_zero _ _ a b i s d j s' d').trans ?_
  rw [broadcastInDim_apply _ _ _ _ (ix8 a b i s d j s' d') (fun z => by fin_cases z <;> rfl),
    broadcastInDim_apply _ _ _ _ (ix8 a b i s d 0 0 0) (fun z => by fin_cases z <;> rfl),
    broadcastInDim_apply _ _ _ _ (ix5 a b i s d) (fun z => by fin_cases z <;> rfl)]
  exact readV t a b i s d

theorem startsR_one (t a b i s d j s' d') : startsR t (ix9 a b i s d j s' d' 1) = t (ix6 a b 0 j s' d') := by
  unfold startsR
  refine (pair_one _ _ a b i s d j s' d').trans ?_
  rw [broadcastInDim_apply _ _ _ _ (ix8 a b i s d j s' d') (fun z => by fin_cases z <;> rfl),
    broadcastInDim_apply _ _ _ _ (ix8 a b 0 0 0 j s' d') (fun z => by fin_cases z <;> rfl),
    broadcastInDim_apply _ _ _ _ (ix5 a b j s' d') (fun z => by fin_cases z <;> rfl)]
  exact readH t a b j s' d'

/-- The gather's dimension numbers: one plane entry per image, channel and start index. -/
def gatherR (C n : ℕ) (wf : GatherDims.WF ⟨4, ![4, C, n, n]⟩ S4x5x7x2x2x7x2x2x2 (S9 C) [1] [2, 3] [0] [2, 3] [0] 8 ![1, C, 1, 1]) :
   GatherDims ⟨4, ![4, C, n, n]⟩ S4x5x7x2x2x7x2x2x2 (S9 C) where
  offsetDims := [1]
  collapsedSliceDims := [2, 3]
  operandBatchingDims := [0]
  startIndicesBatchingDims := [0]
  startIndexMap := [2, 3]
  indexVectorDim := 8
  sliceSizes := ![1, C, 1, 1]
  wf := wf

/-- The gather reads the plane of its image and channel at the start indices. -/
theorem gatherR_apply (C n : ℕ) [NeZero n] (wf) (x : FVec Ideal ⟨4, ![4, C, n, n]⟩ .f32) (idx : IVec S4x5x7x2x2x7x2x2x2 32) (a : Fin 4) (c : Fin C) (b i s d j s' d')
   (Y X : Fin n) (hY : (idx (ix9 a b i s d j s' d' 0)).toInt = Y.val) (hX : (idx (ix9 a b i s d j s' d' 1)).toInt = X.val) :
   Host.gather (gatherR C n wf) x idx (ix9 a c b i s d j s' d') = x (ix4 a c Y X) := by
  unfold Host.gather
  refine congrArg x (funext fun k => Fin.ext ?_)
  have e0 : (gatherR C n wf).siIdx (ix9 a c b i s d j s' d') ⟨0, (by decide : 0 < 2)⟩ = ix9 a b i s d j s' d' 0 := by
    funext k
    match k with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
  have e1 : (gatherR C n wf).siIdx (ix9 a c b i s d j s' d') ⟨1, (by decide : 1 < 2)⟩ = ix9 a b i s d j s' d' 1 := by
    funext k
    match k with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => rfl
  match k with
  | ⟨0, _⟩ => show 0 + a.val + 0 = a.val; omega
  | ⟨1, _⟩ => show 0 + 0 + c.val = c.val; omega
  | ⟨2, _⟩ =>
    show min (idx ((gatherR C n wf).siIdx (ix9 a c b i s d j s' d') ⟨0, (by decide : 0 < 2)⟩)).toInt.toNat (n - 1) + 0 + 0 = Y.val
    rw [e0, hY]; have := Y.isLt; simp; omega
  | ⟨3, _⟩ =>
    show min (idx ((gatherR C n wf).siIdx (ix9 a c b i s d j s' d') ⟨1, (by decide : 1 < 2)⟩)).toInt.toNat (n - 1) + 0 + 0 = X.val
    rw [e1, hX]; have := X.isLt; simp; omega

theorem drop_iff (C : ℕ) (h : (S9 C).ReducesTo [4, 5, 7, 8] ⟨5, ![4, C, 5, 7, 7]⟩) (a : Fin 4) (c : Fin C) (b : Fin 5) (i j : Fin 7) (k : (S9 C).Idx) :
   h.drop k = ix5 a c b i j ↔ ∃ q : (Fin 2 × Fin 2) × (Fin 2 × Fin 2), ix9 a c b i q.1.1 q.1.2 j q.2.1 q.2.2 = k := by
  constructor
  · intro e
    refine ⟨((k 4, k 5), (k 7, k 8)), ?_⟩
    funext z
    have f := fun z => congrFun e z
    match z with
    | ⟨0, _⟩ => exact (f 0).symm
    | ⟨1, _⟩ => exact (f 1).symm
    | ⟨2, _⟩ => exact (f 2).symm
    | ⟨3, _⟩ => exact (f 3).symm
    | ⟨4, _⟩ => rfl
    | ⟨5, _⟩ => rfl
    | ⟨6, _⟩ => exact (f 4).symm
    | ⟨7, _⟩ => rfl
    | ⟨8, _⟩ => rfl
  · rintro ⟨q, rfl⟩
    funext z
    match z with
    | ⟨0, _⟩ => rfl
    | ⟨1, _⟩ => rfl
    | ⟨2, _⟩ => rfl
    | ⟨3, _⟩ => rfl
    | ⟨4, _⟩ => rfl

/-- The sum over the four axes of samples and sides. -/
theorem sum_drop (C : ℕ) (h : (S9 C).ReducesTo [4, 5, 7, 8] ⟨5, ![4, C, 5, 7, 7]⟩) (x : FVec Ideal (S9 C) .f32) (z) (h_) (a : Fin 4) (c : Fin C) (b : Fin 5) (i j : Fin 7) :
   Host.reduceAdd x (constant S_ .f32 z) h h_ (ix5 a c b i j) = Ideal.ofBits .f32 z + ∑ q : (Fin 2 × Fin 2) × (Fin 2 × Fin 2), x (ix9 a c b i q.1.1 q.1.2 j q.2.1 q.2.2) := by
  refine congrArg (_ + ·) (Finset.sum_filter_eq_sum_of_fiber _ (fun q : (Fin 2 × Fin 2) × (Fin 2 × Fin 2) => ix9 a c b i q.1.1 q.1.2 j q.2.1 q.2.2) ?_ (drop_iff C h a c b i j) x)
  intro q q' e
  exact Prod.ext (Prod.ext (congrFun e 4) (congrFun e 5)) (Prod.ext (congrFun e 7) (congrFun e 8))

/-- The weights of the vertical axis, with the axes of the horizontal added. -/
def spreadVR (w : FVec Ideal S4x5x2x7x2x2 .f32) : FVec Ideal S4x1x5x7x2x2x1x1x1 .f32 :=
  broadcastInDim S4x1x5x7x2x2x1x1x1 ![0, 2, 3, 4, 5, 6, 7, 8] bcast_S4x5x7x2x2x1x1x1_S4x1x5x7x2x2x1x1x1_0_2_3_4_5_6_7_8 (broadcastInDim S4x5x7x2x2x1x1x1 ![0, 1, 2, 3, 4] bcast_S4x5x7x2x2_S4x5x7x2x2x1x1x1_0_1_2_3_4 (shapeCast _ (extractStridedSlice S4x5x1x7x2x2 ![0, 0, 1, 0, 0, 0] w slices_S4x5x2x7x2x2_S4x5x1x7x2x2_0_0_1_0_0_0) shapeCasts_S4x5x1x7x2x2_S4x5x7x2x2))

/-- The weights of the horizontal axis, with the axes of the vertical added. -/
def spreadHR (w : FVec Ideal S4x5x2x7x2x2 .f32) : FVec Ideal S4x1x5x1x1x1x7x2x2 .f32 :=
  broadcastInDim S4x1x5x1x1x1x7x2x2 ![0, 2, 3, 4, 5, 6, 7, 8] bcast_S4x5x1x1x1x7x2x2_S4x1x5x1x1x1x7x2x2_0_2_3_4_5_6_7_8 (broadcastInDim S4x5x1x1x1x7x2x2 ![0, 1, 5, 6, 7] bcast_S4x5x7x2x2_S4x5x1x1x1x7x2x2_0_1_5_6_7 (shapeCast _ (extractStridedSlice S4x5x1x7x2x2 ![0, 0, 0, 0, 0, 0] w slices_S4x5x2x7x2x2_S4x5x1x7x2x2_0_0_0_0_0_0) shapeCasts_S4x5x1x7x2x2_S4x5x7x2x2))

theorem spreadVR_apply (w a b i s d) : spreadVR w (ix9 a 0 b i s d 0 0 0) = w (ix6 a b 1 i s d) := by
  unfold spreadVR
  rw [broadcastInDim_apply _ _ _ _ (ix8 a b i s d 0 0 0) (fun z => by fin_cases z <;> rfl),
    broadcastInDim_apply _ _ _ _ (ix5 a b i s d) (fun z => by fin_cases z <;> rfl)]
  exact readV w a b i s d

theorem spreadHR_apply (w a b i s d) : spreadHR w (ix9 a 0 b 0 0 0 i s d) = w (ix6 a b 0 i s d) := by
  unfold spreadHR
  rw [broadcastInDim_apply _ _ _ _ (ix8 a b 0 0 0 i s d) (fun z => by fin_cases z <;> rfl),
    broadcastInDim_apply _ _ _ _ (ix5 a b i s d) (fun z => by fin_cases z <;> rfl)]
  exact readH w a b i s d

/-- The shape relations the reference's pooling states at `C` channels and side `n`. -/
structure RFacts (C n : ℕ) : Prop where
  reads : GatherDims.WF ⟨4, ![4, C, n, n]⟩ S4x5x7x2x2x7x2x2x2 (S9 C) [1] [2, 3] [0] [2, 3] [0] 8 ![1, C, 1, 1]
  spreadV : S4x1x5x7x2x2x1x1x1.BroadcastsInDim (S9 C) (![0, 1, 2, 3, 4, 5, 6, 7, 8] : Fin 9 → Fin (S9 C).rank)
  spreadH : S4x1x5x1x1x1x7x2x2.BroadcastsInDim (S9 C) (![0, 1, 2, 3, 4, 5, 6, 7, 8] : Fin 9 → Fin (S9 C).rank)
  samples : (S9 C).ReducesTo [4, 5, 7, 8] ⟨5, ![4, C, 5, 7, 7]⟩
  const : S_.BroadcastsInDim ⟨5, ![4, C, 5, 7, 7]⟩ (![] : Fin 0 → Fin 5)

/-- The pooled values of the reference. -/
def pooledR {C n : ℕ} (h : RFacts C n) (top last : BitVec 32) (rois : FVec Ideal S4x5x4 .f32) (feat : FVec Ideal ⟨4, ![4, C, n, n]⟩ .f32) :
    FVec Ideal ⟨5, ![4, C, 5, 7, 7]⟩ .f32 :=
  Host.divf (Host.reduceAdd (mulf (mulf (Host.gather (gatherR C n h.reads) feat (startsR (tapR last (posR top rois)))) (broadcastInDim (S9 C) ![0, 1, 2, 3, 4, 5, 6, 7, 8] h.spreadV (spreadVR (weightR (posR top rois))))) (broadcastInDim (S9 C) ![0, 1, 2, 3, 4, 5, 6, 7, 8] h.spreadH (spreadHR (weightR (posR top rois))))) (constant S_ .f32 0x00000000#32) h.samples h_S_) (broadcastInDim ⟨5, ![4, C, 5, 7, 7]⟩ ![] h.const (constant S_ .f32 0x40800000#32))

/-- A pooled value of the reference is the mean of the weighted reads. -/
theorem pooledR_apply {C n : ℕ} [NeZero n] (h : RFacts C n) (hn : n < 2 ^ 30) (top last : BitVec 32)
    (htop : Ideal.ofBits .f32 top = (((n : ℝ) - 1 : ℝ) : EReal)) (hlast : last.toInt = (n : ℤ) - 1)
    (rois : FVec Ideal S4x5x4 .f32) (feat : FVec Ideal ⟨4, ![4, C, n, n]⟩ .f32) (a : Fin 4) (c : Fin C) (b : Fin 5) (i j : Fin 7) :
    pooledR h top last rois feat (ix5 a c b i j)
      = pooled n (fun y x => feat (ix4 a c y x)) (rois (ix3 a b 1)) (binWidth (rois (ix3 a b 1)) (rois (ix3 a b 3)))
          (rois (ix3 a b 0)) (binWidth (rois (ix3 a b 0)) (rois (ix3 a b 2))) i j := by
  have hV : ∀ (i : Fin 7) (s : Fin 2), posR top rois (ix5 a b 1 i s) = (point n (rois (ix3 a b 1)) (binWidth (rois (ix3 a b 1)) (rois (ix3 a b 3))) i s : EReal) :=
    fun i s => (posR_apply top htop rois a b 1 i s).trans (samplePt_eq ..)
  have hH : ∀ (i : Fin 7) (s : Fin 2), posR top rois (ix5 a b 0 i s) = (point n (rois (ix3 a b 0)) (binWidth (rois (ix3 a b 0)) (rois (ix3 a b 2))) i s : EReal) :=
    fun i s => (posR_apply top htop rois a b 0 i s).trans (samplePt_eq ..)
  unfold pooledR pooled
  refine (congrArg₂ Ideal.div (sum_drop C h.samples _ _ _ a c b i j) Consts.four).trans ?_
  rw [Ideal.ofBits_zero_f32, zero_add, Ideal.div_coe (by norm_num)]
  refine congrArg (· * _) (Finset.sum_congr rfl fun q _ => ?_)
  refine congrArg₂ (· * ·) (congrArg₂ (· * ·) ?_ ?_) ?_
  · refine gatherR_apply C n h.reads feat _ a c b i q.1.1 q.1.2 j q.2.1 q.2.2 _ _ ?_ ?_
    · rw [startsR_zero]
      exact tapR_apply hn last hlast _ a b 1 i q.1.1 q.1.2 _ (hV i q.1.1) (point_nonneg ..) (point_le ..)
    · rw [startsR_one]
      exact tapR_apply hn last hlast _ a b 0 j q.2.1 q.2.2 _ (hH j q.2.1) (point_nonneg ..) (point_le ..)
  · rw [broadcastInDim_apply _ h.spreadV _ _ (ix9 a 0 b i q.1.1 q.1.2 0 0 0) (fun z => by fin_cases z <;> rfl), spreadVR_apply]
    exact weightR_apply (n := n) (by omega) _ a b 1 i q.1.1 q.1.2 _ (hV i q.1.1) (point_nonneg ..) (point_le ..)
  · rw [broadcastInDim_apply _ h.spreadH _ _ (ix9 a 0 b 0 0 0 j q.2.1 q.2.2) (fun z => by fin_cases z <;> rfl), spreadHR_apply]
    exact weightR_apply (n := n) (by omega) _ a b 0 j q.2.1 q.2.2 _ (hH j q.2.1) (point_nonneg ..) (point_le ..)

end Cert.Pooling

end
-- ==== Proof.Value.RefLoss.lean ====
/- The reference's result over the extended reals: the logits of each level read at an index, and the mean of the
   boxes' losses. -/
module

public import proofs.«01_k».proof.Proof.Value.Spec
public import proofs.«01_k».proof.Proof.Value.RefPool
public import proofs.«01_k».proof.Proof.Gen.ReferenceIdeal.Run

@[expose] public section

set_option maxRecDepth 16384

noncomputable section

namespace Cert.RefLoss

open Idealize.ShloMosaic Idealize.ShloMosaic.TcCoe
open Cert.ReferenceIdeal Cert.ReferenceIdeal.Gen Cert.Pooling Cert.Loss Cert.Spec

/-- One level's loss of the reference from its logits. -/
def lossR (p : FVec Ideal S4x5x1 .f32) (lab : FVec Ideal S4 .f32) : FVec Ideal S_ .f32 :=
  Host.reduceAdd (Host.divf (Host.reduceAdd (addf (subf (maximumf p (broadcastInDim S4x5x1 ![] bcast_S_S4x5x1 (constant S_ .f32 0x00000000#32))) (mulf p (broadcastInDim S4x5x1 ![0, 1, 2] bcast_S4x1x1_S4x5x1_0_1_2 (broadcastInDim S4x1x1 ![0] bcast_S4_S4x1x1_0 lab)))) (Host.log1p (Host.exp (Host.negf (Host.absf p))))) (constant S_ .f32 0x00000000#32) reducesTo_S4x5x1_S4_d1_2 h_S_) (broadcastInDim S4 ![] bcast_S_S4 (constant S_ .f32 0x40A00000#32))) (constant S_ .f32 0x00000000#32) reducesTo_S4_S_d0 h_S_

theorem lossR_apply (p : FVec Ideal S4x5x1 .f32) (lab : FVec Ideal S4 .f32) (i : S_.Idx) :
    lossR p lab i = ∑ a : Fin 4, Ideal.div (∑ b : Fin 5, bce (p (ix3 a b 0)) (lab (ix1 a))) ((5 : ℝ) : EReal) := by
  pointwise [lossR]
  refine Finset.sum_congr rfl fun a _ => congrArg₂ Ideal.div (Finset.sum_congr rfl fun b _ => ?_) Consts.five
  rw [Fin.sum_univ_one]
  unfold bce
  rw [zero_sub]
  rfl

/-- The two upper layers of the reference on the first layer's product. -/
def layersR (h : FVec Ideal S4x5x1024 .f32) (b1 : FVec Ideal S1024 .f32) (w2 : FVec Ideal S1024x1024 .f32) (b2 : FVec Ideal S1024 .f32)
    (w3 : FVec Ideal S1024x1 .f32) (b3 : FVec Ideal S1 .f32) : FVec Ideal S4x5x1 .f32 :=
  addf (Host.dotGeneral dot_S4x5x1024_S1024x1_S4x5x1_2_0_01_1_n_n none (maximumf (addf (Host.dotGeneral dot_S4x5x1024_S1024x1024_S4x5x1024_2_0_01_1_n_n none (maximumf (addf h
    (broadcastInDim S4x5x1024 ![0, 1, 2] bcast_S1x1x1024_S4x5x1024_0_1_2 (broadcastInDim S1x1x1024 ![2] bcast_S1024_S1x1x1024_2 b1))) (broadcastInDim S4x5x1024 ![] bcast_S_S4x5x1024 (constant S_ .f32 0x00000000#32))) w2)
    (broadcastInDim S4x5x1024 ![0, 1, 2] bcast_S1x1x1024_S4x5x1024_0_1_2 (broadcastInDim S1x1x1024 ![2] bcast_S1024_S1x1x1024_2 b2))) (broadcastInDim S4x5x1024 ![] bcast_S_S4x5x1024 (constant S_ .f32 0x00000000#32))) w3)
    (broadcastInDim S4x5x1 ![0, 1, 2] bcast_S1x1x1_S4x5x1_0_1_2 (broadcastInDim S1x1x1 ![2] bcast_S1_S1x1x1_2 b3))

theorem layersR_apply (h : FVec Ideal S4x5x1024 .f32) (b1 : FVec Ideal S1024 .f32) (w2 : FVec Ideal S1024x1024 .f32) (b2 : FVec Ideal S1024 .f32)
    (w3 : FVec Ideal S1024x1 .f32) (b3 : FVec Ideal S1 .f32) (a : Fin 4) (b : Fin 5) :
    layersR h b1 w2 b2 w3 b3 (ix3 a b 0)
      = head (fun k => h (ix3 a b k) + b1 (ix1 k)) (fun k1 k2 => w2 (ix2 k1 k2)) (fun k => b2 (ix1 k)) (fun k => w3 (ix2 k 0)) (b3 (ix1 0)) := by
  pointwise [layersR]
  rfl

/-- Feature `k` of a box is the pooled value of channel `k / 49` at bin `k % 49`. -/
theorem feature_of {n C K : ℕ} [NeZero n] (hK : K = C * 49) (L : Level n C K) (h : RFacts C n) (hn : n < 2 ^ 30) (top last : BitVec 32)
    (htop : Ideal.ofBits .f32 top = (((n : ℝ) - 1 : ℝ) : EReal)) (hlast : last.toInt = (n : ℤ) - 1) (X : FVec Ideal ⟨3, ![4, 5, K]⟩ .f32)
    (hX : ∀ (a : Fin 4) (b : Fin 5) (ch : Fin C) (i j : Fin 7) (hl : (ch.val * 7 + i.val) * 7 + j.val < K),
      X (ix3 a b ⟨(ch.val * 7 + i.val) * 7 + j.val, hl⟩) = pooledR h top last L.rois L.feat (ix5 a ch b i j)) (a : Fin 4) (b : Fin 5) (k : Fin K) :
    X (ix3 a b k) = feature hK L a b k := by
  have hc : k.val / 49 < C := by subst hK; exact Nat.div_lt_of_lt_mul (Nat.mul_comm C 49 ▸ k.isLt)
  have hk : (k.val / 49 * 7 + k.val % 49 / 7) * 7 + k.val % 49 % 7 = k.val := by omega
  have e := hX a b ⟨k.val / 49, hc⟩ ⟨k.val % 49 / 7, by omega⟩ ⟨k.val % 49 % 7, by omega⟩ (by show _ < K; rw [hk]; exact k.isLt)
  refine Eq.trans (congrArg X (congrArg (ix3 a b) (Fin.ext hk.symm))) (e.trans ?_)
  rw [pooledR_apply h hn top last htop hlast]
  rfl

/-- A level's loss of the reference is the sum of the images' means of the boxes' losses. -/
theorem level_of {n C K : ℕ} [NeZero n] (hK : K = C * 49) (L : Level n C K) (h : FVec Ideal S4x5x1024 .f32) (X : FVec Ideal ⟨3, ![4, 5, K]⟩ .f32)
    (hX : ∀ a b k, X (ix3 a b k) = feature hK L a b k)
    (hh : ∀ (a : Fin 4) (b : Fin 5) (k : Fin 1024), h (ix3 a b k) = ∑ q : Fin K, X (ix3 a b q) * L.w1 (ix2 q k)) (i : S_.Idx) :
    lossR (layersR h L.b1 L.w2 L.b2 L.w3 L.b3) L.lab i
      = ∑ a : Fin 4, Ideal.div (∑ b : Fin 5, rowLoss hK L ⟨5 * a.val + b.val, by omega⟩) ((5 : ℝ) : EReal) := by
  rw [lossR_apply]
  refine Finset.sum_congr rfl fun a _ => congrArg (Ideal.div · _) (Finset.sum_congr rfl fun b _ => ?_)
  rw [rowLoss_at, layersR_apply]
  unfold boxLoss logit
  simp only [hh, hX]

/-! ## The first level -/

theorem facts0 : RFacts 128 80 where
  reads := gather_S4x128x80x80_S4x5x7x2x2x7x2x2x2_S4x128x5x7x2x2x7x2x2_1_23_0_0_23_8_112811_wf
  spreadV := bcast_S4x1x5x7x2x2x1x1x1_S4x128x5x7x2x2x7x2x2_0_1_2_3_4_5_6_7_8
  spreadH := bcast_S4x1x5x1x1x1x7x2x2_S4x128x5x7x2x2x7x2x2_0_1_2_3_4_5_6_7_8
  samples := reducesTo_S4x128x5x7x2x2x7x2x2_S4x128x5x7x7_d4_5_7_8
  const := bcast_S_S4x128x5x7x7

/-- The level's pooled values, box by box. -/
def flat0 (rois : FVec Ideal S4x5x4 .f32) (feat : FVec Ideal S4x128x80x80 .f32) : FVec Ideal S4x5x6272 .f32 :=
  shapeCast _ (transpose S4x5x128x7x7 [0, 2, 1, 3, 4] (pooledR facts0 0x429E0000#32 79#32 rois feat) transposes_S4x128x5x7x7_S4x5x128x7x7_0_2_1_3_4)
    shapeCasts_S4x5x128x7x7_S4x5x6272

theorem flat0_apply (p : FVec Ideal S4x128x5x7x7 .f32) (a : Fin 4) (b : Fin 5) (ch : Fin 128) (i j : Fin 7) (h : (ch.val * 7 + i.val) * 7 + j.val < 6272) :
    shapeCast S4x5x6272 (transpose S4x5x128x7x7 [0, 2, 1, 3, 4] p transposes_S4x128x5x7x7_S4x5x128x7x7_0_2_1_3_4) shapeCasts_S4x5x128x7x7_S4x5x6272
      (ix3 a b ⟨(ch.val * 7 + i.val) * 7 + j.val, h⟩) = p (ix5 a ch b i j) := by
  pointwise []

theorem dot0 (x : FVec Ideal S4x5x6272 .f32) (w : FVec Ideal S6272x1024 .f32) (a : Fin 4) (b : Fin 5) (k : Fin 1024) :
    Host.dotGeneral dot_S4x5x6272_S6272x1024_S4x5x1024_2_0_01_1_n_n none x w (ix3 a b k) = ∑ q : Fin 6272, x (ix3 a b q) * w (ix2 q k) := by
  pointwise []

/-- The level's arguments. -/
def level0 (V : Valuation τ sig (Elt Ideal)) : Level 80 128 6272 :=
  ⟨V main_arg0, V main_arg3, V main_arg7, V main_arg8, V main_arg9, V main_arg10, V main_arg11, V main_arg12, V main_arg6⟩

theorem pred0_eq (V : Valuation τ sig (Elt Ideal)) : Value.res_main_v94 V
    = layersR (Host.dotGeneral dot_S4x5x6272_S6272x1024_S4x5x1024_2_0_01_1_n_n none (flat0 (level0 V).rois (level0 V).feat) (level0 V).w1)
        (level0 V).b1 (level0 V).w2 (level0 V).b2 (level0 V).w3 (level0 V).b3 := by
  chain_rfl

theorem loss0 (V : Valuation τ sig (Elt Ideal)) (i : S_.Idx) : lossR (Value.res_main_v94 V) (V main_arg6) i
    = ∑ a : Fin 4, Ideal.div (∑ b : Fin 5, rowLoss (by decide) (level0 V) ⟨5 * a.val + b.val, by omega⟩) ((5 : ℝ) : EReal) := by
  rw [pred0_eq]
  exact level_of (by decide) (level0 V) _ (flat0 (level0 V).rois (level0 V).feat)
    (feature_of (by decide) (level0 V) facts0 (by decide) 0x429E0000#32 79#32 (by rw [Consts.seventynine]; norm_num) (by decide) _
      fun a b ch i j hl => flat0_apply _ a b ch i j hl) (fun a b k => dot0 _ _ a b k) i

/-! ## The second level -/

theorem facts1 : RFacts 256 40 where
  reads := gather_S4x256x40x40_S4x5x7x2x2x7x2x2x2_S4x256x5x7x2x2x7x2x2_1_23_0_0_23_8_125611_wf
  spreadV := bcast_S4x1x5x7x2x2x1x1x1_S4x256x5x7x2x2x7x2x2_0_1_2_3_4_5_6_7_8
  spreadH := bcast_S4x1x5x1x1x1x7x2x2_S4x256x5x7x2x2x7x2x2_0_1_2_3_4_5_6_7_8
  samples := reducesTo_S4x256x5x7x2x2x7x2x2_S4x256x5x7x7_d4_5_7_8
  const := bcast_S_S4x256x5x7x7

/-- The level's pooled values, box by box. -/
def flat1 (rois : FVec Ideal S4x5x4 .f32) (feat : FVec Ideal S4x256x40x40 .f32) : FVec Ideal S4x5x12544 .f32 :=
  shapeCast _ (transpose S4x5x256x7x7 [0, 2, 1, 3, 4] (pooledR facts1 0x421C0000#32 39#32 rois feat) transposes_S4x256x5x7x7_S4x5x256x7x7_0_2_1_3_4)
    shapeCasts_S4x5x256x7x7_S4x5x12544

theorem flat1_apply (p : FVec Ideal S4x256x5x7x7 .f32) (a : Fin 4) (b : Fin 5) (ch : Fin 256) (i j : Fin 7) (h : (ch.val * 7 + i.val) * 7 + j.val < 12544) :
    shapeCast S4x5x12544 (transpose S4x5x256x7x7 [0, 2, 1, 3, 4] p transposes_S4x256x5x7x7_S4x5x256x7x7_0_2_1_3_4) shapeCasts_S4x5x256x7x7_S4x5x12544
      (ix3 a b ⟨(ch.val * 7 + i.val) * 7 + j.val, h⟩) = p (ix5 a ch b i j) := by
  pointwise []

theorem dot1 (x : FVec Ideal S4x5x12544 .f32) (w : FVec Ideal S12544x1024 .f32) (a : Fin 4) (b : Fin 5) (k : Fin 1024) :
    Host.dotGeneral dot_S4x5x12544_S12544x1024_S4x5x1024_2_0_01_1_n_n none x w (ix3 a b k) = ∑ q : Fin 12544, x (ix3 a b q) * w (ix2 q k) := by
  pointwise []

/-- The level's arguments. -/
def level1 (V : Valuation τ sig (Elt Ideal)) : Level 40 256 12544 :=
  ⟨V main_arg1, V main_arg4, V main_arg13, V main_arg14, V main_arg15, V main_arg16, V main_arg17, V main_arg18, V main_arg6⟩

theorem pred1_eq (V : Valuation τ sig (Elt Ideal)) : Value.res_main_v204 V
    = layersR (Host.dotGeneral dot_S4x5x12544_S12544x1024_S4x5x1024_2_0_01_1_n_n none (flat1 (level1 V).rois (level1 V).feat) (level1 V).w1)
        (level1 V).b1 (level1 V).w2 (level1 V).b2 (level1 V).w3 (level1 V).b3 := by
  chain_rfl

theorem loss1 (V : Valuation τ sig (Elt Ideal)) (i : S_.Idx) : lossR (Value.res_main_v204 V) (V main_arg6) i
    = ∑ a : Fin 4, Ideal.div (∑ b : Fin 5, rowLoss (by decide) (level1 V) ⟨5 * a.val + b.val, by omega⟩) ((5 : ℝ) : EReal) := by
  rw [pred1_eq]
  exact level_of (by decide) (level1 V) _ (flat1 (level1 V).rois (level1 V).feat)
    (feature_of (by decide) (level1 V) facts1 (by decide) 0x421C0000#32 39#32 (by rw [Consts.thirtynine]; norm_num) (by decide) _
      fun a b ch i j hl => flat1_apply _ a b ch i j hl) (fun a b k => dot1 _ _ a b k) i

/-! ## The third level -/

theorem facts2 : RFacts 512 20 where
  reads := gather_S4x512x20x20_S4x5x7x2x2x7x2x2x2_S4x512x5x7x2x2x7x2x2_1_23_0_0_23_8_151211_wf
  spreadV := bcast_S4x1x5x7x2x2x1x1x1_S4x512x5x7x2x2x7x2x2_0_1_2_3_4_5_6_7_8
  spreadH := bcast_S4x1x5x1x1x1x7x2x2_S4x512x5x7x2x2x7x2x2_0_1_2_3_4_5_6_7_8
  samples := reducesTo_S4x512x5x7x2x2x7x2x2_S4x512x5x7x7_d4_5_7_8
  const := bcast_S_S4x512x5x7x7

/-- The level's pooled values, box by box. -/
def flat2 (rois : FVec Ideal S4x5x4 .f32) (feat : FVec Ideal S4x512x20x20 .f32) : FVec Ideal S4x5x25088 .f32 :=
  shapeCast _ (transpose S4x5x512x7x7 [0, 2, 1, 3, 4] (pooledR facts2 0x41980000#32 19#32 rois feat) transposes_S4x512x5x7x7_S4x5x512x7x7_0_2_1_3_4)
    shapeCasts_S4x5x512x7x7_S4x5x25088

theorem flat2_apply (p : FVec Ideal S4x512x5x7x7 .f32) (a : Fin 4) (b : Fin 5) (ch : Fin 512) (i j : Fin 7) (h : (ch.val * 7 + i.val) * 7 + j.val < 25088) :
    shapeCast S4x5x25088 (transpose S4x5x512x7x7 [0, 2, 1, 3, 4] p transposes_S4x512x5x7x7_S4x5x512x7x7_0_2_1_3_4) shapeCasts_S4x5x512x7x7_S4x5x25088
      (ix3 a b ⟨(ch.val * 7 + i.val) * 7 + j.val, h⟩) = p (ix5 a ch b i j) := by
  pointwise []

theorem dot2 (x : FVec Ideal S4x5x25088 .f32) (w : FVec Ideal S25088x1024 .f32) (a : Fin 4) (b : Fin 5) (k : Fin 1024) :
    Host.dotGeneral dot_S4x5x25088_S25088x1024_S4x5x1024_2_0_01_1_n_n none x w (ix3 a b k) = ∑ q : Fin 25088, x (ix3 a b q) * w (ix2 q k) := by
  pointwise []

/-- The level's arguments. -/
def level2 (V : Valuation τ sig (Elt Ideal)) : Level 20 512 25088 :=
  ⟨V main_arg2, V main_arg5, V main_arg19, V main_arg20, V main_arg21, V main_arg22, V main_arg23, V main_arg24, V main_arg6⟩

theorem pred2_eq (V : Valuation τ sig (Elt Ideal)) : Value.res_main_v314 V
    = layersR (Host.dotGeneral dot_S4x5x25088_S25088x1024_S4x5x1024_2_0_01_1_n_n none (flat2 (level2 V).rois (level2 V).feat) (level2 V).w1)
        (level2 V).b1 (level2 V).w2 (level2 V).b2 (level2 V).w3 (level2 V).b3 := by
  chain_rfl

theorem loss2 (V : Valuation τ sig (Elt Ideal)) (i : S_.Idx) : lossR (Value.res_main_v314 V) (V main_arg6) i
    = ∑ a : Fin 4, Ideal.div (∑ b : Fin 5, rowLoss (by decide) (level2 V) ⟨5 * a.val + b.val, by omega⟩) ((5 : ℝ) : EReal) := by
  rw [pred2_eq]
  exact level_of (by decide) (level2 V) _ (flat2 (level2 V).rois (level2 V).feat)
    (feature_of (by decide) (level2 V) facts2 (by decide) 0x41980000#32 19#32 (by rw [Consts.nineteen]; norm_num) (by decide) _
      fun a b ch i j hl => flat2_apply _ a b ch i j hl) (fun a b k => dot2 _ _ a b k) i

end Cert.RefLoss

end
-- ==== Proof.Value.Agree.lean ====
/- The kernel and the reference agree over the extended reals: both results are the mean of the boxes' losses, the
   kernel dividing the sum of all sixty by 60, the reference averaging image by image and level by level. -/
module

public import proofs.«01_k».proof.Defs
public import proofs.«01_k».proof.Proof.Run.Frames
public import proofs.«01_k».proof.Proof.Value.KernelRead
public import proofs.«01_k».proof.Proof.Value.RefLoss

@[expose] public section

set_option maxRecDepth 16384

noncomputable section

namespace Cert.Proof

open Idealize.ShloMosaic Idealize.SL.Sem Idealize.ShloMosaic.TcCoe Idealize.ShloMosaic.StableHlo
open Cert.RefLoss Cert.Loss Cert.Spec

/-- The reference's result from its argument contents. -/
def total (V : Valuation Cert.ReferenceIdeal.τ Cert.ReferenceIdeal.sig (Elt Ideal)) : FVec Ideal Cert.ReferenceIdeal.S_ .f32 :=
  Host.divf (addf (addf (lossR (Cert.ReferenceIdeal.Value.res_main_v94 V) (V Cert.ReferenceIdeal.main_arg6))
    (lossR (Cert.ReferenceIdeal.Value.res_main_v204 V) (V Cert.ReferenceIdeal.main_arg6)))
    (lossR (Cert.ReferenceIdeal.Value.res_main_v314 V) (V Cert.ReferenceIdeal.main_arg6))) (constant Cert.ReferenceIdeal.S_ .f32 0x41400000#32)

/-- The reference's result is the sum of all sixty boxes' losses divided by 60. -/
theorem total_apply (V : Valuation Cert.ReferenceIdeal.τ Cert.ReferenceIdeal.sig (Elt Ideal)) (i : Cert.ReferenceIdeal.S_.Idx) :
    total V i = Ideal.div (((∑ r, rowLoss (by decide) (RefLoss.level0 V) r) + ∑ r, rowLoss (by decide) (RefLoss.level1 V) r)
      + ∑ r, rowLoss (by decide) (RefLoss.level2 V) r) ((60 : ℝ) : EReal) := by
  rw [mean_eq, ← loss0 V i, ← loss1 V i, ← loss2 V i, ← Consts.twelve]
  rfl

/-- From memories agreeing on the arguments, the kernel's result is the reference's. -/
theorem same (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (h0 : RefLoss.level0 V = Cert.KernelIdeal.Run.level0 m c) (h1 : RefLoss.level1 V = Cert.KernelIdeal.Run.level1 m c)
    (h2 : RefLoss.level2 V = Cert.KernelIdeal.Run.level2 m c) :
    total V = Cert.KernelIdeal.Run.W13 m c Cert.KernelIdeal.main_v35 := by
  refine funext fun i => (total_apply V i).trans ?_
  rw [h0, h1, h2]
  exact (Cert.KernelIdeal.Run.result m c i).symm

/-- The contents at launch, by reference. -/
abbrev atLaunch (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := launchContents m' c

/-- Kernel and reference, run from memories agreeing on the arguments, end with equal results and unchanged arguments. -/
theorem agree : Cert.algebraic_KernelIdeal_ReferenceIdeal (hKernelIdeal := Cert.KernelIdeal.Gen.facts) (hReferenceIdeal := Cert.ReferenceIdeal.Gen.facts) := by
  intro m g m' g' _ hag
  have hs : ∀ c, total (atLaunch m' c) = Cert.KernelIdeal.Run.W13 m c Cert.KernelIdeal.main_v35 := by
    intro c
    obtain ⟨a0, a1, a2, a3, a4, a5, a6, a7, a8, a9, a10, a11, a12, a13, a14, a15, a16, a17, a18, a19, a20, a21, a22, a23, a24⟩ := hag c
    refine same m c (atLaunch m' c) ?_ ?_ ?_
    · show Level.mk _ _ _ _ _ _ _ _ _ = Level.mk _ _ _ _ _ _ _ _ _
      exact (Level.mk.injEq ..).mpr ⟨a0, a3, a7, a8, a9, a10, a11, a12, a6⟩
    · show Level.mk _ _ _ _ _ _ _ _ _ = Level.mk _ _ _ _ _ _ _ _ _
      exact (Level.mk.injEq ..).mpr ⟨a1, a4, a13, a14, a15, a16, a17, a18, a6⟩
    · show Level.mk _ _ _ _ _ _ _ _ _ = Level.mk _ _ _ _ _ _ _ _ _
      exact (Level.mk.injEq ..).mpr ⟨a2, a5, a19, a20, a21, a22, a23, a24, a6⟩
  clear hag
  refine ⟨fun c => Cert.KernelIdeal.Run.W13 m c Cert.KernelIdeal.main_v35, ?_, ?_⟩
  · exact (θ_run _ _ _).mono (fun _ h => h.1) (Cert.KernelIdeal.Run.ends (F := Ideal) m g)
  · refine (θ_run _ _ _).mono (fun r h c => ?_) (Cert.ReferenceIdeal.Value.run (F := Ideal) m' g')
    have hc := h c
    refine ⟨hc.1.trans ?_, hc.2⟩
    exact hs c

end Cert.Proof

end
-- ==== Proof.Decode.Spec.lean ====
/- What decoding one place of a level's prediction is: its score and the four corners of its box, from the place's 85
   numbers, its anchor's size and where it lies in the grid. -/
module

public import Idealize.ShloMosaic.PureOps.Ideal
public import proofs.«01_k».proof.Proof.Value.Consts

@[expose] public section

noncomputable section

namespace Cert.Decode

open Idealize.ShloMosaic

/-! ## The logistic function keeps the order -/

theorem logistic_nonneg (x : EReal) : 0 ≤ Ideal.logistic x := by
  induction x with
  | bot => rw [Ideal.logistic_bot]
  | top => rw [Ideal.logistic_top]; exact zero_le_one
  | coe r => rw [Ideal.logistic_coe]; exact_mod_cast inv_nonneg.mpr (by positivity)

theorem logistic_le_one (x : EReal) : Ideal.logistic x ≤ 1 := by
  induction x with
  | bot => rw [Ideal.logistic_bot]; exact zero_le_one
  | top => rw [Ideal.logistic_top]
  | coe r => rw [Ideal.logistic_coe]; exact_mod_cast inv_le_one_of_one_le₀ (by have := Real.exp_pos (-r); linarith)

theorem logistic_mono : Monotone Ideal.logistic := by
  intro x y h
  induction x with
  | bot => rw [Ideal.logistic_bot]; exact logistic_nonneg y
  | top => rw [top_le_iff.mp h]
  | coe r =>
    induction y with
    | bot => exact absurd h (by simp)
    | top => rw [Ideal.logistic_top]; exact logistic_le_one _
    | coe s =>
      rw [Ideal.logistic_coe, Ideal.logistic_coe]
      have hrs : r ≤ s := by exact_mod_cast h
      exact_mod_cast inv_anti₀ (by positivity) (by have := Real.exp_le_exp.mpr (neg_le_neg hrs); linarith)

/-! ## A place's score -/

/-- The greatest of a place's 80 class numbers. -/
def classMax (f : Fin 85 → EReal) : EReal := (Finset.univ : Finset (Fin 80)).fold max ⊥ fun k => f ⟨5 + k.val, by omega⟩

/-- The place's confidence: that there is an object, times that of the likeliest class. -/
def confidence (f : Fin 85 → EReal) : EReal := Ideal.logistic (f 4) * Ideal.logistic (classMax f)

/-- The likeliest class may be chosen before the logistic function or after it. -/
theorem max_logistic (f : Fin 80 → EReal) :
    (Finset.univ : Finset (Fin 80)).fold max ⊥ (fun k => Ideal.logistic (f k)) = Ideal.logistic ((Finset.univ : Finset (Fin 80)).fold max ⊥ f) := by
  rw [← Finset.fold_hom (op' := max) (fun x y => logistic_mono.map_max), Ideal.logistic_bot]
  refine le_antisymm ?_ ?_
  · exact (Finset.fold_max_le _).mpr ⟨bot_le, fun k hk => (Finset.le_fold_max _).mpr (.inr ⟨k, hk, le_rfl⟩)⟩
  · exact (Finset.fold_max_le _).mpr ⟨(Finset.le_fold_max _).mpr (.inr ⟨0, Finset.mem_univ _, logistic_nonneg _⟩),
      fun k hk => (Finset.le_fold_max _).mpr (.inr ⟨k, hk, le_rfl⟩)⟩

theorem bottom : Ideal.ofBits .f32 0xFF800000#32 = ⊥ := by simp [Ideal.ofBits, Ideal.ieee]

/-! ## A place's box -/

abbrev two : EReal := Ideal.ofBits .f32 0x40000000#32
abbrev half : EReal := Ideal.ofBits .f32 0x3F000000#32

/-- The box's centre along one axis, at grid coordinate `g`. -/
def centre (x : EReal) (g : ℕ) : EReal := Ideal.logistic x * two + ((((BitVec.ofNat 32 g).toInt : ℝ) : EReal) - half)

/-- The box's extent along one axis, `w` being the anchor's. -/
def extent (x w : EReal) : EReal := Ideal.logistic x * two * (Ideal.logistic x * two) * w

/-- The box's corners: left, top, right, bottom. -/
def corner (f : Fin 85 → EReal) (w h : EReal) (y x : ℕ) : Fin 4 → EReal
  | 0 => centre (f 0) x - Ideal.div (extent (f 2) w) two
  | 1 => centre (f 1) y - Ideal.div (extent (f 3) h) two
  | 2 => centre (f 0) x + Ideal.div (extent (f 2) w) two
  | 3 => centre (f 1) y + Ideal.div (extent (f 3) h) two

end Cert.Decode

end
-- ==== Proof.Decode.Body.lean ====
/- The decoding body as vectors: one program for all levels, its numbers `area` (places of a plane) and `n` (places of a
   row) being parameters, and what its results are at a place. -/
module

public import proofs.«01_k».proof.Proof.Gen.Kernel2Ideal.Skeleton
public import proofs.«01_k».proof.Proof.Decode.Spec
public import Idealize.ShloMosaic.Lib.Pointwise

@[expose] public section

set_option maxRecDepth 16384

noncomputable section

namespace Cert.Decode

open Idealize.ShloMosaic Idealize.ShloMosaic.TcCoe
open Cert.Kernel2Ideal Cert.Kernel2Ideal.Gen

/-! ## Quotients and remainders of the places' numbers -/

/-- Signed division of small words is the numbers' division. -/
theorem divsi_words (k d : ℕ) (hk : k < 2 ^ 31) (hd : d < 2 ^ 31) (h0 : 0 < d) :
    IntOp.divsi .vector (BitVec.ofNat 32 k) (BitVec.ofNat 32 d) = BitVec.ofNat 32 (k / d) := by
  have hc : ¬IntOp.SDivCorner (BitVec.ofNat 32 k) (BitVec.ofNat 32 d) := by
    rintro (h | ⟨-, h⟩)
    · have := congrArg BitVec.toNat h
      simp at this
      omega
    · have := congrArg BitVec.toInt h
      rw [Consts.toInt_ofNat hd] at this
      have e : (-1 : BitVec 32).toInt = -1 := by decide
      omega
  have mk : (BitVec.ofNat 32 k).msb = false := by rw [BitVec.msb_eq_false_iff_two_mul_lt, BitVec.toNat_ofNat]; omega
  have md : (BitVec.ofNat 32 d).msb = false := by rw [BitVec.msb_eq_false_iff_two_mul_lt, BitVec.toNat_ofNat]; omega
  have hq : k / d ≤ k := Nat.div_le_self _ _
  rw [IntOp.divsi, if_neg hc, BitVec.sdiv_eq, mk, md]
  apply BitVec.eq_of_toNat_eq
  simp only [BitVec.udiv_eq, BitVec.toNat_udiv, BitVec.toNat_ofNat]
  rw [Nat.mod_eq_of_lt (by omega : k < 2 ^ 32), Nat.mod_eq_of_lt (by omega : d < 2 ^ 32), Nat.mod_eq_of_lt (by omega : k / d < 2 ^ 32)]

/-- The correction for operands of different sign does not apply: a small number's sign is its divisor's, or it is 0
    and leaves no remainder. -/
theorem same_sign (k d : ℕ) (hk : k < 2 ^ 31) (hd : d < 2 ^ 31) (h0 : 0 < d) :
    IntOp.andi
        (IntOp.cmpi CmpIPredicate.ne
          (IntOp.subi (BitVec.setWidth 32 (IntOp.cmpi CmpIPredicate.sgt (BitVec.ofNat 32 k) 0#32))
            (BitVec.setWidth 32 (IntOp.cmpi CmpIPredicate.slt (BitVec.ofNat 32 k) 0#32)))
          (Scalar.subi (Scalar.extui (Scalar.cmpi CmpIPredicate.sgt (BitVec.ofNat 32 d) 0#32))
            (Scalar.extui (Scalar.cmpi CmpIPredicate.slt (BitVec.ofNat 32 d) 0#32))))
        (IntOp.cmpi CmpIPredicate.ne (IntOp.remsi ArithUnit.vector (BitVec.ofNat 32 k) (BitVec.ofNat 32 d)) 0#32) = 0#1 := by
  have pos (j : ℕ) (hj : j < 2 ^ 31) (h : 0 < j) : IntOp.cmpi CmpIPredicate.sgt (BitVec.ofNat 32 j) 0#32 = 1#1 := by
    have : (0#32).slt (BitVec.ofNat 32 j) = true := by
      rw [BitVec.slt_iff_toInt_lt, Consts.toInt_ofNat hj]; simpa using h
    simp only [IntOp.cmpi, this]; rfl
  have neg (j : ℕ) (hj : j < 2 ^ 31) : IntOp.cmpi CmpIPredicate.slt (BitVec.ofNat 32 j) 0#32 = 0#1 := by
    have : (BitVec.ofNat 32 j).slt 0#32 = false := by
      rw [← Bool.not_eq_true, BitVec.slt_iff_toInt_lt, Consts.toInt_ofNat hj]; simp
    simp only [IntOp.cmpi, this]; rfl
  simp only [Scalar.cmpi, pos d hd h0, neg d hd, neg k hk]
  rcases Nat.eq_zero_or_pos k with rfl | h
  · have hc : ¬IntOp.SDivCorner (0#32) (BitVec.ofNat 32 d) := by
      rintro (h | ⟨h, -⟩)
      · have := congrArg BitVec.toNat h
        simp at this
        omega
      · exact absurd h (by decide)
    have e : IntOp.remsi ArithUnit.vector (BitVec.ofNat 32 0) (BitVec.ofNat 32 d) = 0#32 := by
      show IntOp.remsi ArithUnit.vector 0#32 (BitVec.ofNat 32 d) = 0#32
      rw [IntOp.remsi, if_neg hc, BitVec.zero_srem]
    rw [e]
    decide
  · rw [pos k hk h]
    have e (x : BitVec 1) : IntOp.andi 0#1 x = 0#1 := by simp [IntOp.andi]
    exact e _

/-- The quotient as the body computes it: rounded to zero, then corrected where the signs differ. -/
def quot (v : IVec S1x1200 32) (d : BitVec 32) : IVec S1x1200 32 := k0_pay7 v d (divsi v (broadcast S1x1200 d)) 0#32

/-- What is left of `v` after the quotient. -/
def rest (v : IVec S1x1200 32) (d : BitVec 32) : IVec S1x1200 32 := subi v (muli (quot v d) (broadcast S1x1200 d))

/-- The block's places, numbered over all blocks of an image. -/
def places (b : BitVec 32) : IVec S1x1200 32 :=
  addi (broadcast S1x1200 (Scalar.muli b 1200#32)) (iota .tc S1x1200 32 [1] iota_S1x1200_d1_w32)

theorem places_apply (b : ℕ) (r : Fin 1200) : places (BitVec.ofNat 32 b) (ix2 (0 : Fin 1) r) = BitVec.ofNat 32 (b * 1200 + r.val) := by
  unfold places
  pointwise []
  simp only [IntOp.addi, Scalar.muli, IntOp.muli, BitVec.ofNat_add, BitVec.ofNat_mul]

theorem quot_apply (v : IVec S1x1200 32) (k d : ℕ) (hk : k < 2 ^ 31) (hd : d < 2 ^ 31) (h0 : 0 < d) (r : Fin 1200)
    (h : v (ix2 (0 : Fin 1) r) = BitVec.ofNat 32 k) : quot v (BitVec.ofNat 32 d) (ix2 (0 : Fin 1) r) = BitVec.ofNat 32 (k / d) := by
  unfold quot
  pointwise [k0_pay7]
  rw [h, same_sign k d hk hd h0, divsi_words k d hk hd h0]
  rfl

theorem rest_apply (v : IVec S1x1200 32) (k d : ℕ) (hk : k < 2 ^ 31) (hd : d < 2 ^ 31) (h0 : 0 < d) (r : Fin 1200)
    (h : v (ix2 (0 : Fin 1) r) = BitVec.ofNat 32 k) : rest v (BitVec.ofNat 32 d) (ix2 (0 : Fin 1) r) = BitVec.ofNat 32 (k % d) := by
  unfold rest
  pointwise []
  rw [h, quot_apply v k d hk hd h0 r h]
  have e : k = k % d + k / d * d := by rw [Nat.mul_comm]; exact (Nat.mod_add_div k d).symm
  conv_lhs => rw [e, BitVec.ofNat_add, BitVec.ofNat_mul]
  rw [← e]
  simp only [IntOp.subi, IntOp.muli, BitVec.add_sub_cancel]

/-! ## The scores -/

/-- The block of scores. -/
def score (blk : Vec Ideal S1x1200x85 .f32) : FVec Ideal S1x1x1x1200 .f32 := k0_pay16 (k0_pay2 blk)

theorem score_apply (blk : Vec Ideal S1x1200x85 .f32) (r : Fin 1200) :
    score blk (ix4 (0 : Fin 1) (0 : Fin 1) (0 : Fin 1) r) = confidence fun k => blk (ix3 (0 : Fin 1) r k) := by
  unfold score confidence classMax
  pointwise [k0_pay16, k0_pay2]
  rw [bottom]

/-! ## The boxes -/

/-- The block of corners, the anchors' sizes being six words. -/
def corners (area n b : BitVec 32) (blk : Vec Ideal S1x1200x85 .f32) (w h : Fin 3 → EReal) : FVec Ideal S1x1x4x1200 .f32 :=
  have v8 : FVec Ideal S8x1200 .f32 := k0_pay2 blk
  have a : IVec S1x1200 32 := quot (places b) area
  have p : IVec S1x1200 32 := rest (places b) area
  k0_pay1 (k0_pay12 v8 (rest p n)) (k0_pay13 v8 (quot p n)) (k0_pay14 v8 (k0_pay9 a (w 0) (w 1) (w 2)))
    (k0_pay15 v8 (k0_pay10 a) (h 0) (k0_pay11 a) (h 1) (h 2)) k0_pay17

/-- One of three by an anchor's number. -/
theorem pick (a : Fin 3) (w : Fin 3 → EReal) : Scalar.select (IntOp.cmpi CmpIPredicate.eq (BitVec.ofNat 32 a.val) 0#32) (w 0)
    (Scalar.select (IntOp.cmpi CmpIPredicate.eq (BitVec.ofNat 32 a.val) 1#32) (w 1) (w 2)) = w a := by
  fin_cases a <;> rfl

/-- The block's corners at a place, whose number is that of row `y`, column `x` of anchor `a`. -/
theorem corners_apply (n b a y x : ℕ) (ha : a < 3) (hy : y < n) (hx : x < n) (hn : n ≤ 80) (blk : Vec Ideal S1x1200x85 .f32) (w h : Fin 3 → EReal)
    (r : Fin 1200) (hq : b * 1200 + r.val = (a * n + y) * n + x) (k : Fin 4) :
    corners (BitVec.ofNat 32 (n * n)) (BitVec.ofNat 32 n) (BitVec.ofNat 32 b) blk w h (ix4 (0 : Fin 1) (0 : Fin 1) k r)
      = corner (fun k => blk (ix3 (0 : Fin 1) r k)) (w ⟨a, ha⟩) (h ⟨a, ha⟩) y x k := by
  have hnn : n * n ≤ 80 * 80 := Nat.mul_le_mul hn hn
  have hlt : y * n + x < n * n := by
    have : (y + 1) * n ≤ n * n := Nat.mul_le_mul_right n hy
    rw [Nat.add_mul] at this
    omega
  have hq' : b * 1200 + r.val = (y * n + x) + n * n * a := by rw [hq]; ring
  have hle : n * n * a ≤ 6400 * 2 := Nat.mul_le_mul hnn (by omega)
  have p0 := places_apply b r
  rw [hq'] at p0
  have e1 := quot_apply _ _ (n * n) (by omega) (by omega) (by omega) r p0
  have e2 := rest_apply _ _ (n * n) (by omega) (by omega) (by omega) r p0
  rw [Nat.add_mul_div_left _ _ (by omega), Nat.div_eq_of_lt hlt, Nat.zero_add] at e1
  rw [Nat.add_mul_mod_self_left, Nat.mod_eq_of_lt hlt] at e2
  have e3 := quot_apply _ _ n (by omega) (by omega) (by omega) r e2
  have e4 := rest_apply _ _ n (by omega) (by omega) (by omega) r e2
  have c : y * n + x = x + n * y := by ring
  rw [c, Nat.add_mul_div_left _ _ (by omega), Nat.div_eq_of_lt hx, Nat.zero_add] at e3
  rw [c, Nat.add_mul_mod_self_left, Nat.mod_eq_of_lt hx] at e4
  have pw := pick ⟨a, ha⟩ w
  have ph := pick ⟨a, ha⟩ h
  unfold corners
  generalize quot (places (BitVec.ofNat 32 b)) (BitVec.ofNat 32 (n * n)) = va at e1 ⊢
  generalize rest (places (BitVec.ofNat 32 b)) (BitVec.ofNat 32 (n * n)) = vp at e2 e3 e4 ⊢
  generalize quot vp (BitVec.ofNat 32 n) = vy at e3 ⊢
  generalize rest vp (BitVec.ofNat 32 n) = vx at e4 ⊢
  fin_cases k
  all_goals
    pointwise [k0_pay1, k0_pay12, k0_pay13, k0_pay14, k0_pay15, k0_pay9, k0_pay10, k0_pay11, k0_pay17, k0_pay2]
    simp only [e1, e3, e4, pw, ph]
    rfl

end Cert.Decode

end
-- ==== Proof.Decode.Result.lean ====
/- What a level's decoding is as whole arrays, and a word of the anchors' table read. -/
module

public import proofs.«01_k».proof.Proof.Decode.Body
public import Idealize.ShloMosaic.Lib.VecWindow

@[expose] public section

set_option maxRecDepth 16384

noncomputable section

namespace Cert.Decode

open Idealize.ShloMosaic Idealize.ShloMosaic.TcCoe

/-- A word loaded from the anchors' table is the entry at the load's offsets. -/
theorem word {sig : RefSig} (arg3 : Memref sig .tc .smem ⟨2, ![3, 2]⟩ .f32) (harg3 : arg3.IsWhole) (x1 : Vec Ideal ⟨2, ![3, 2]⟩ .f32) (off : Fin 2 → ℕ)
    (inb : ∀ a, off a + ![1, 1] a ≤ (⟨2, ![3, 2]⟩ : Shape).size a) (y) (i : (⟨2, ![3, 2]⟩ : Shape).Idx) (h : ∀ a, off a = (i a).val) :
    View.readAt (Elt Ideal) arg3.view (Rect.unit (s := ⟨2, ![3, 2]⟩) off ![1, 1] inb).toLoadRect (harg3.unread x1) y = x1 i := by
  rw [View.readAt_apply, harg3.read_unread]
  refine congrArg x1 (funext fun a => Fin.ext ?_)
  have h0 : (y a).val < 1 := by
    have := (y a).isLt
    match a with
    | ⟨0, _⟩ => exact this
    | ⟨1, _⟩ => exact this
  show off a + 1 * (y a).val = (i a).val
  have := h a
  omega

/-- An index into a block of scores is its last coordinate. -/
theorem score_idx (y : (⟨4, ![1, 1, 1, 1200]⟩ : Shape).Idx) : y = ix4 (0 : Fin 1) (0 : Fin 1) (0 : Fin 1) (y 3 : Fin 1200) := by
  have e (a : Fin 1) : a = 0 := Subsingleton.elim _ _
  refine (eq_ix4 y).trans ?_
  rw [e (y 0), e (y 1), e (y 2)]
  rfl

/-- An index into a block of corners is its last two coordinates. -/
theorem corner_idx (y : (⟨4, ![1, 1, 4, 1200]⟩ : Shape).Idx) : y = ix4 (0 : Fin 1) (0 : Fin 1) (y 2 : Fin 4) (y 3 : Fin 1200) := by
  have e (a : Fin 1) : a = 0 := Subsingleton.elim _ _
  refine (eq_ix4 y).trans ?_
  rw [e (y 0), e (y 1)]
  rfl

variable {P : ℕ} (n : ℕ) (X : FVec Ideal ⟨3, ![4, P, 85]⟩ .f32) (A : FVec Ideal ⟨2, ![3, 2]⟩ .f32)

/-- The 85 numbers of place `q` of image `j`. -/
def row (j : Fin 4) (q : Fin P) : Fin 85 → EReal := fun k => X (ix3 j q k)

/-- The anchor of place `q`. -/
def anchorOf (q : ℕ) : Fin 3 := ⟨q / (n * n) % 3, Nat.mod_lt _ (by decide)⟩

/-- A coordinate of the box of place `q` of image `j`. -/
def box (j : Fin 4) (k : Fin 4) (q : Fin P) : EReal :=
  corner (row X j q) (A (ix2 (anchorOf n q) 0)) (A (ix2 (anchorOf n q) 1)) (q.val / n % n) (q.val % n) k

/-- All scores. -/
def allScores : FVec Ideal ⟨2, ![4, P]⟩ .f32 := fun z => confidence (row X (z 0) (z 1))

/-- All boxes. -/
def allBoxes : FVec Ideal ⟨3, ![4, 4, P]⟩ .f32 := fun z => box n X A (z 0) (z 1) (z 2)

/-- The box of a place given by anchor, row and column. -/
theorem box_of (j : Fin 4) (k : Fin 4) (q : Fin P) (a : Fin 3) (y x : ℕ) (hy : y < n) (hx : x < n) (hq : q.val = (a.val * n + y) * n + x) :
    box n X A j k q = corner (row X j q) (A (ix2 a 0)) (A (ix2 a 1)) y x k := by
  have hn : 0 < n := by omega
  have e1 : q.val / n = y + n * a.val := by
    rw [hq, Nat.add_comm, Nat.mul_comm _ n, Nat.add_mul_div_left _ _ hn, Nat.div_eq_of_lt hx]; ring
  have e2 : q.val % n = x := by rw [hq, Nat.add_comm, Nat.mul_comm _ n, Nat.add_mul_mod_self_left, Nat.mod_eq_of_lt hx]
  have e3 : anchorOf n q.val = a := Fin.ext (by
    show q.val / (n * n) % 3 = a.val
    rw [← Nat.div_div_eq_div_mul, e1, Nat.add_mul_div_left _ _ hn, Nat.div_eq_of_lt hy, Nat.zero_add, Nat.mod_eq_of_lt a.isLt])
  unfold box
  rw [e1, e2, e3, Nat.add_mul_mod_self_left, Nat.mod_eq_of_lt hy]

/-- A place's number is given by its anchor, row and column. -/
theorem split (hP : P = 3 * n * n) (q : Fin P) : ∃ (a : Fin 3) (y x : Fin n) (h : (a.val * n + y.val) * n + x.val < P), q = ⟨(a.val * n + y.val) * n + x.val, h⟩ := by
  have hlt : q.val < 3 * n * n := hP ▸ q.isLt
  have hn0 : 0 < n := by
    rcases Nat.eq_zero_or_pos n with h | h
    · subst h; simp at hlt
    · exact h
  have h1 : q.val / n < 3 * n := Nat.div_lt_of_lt_mul (by rw [Nat.mul_comm]; exact hlt)
  have ha : q.val / n / n < 3 := Nat.div_lt_of_lt_mul (by rw [Nat.mul_comm]; exact h1)
  have d1 := Nat.div_add_mod' q.val n
  have d2 := Nat.div_add_mod' (q.val / n) n
  have e : q.val = (q.val / n / n * n + q.val / n % n) * n + q.val % n := by rw [d2, d1]
  exact ⟨⟨_, ha⟩, ⟨_, Nat.mod_lt _ hn0⟩, ⟨_, Nat.mod_lt _ hn0⟩, e ▸ q.isLt, Fin.ext e⟩

/-- Scores that are right at every anchor, row and column are all scores. -/
theorem scores_of (hP : P = 3 * n * n) (s : FVec Ideal ⟨2, ![4, P]⟩ .f32)
    (hs : ∀ (j : Fin 4) (a : Fin 3) (y x : Fin n) (h : (a.val * n + y.val) * n + x.val < P),
      s (ix2 j ⟨(a.val * n + y.val) * n + x.val, h⟩) = confidence (row X j ⟨(a.val * n + y.val) * n + x.val, h⟩)) : s = allScores X := by
  have e (j : Fin 4) (q : Fin P) : s (ix2 j q) = confidence (row X j q) := by
    obtain ⟨a, y, x, h, rfl⟩ := split n hP q
    exact hs j a y x h
  funext z
  rw [eq_ix2 z]
  exact e _ _

/-- Boxes that are right at every anchor, row and column are all boxes. -/
theorem boxes_of (hP : P = 3 * n * n) (s : FVec Ideal ⟨3, ![4, 4, P]⟩ .f32)
    (hs : ∀ (j k : Fin 4) (a : Fin 3) (y x : Fin n) (h : (a.val * n + y.val) * n + x.val < P),
      s (ix3 j k ⟨(a.val * n + y.val) * n + x.val, h⟩)
        = corner (row X j ⟨(a.val * n + y.val) * n + x.val, h⟩) (A (ix2 a 0)) (A (ix2 a 1)) y.val x.val k) : s = allBoxes n X A := by
  have e (j k : Fin 4) (q : Fin P) : s (ix3 j k q) = box n X A j k q := by
    obtain ⟨a, y, x, h, rfl⟩ := split n hP q
    rw [hs, box_of n X A j k _ a y.val x.val y.isLt x.isLt rfl]
  funext z
  rw [eq_ix3 z]
  exact e _ _ _

/-- The block of corners is the boxes of its places, from the block's rows and the table of anchors. -/
theorem corners_box (hn : n ≤ 80) (hP : P = 3 * n * n) (b : ℕ) (blk : Vec Ideal ⟨3, ![1, 1200, 85]⟩ .f32) (j : Fin 4) (q : Fin P) (r : Fin 1200)
    (hq : b * 1200 + r.val = q.val) (hb : ∀ k, blk (ix3 (0 : Fin 1) r k) = X (ix3 j q k)) (k : Fin 4) :
    corners (BitVec.ofNat 32 (n * n)) (BitVec.ofNat 32 n) (BitVec.ofNat 32 b) blk (fun a => A (ix2 a 0)) (fun a => A (ix2 a 1))
      (ix4 (0 : Fin 1) (0 : Fin 1) k r) = box n X A j k q := by
  obtain ⟨a, y, x, h, rfl⟩ := split n hP q
  rw [corners_apply n b a.val y.val x.val a.isLt y.isLt x.isLt hn _ _ _ r hq k, box_of n X A j k _ a y.val x.val y.isLt x.isLt rfl]
  unfold row
  simp only [hb]

/-- The block of scores is the places' confidences. -/
theorem score_row (blk : Vec Ideal ⟨3, ![1, 1200, 85]⟩ .f32) (j : Fin 4) (q : Fin P) (r : Fin 1200)
    (hb : ∀ k, blk (ix3 (0 : Fin 1) r k) = X (ix3 j q k)) : score blk (ix4 (0 : Fin 1) (0 : Fin 1) (0 : Fin 1) r) = confidence (row X j q) := by
  rw [score_apply]
  unfold row
  simp only [hb]

/-! ## The results as the call lays them out: 1200 places to a block, `B` blocks to an image -/

variable {B : ℕ} (hB : P = B * 1200)

theorem place_lt {P B : ℕ} (hB : P = B * 1200) (b : Fin B) (r : Fin 1200) : b.val * 1200 + r.val < P := by
  have := b.isLt
  omega

/-- The number of place `r` of block `b`. -/
def place {P B : ℕ} (hB : P = B * 1200) (b : Fin B) (r : Fin 1200) : Fin P := ⟨b.val * 1200 + r.val, place_lt hB b r⟩

theorem place_of {P B : ℕ} (hB : P = B * 1200) (q : Fin P) : ∃ (b : Fin B) (r : Fin 1200), q = place hB b r :=
  ⟨⟨q.val / 1200, by have := q.isLt; omega⟩, ⟨q.val % 1200, Nat.mod_lt _ (by decide)⟩, Fin.ext (by
    show q.val = q.val / 1200 * 1200 + q.val % 1200
    omega)⟩

/-- The scores block by block. -/
def scoreBlocks : FVec Ideal ⟨4, ![4, B, 1, 1200]⟩ .f32 := fun z => confidence (row X (z 0) (place hB (z 1) (z 3)))

/-- The boxes block by block. -/
def boxBlocks : FVec Ideal ⟨4, ![4, B, 4, 1200]⟩ .f32 := fun z => box n X A (z 0) (z 2) (place hB (z 1) (z 3))

section Point
/- A point of the grid, its image and its block, and the block of rows it reads. -/
variable (t b : ℕ) (blk : Vec Ideal ⟨3, ![1, 1200, 85]⟩ .f32)
  (hblk : ∀ (r : Fin 1200) (k : Fin 85) (j : Fin 4) (q : Fin P), j.val = t → q.val = b * 1200 + r.val → blk (ix3 (0 : Fin 1) r k) = X (ix3 j q k))

include hblk

theorem score_at (y : (⟨4, ![1, 1, 1, 1200]⟩ : Shape).Idx) (z : (⟨4, ![4, B, 1, 1200]⟩ : Shape).Idx) (h0 : (z 0).val = t) (h1 : (z 1).val = b)
    (h3 : (z 3).val = (y 3).val) : score blk y = scoreBlocks X hB z := by
  rw [score_idx y]
  exact score_row X _ _ _ _ fun k => hblk _ k _ _ h0 (by show (z 1).val * 1200 + (z 3).val = _; rw [h1, h3])

theorem box_at (hn : n ≤ 80) (hP : P = 3 * n * n) (y : (⟨4, ![1, 1, 4, 1200]⟩ : Shape).Idx) (z : (⟨4, ![4, B, 4, 1200]⟩ : Shape).Idx)
    (h0 : (z 0).val = t) (h1 : (z 1).val = b) (h2 : (z 2).val = (y 2).val) (h3 : (z 3).val = (y 3).val) :
    corners (BitVec.ofNat 32 (n * n)) (BitVec.ofNat 32 n) (BitVec.ofNat 32 b) blk (fun a => A (ix2 a 0)) (fun a => A (ix2 a 1)) y
      = boxBlocks n X A hB z := by
  have e2 : (z 2 : Fin 4) = y 2 := Fin.ext h2
  have hp : (place hB (z 1) (z 3)).val = b * 1200 + (y 3).val := by show (z 1).val * 1200 + (z 3).val = _; rw [h1, h3]
  rw [corner_idx y]
  unfold boxBlocks
  rw [e2]
  exact corners_box n X A hn hP _ _ _ _ _ hp.symm (fun k => hblk _ k _ _ h0 hp) _

end Point

/-- Scores laid out place after place are all scores. -/
theorem scores_laid (s : FVec Ideal ⟨2, ![4, P]⟩ .f32)
    (h : ∀ (j : Fin 4) (b : Fin B) (r : Fin 1200), s (ix2 j (place hB b r)) = scoreBlocks X hB (ix4 j b 0 r)) : s = allScores X := by
  have e (j : Fin 4) (q : Fin P) : s (ix2 j q) = confidence (row X j q) := by
    obtain ⟨b, r, rfl⟩ := place_of hB q
    exact h j b r
  funext z
  rw [eq_ix2 z]
  exact e _ _

/-- Boxes laid out place after place are all boxes. -/
theorem boxes_laid (s : FVec Ideal ⟨3, ![4, 4, P]⟩ .f32)
    (h : ∀ (j k : Fin 4) (b : Fin B) (r : Fin 1200), s (ix3 j k (place hB b r)) = boxBlocks n X A hB (ix4 j b k r)) : s = allBoxes n X A := by
  have e (j k : Fin 4) (q : Fin P) : s (ix3 j k q) = box n X A j k q := by
    obtain ⟨b, r, rfl⟩ := place_of hB q
    exact h j k b r
  funext z
  rw [eq_ix3 z]
  exact e _ _ _

end Cert.Decode

end
-- ==== Proof.Decode.Level0.lean ====
/- The decoding call of the first level: what its two results are. -/
module

public import proofs.«01_k».proof.Proof.Gen.Kernel2Ideal.Frame
public import proofs.«01_k».proof.Proof.Decode.Result
public import Idealize.ShloMosaic.Lib.Pipeline.ValueKit.Geometry
public import Idealize.ShloMosaic.Lib.StableHlo.RunClose

@[expose] public section

set_option maxRecDepth 16384

noncomputable section

namespace Cert.Kernel2Ideal.Decode

open Idealize.ShloMosaic Idealize.ShloMosaic.TcCoe Idealize.ShloMosaic.Tactic
open Idealize.SL Idealize.SL.Sem
open Cert.Kernel2Ideal Cert.Kernel2Ideal.Gen Cert.Decode

/-! ## What the body leaves -/

section Body
variable (c : Dev nD) (i : grid0.Coords) (arg2 : Memref sig .tc .vmem S1x1200x85 .f32) (harg2 : arg2.IsWhole) (arg3 : Memref sig .tc .smem S3x2 .f32)
  (harg3 : arg3.IsWhole) (arg4 : Memref sig .tc .vmem S1x1x1x1200 .f32) (harg4 : arg4.IsWhole) (arg5 : Memref sig .tc .vmem S1x1x4x1200 .f32)
  (harg5 : arg5.IsWhole) (x0 : Vec Ideal S1x1200x85 .f32) (x1 : Vec Ideal S3x2 .f32)

theorem block_read : kernelRun0_A.sl.r c arg2 harg2 x0 = k0_pay2 x0 := by
  unfold kernelRun0_A.sl.r
  rw [View.readAt_full, harg2.read_unread]

theorem out_score : out0_A_2 c i arg2 harg2 arg3 harg3 arg4 harg4 arg5 harg5 x0 x1 = score x0 := by
  unfold out0_A_2
  dsimp only [kernelRun0_A]
  rw [View.read_writes_full, block_read]
  rfl

theorem words : (kernelRun0_A.sl.r_1 c arg3 harg3 x1 = x1 (ix2 0 0) ∧ kernelRun0_A.sl.r_2 c arg3 harg3 x1 = x1 (ix2 1 0)
      ∧ kernelRun0_A.sl.r_3 c arg3 harg3 x1 = x1 (ix2 2 0)) ∧ kernelRun0_A.sl.r_4 c arg3 harg3 x1 = x1 (ix2 0 1)
      ∧ kernelRun0_A.sl.r_10 c arg3 harg3 x1 = x1 (ix2 1 1) ∧ kernelRun0_A.sl.r_11 c arg3 harg3 x1 = x1 (ix2 2 1) := by
  have p (i : S3x2.Idx) (off : Fin 2 → ℕ) (h0 : off 0 = (i 0).val) (h1 : off 1 = (i 1).val) : ∀ a : Fin 2, off a = (i a).val :=
    Fin.forall_fin_two.mpr ⟨h0, h1⟩
  exact ⟨⟨word arg3 harg3 x1 _ _ _ _ (p _ _ rfl rfl), word arg3 harg3 x1 _ _ _ _ (p _ _ rfl rfl), word arg3 harg3 x1 _ _ _ _ (p _ _ rfl rfl)⟩,
    word arg3 harg3 x1 _ _ _ _ (p _ _ rfl rfl), word arg3 harg3 x1 _ _ _ _ (p _ _ rfl rfl), word arg3 harg3 x1 _ _ _ _ (p _ _ rfl rfl)⟩

theorem out_corners : out0_A_3 c i arg2 harg2 arg3 harg3 arg4 harg4 arg5 harg5 x0 x1
    = corners (BitVec.ofNat 32 (80 * 80)) (BitVec.ofNat 32 80) (BitVec.ofNat 32 (i 1).val) x0 (fun a => x1 (ix2 a 0)) (fun a => x1 (ix2 a 1)) := by
  obtain ⟨⟨w1, w2, w3⟩, w4, w5, w6⟩ := words c arg3 harg3 x1
  unfold out0_A_3
  dsimp only [kernelRun0_A]
  rw [View.read_writes_full]
  unfold kernelRun0_A.sl.r_12 kernelRun0_A.sl.r_13 kernelRun0_A.sl.r_14 kernelRun0_A.sl.r_15 kernelRun0_A.sl.r_7
  rw [block_read, w1, w2, w3, w4, w5, w6]
  rfl

end Body

/-! ## The arrays the call reads and leaves -/

/-- The predictions, one row for each place. -/
def rows (x : FVec Ideal S4x3x80x80x85 .f32) : FVec Ideal S4x19200x85 .f32 := shapeCast S4x19200x85 x shapeCasts_S4x3x80x80x85_S4x19200x85

/-- The level's anchors. -/
def table (a : FVec Ideal S3x3x2 .f32) : FVec Ideal S3x2 .f32 :=
  shapeCast S3x2 (extractStridedSlice S1x3x2 ![0, 0, 0] a slices_S3x3x2_S1x3x2_0_0_0) shapeCasts_S1x3x2_S3x2

variable (m : (ℓ : Loc nD τ sig) → Buf (Elt Ideal) ℓ) (c : Dev nD)

abbrev predictions := rows (m ((c : Thread nD τ).loc main_arg0))
abbrev anchors := table (m ((c : Thread nD τ).loc main_arg1))

theorem host_rows (W : Valuation τ sig (Elt Ideal)) : StableHlo.after hostOps0 W main_v2 = rows (W main_arg0) := by after_results_simp; rfl
theorem host_table (W : Valuation τ sig (Elt Ideal)) : StableHlo.after hostOps0 W main_v1 = table (W main_arg1) := by after_results_simp; rfl

theorem at_rows : V m c main_v2 = predictions m c := host_rows _
theorem at_table : V m c main_v1 = anchors m c := host_table _

theorem covers : (cfg0.win 2).Covers ∧ (cfg0.win 3).Covers := by decide +kernel

/-- Which block each window has at a point. -/
theorem blocks : ∀ t : Fin grid0.N, win0_0.index t = ![t.val / 16, t.val % 16, 0] ∧ win0_1.index t = ![0, 0]
    ∧ win0_2.index t = ![t.val / 16, t.val % 16, 0, 0] ∧ win0_3.index t = ![t.val / 16, t.val % 16, 0, 0]
    ∧ (grid0.coords t 1).val = t.val % 16 := by decide +kernel

theorem block_rows (t : Fin cfg0.N) (r : Fin 1200) (k : Fin 85) (j : Fin 4) (q : Fin 19200) (hj : j.val = t.val / 16) (hq : q.val = t.val % 16 * 1200 + r.val) :
    (iblk m c 0 t : Vec Ideal S1x1200x85 .f32) (ix3 (0 : Fin 1) r k) = predictions m c (ix3 j q k) := by
  rw [← at_rows]
  unfold iblk
  have e := (blocks t).1
  blk_simp
  refine congrArg (V m c main_v2) (funext fun a => Fin.ext ?_)
  match a with
  | ⟨0, _⟩ => blk_simp [e]; omega
  | ⟨1, _⟩ => blk_simp [e]; omega
  | ⟨2, _⟩ => blk_simp [e]

theorem block_table (t : Fin cfg0.N) : (iblk m c 1 t : Vec Ideal S3x2 .f32) = anchors m c := by
  rw [← at_table]
  unfold iblk
  have e := (blocks t).2.1
  funext x
  blk_simp
  refine congrArg (V m c main_v1) (funext fun a => Fin.ext ?_)
  match a with
  | ⟨0, _⟩ => blk_simp [e]
  | ⟨1, _⟩ => blk_simp [e]

/-- What the call leaves: the scores block by block, and the boxes. -/
abbrev leftScores : FVec Ideal S4x16x1x1200 .f32 := scoreBlocks (B := 16) (predictions m c) rfl
abbrev leftBoxes : FVec Ideal S4x16x4x1200 .f32 := boxBlocks (B := 16) 80 (predictions m c) (anchors m c) rfl

theorem final_scores : (dats m 0 c).arrAt 2 cfg0.N = leftScores m c := by
  refine (dats m 0 c).arrAt_eq_of_covers 2 _ covers.1 fun t hf y => ?_
  have e := (blocks t).2.2.1
  rw [after0_2]
  unfold outsAt0
  dsimp only
  rw [out_score]
  have y0 : (y 0).val < 1 := (y 0).isLt
  have y1 : (y 1).val < 1 := (y 1).isLt
  exact score_at (predictions m c) rfl _ _ _ (block_rows m c t) y _ (by blk_simp [e]) (by blk_simp [e]) (by blk_simp [e])

theorem final_boxes : (dats m 0 c).arrAt 3 cfg0.N = leftBoxes m c := by
  refine (dats m 0 c).arrAt_eq_of_covers 3 _ covers.2 fun t hf y => ?_
  have e := (blocks t).2.2.2.1
  rw [after0_3]
  unfold outsAt0
  dsimp only
  rw [out_corners, block_table, (blocks t).2.2.2.2]
  have y0 : (y 0).val < 1 := (y 0).isLt
  have y1 : (y 1).val < 1 := (y 1).isLt
  exact box_at 80 (predictions m c) (anchors m c) rfl _ _ _ (block_rows m c t) (by decide) rfl y _ (by blk_simp [e]) (by blk_simp [e]) (by blk_simp [e]) (by blk_simp [e])

/-! ## The results -/

theorem host_scores (W : Valuation τ sig (Elt Ideal)) : StableHlo.after hostOps1 W main_v4
    = shapeCast S4x19200 (W main_v3_0 : FVec Ideal S4x16x1x1200 .f32) shapeCasts_S4x16x1x1200_S4x19200 := by after_results_simp; rfl
theorem host_boxes (W : Valuation τ sig (Elt Ideal)) : StableHlo.after hostOps1 W main_v6
    = shapeCast S4x4x19200 (transpose S4x4x16x1200 [0, 2, 1, 3] (W main_v3_1 : FVec Ideal S4x16x4x1200 .f32) transposes_S4x16x4x1200_S4x4x16x1200_0_2_1_3)
      shapeCasts_S4x4x16x1200_S4x4x19200 := by after_results_simp; rfl

theorem lay_scores (s : FVec Ideal S4x16x1x1200 .f32) (j : Fin 4) (b : Fin 16) (r : Fin 1200) (h : b.val * 1200 + r.val < 19200) :
    shapeCast S4x19200 s shapeCasts_S4x16x1x1200_S4x19200 (ix2 j ⟨b.val * 1200 + r.val, h⟩) = s (ix4 j b 0 r) := by
  pointwise []

theorem lay_boxes (s : FVec Ideal S4x16x4x1200 .f32) (j k : Fin 4) (b : Fin 16) (r : Fin 1200) (h : b.val * 1200 + r.val < 19200) :
    shapeCast S4x4x19200 (transpose S4x4x16x1200 [0, 2, 1, 3] s transposes_S4x16x4x1200_S4x4x16x1200_0_2_1_3) shapeCasts_S4x4x16x1200_S4x4x19200
      (ix3 j k ⟨b.val * 1200 + r.val, h⟩) = s (ix4 j b k r) := by
  pointwise []

theorem scores_eq : shapeCast S4x19200 (leftScores m c) shapeCasts_S4x16x1x1200_S4x19200 = allScores (predictions m c) :=
  scores_laid _ rfl _ fun _ _ _ => lay_scores _ _ _ _ _

theorem boxes_eq : shapeCast S4x4x19200 (transpose S4x4x16x1200 [0, 2, 1, 3] (leftBoxes m c) transposes_S4x16x4x1200_S4x4x16x1200_0_2_1_3)
    shapeCasts_S4x4x16x1200_S4x4x19200 = allBoxes 80 (predictions m c) (anchors m c) :=
  boxes_laid 80 _ _ rfl _ fun _ _ _ _ => lay_boxes _ _ _ _ _ _

theorem tail_scores : Pipeline.afterTail₀ cfgs (dats m) 0 (V0 m) [hostOps1] c main_v4 = allScores (predictions m c) := by
  have h := Pipeline.withArrays_arr spec0 (by decide) c (V0 m c) (fun w => (dats m 0 c).arrAt w (cfgs 0).N) 2
  refine (host_scores _).trans ?_
  rw [← scores_eq, ← final_scores]
  exact congrArg (fun v => shapeCast S4x19200 v shapeCasts_S4x16x1x1200_S4x19200) h

theorem tail_boxes : Pipeline.afterTail₀ cfgs (dats m) 0 (V0 m) [hostOps1] c main_v6 = allBoxes 80 (predictions m c) (anchors m c) := by
  have h := Pipeline.withArrays_arr spec0 (by decide) c (V0 m c) (fun w => (dats m 0 c).arrAt w (cfgs 0).N) 3
  refine (host_boxes _).trans ?_
  rw [← boxes_eq, ← final_boxes]
  exact congrArg (fun v => shapeCast S4x4x19200 (transpose S4x4x16x1200 [0, 2, 1, 3] v transposes_S4x16x4x1200_S4x4x16x1200_0_2_1_3)
    shapeCasts_S4x4x16x1200_S4x4x19200) h

/-- The call's program ends with the scores and the boxes of all places, its arguments as launched. -/
theorem ends (ρ : Dev nD → PrngReg) : θ_run defs (onTc (τ := τ) (main (F := Ideal))) ⟨m, fun _ => 0, ρ⟩ (fun r => ∀ c : Dev nD,
    r.2.mem ((c.tc : Thread nD τ).loc main_v4) = allScores (predictions m c)
    ∧ r.2.mem ((c.tc : Thread nD τ).loc main_v6) = allBoxes 80 (predictions m c) (anchors m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).2 main_v4 (Pipeline.mem_restRefs_of main_v4 (by decide) (by decide))).trans (tail_scores m c),
      ((h c).2 main_v6 (Pipeline.mem_restRefs_of main_v6 (by decide) (by decide))).trans (tail_boxes m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.Kernel2Ideal.Decode

end
-- ==== Proof.Decode.Agree0.lean ====
/- The decoding of the first level: the reference's two results read place by place, and that call and reference agree. -/
module

public import proofs.«01_k».proof.Defs
public import proofs.«01_k».proof.Proof.Gen.Reference2Ideal.Run
public import proofs.«01_k».proof.Proof.Decode.Level0

@[expose] public section

set_option maxRecDepth 16384

noncomputable section

namespace Cert.Reference2Ideal.Decode

open Idealize.ShloMosaic Idealize.ShloMosaic.TcCoe Idealize.ShloMosaic.Tactic Idealize.SL.Sem
open Cert.Reference2Ideal Cert.Reference2Ideal.Value Cert.Decode

variable (x : FVec Ideal S4x3x80x80x85 .f32) (t : FVec Ideal S3x3x2 .f32)

/-- A row of the predictions: the numbers at anchor `a`, row `y`, column `u`. -/
theorem row_place (j : Fin 4) (a : Fin 3) (y u : Fin 80) (h : (a.val * 80 + y.val) * 80 + u.val < 19200) :
    row (Cert.Kernel2Ideal.Decode.rows x) j ⟨(a.val * 80 + y.val) * 80 + u.val, h⟩ = fun k => x (ix5 j a y u k) := by
  funext k
  unfold row Cert.Kernel2Ideal.Decode.rows
  pointwise []

theorem table_apply (a : Fin 3) (k : Fin 2) : Cert.Kernel2Ideal.Decode.table t (ix2 a k) = t (ix3 0 a k) := by
  unfold Cert.Kernel2Ideal.Decode.table
  pointwise []

variable (m : (ℓ : Loc nD τ sig) → Buf (Elt Ideal) ℓ) (c : Dev nD)

theorem corners_apply (j : Fin 4) (k : Fin 4) (a : Fin 3) (y u : Fin 80) (h : (a.val * 80 + y.val) * 80 + u.val < 19200) :
    (res_main_v67 m c : FVec Ideal S4x4x19200 .f32) (ix3 j k ⟨(a.val * 80 + y.val) * 80 + u.val, h⟩)
      = corner (fun i => (m ((c.tc : Thread nD τ).loc main_arg0) : FVec Ideal S4x3x80x80x85 .f32) (ix5 j a y u i))
        ((m ((c.tc : Thread nD τ).loc main_arg1) : FVec Ideal S3x3x2 .f32) (ix3 0 a 0))
        ((m ((c.tc : Thread nD τ).loc main_arg1) : FVec Ideal S3x3x2 .f32) (ix3 0 a 1)) y.val u.val k := by
  unfold res_main_v67
  fin_cases k
  · pointwise [fn_main_v14]
    rfl
  · pointwise [fn_main_v14]
    rfl
  · pointwise [fn_main_v14]
    rfl
  · pointwise [fn_main_v14]
    rfl

/-- The reference's scores, from its predictions. -/
def scoresOf : FVec Ideal S4x19200 .f32 := shapeCast S4x19200 (mulf (shapeCast S4x3x80x80 (extractStridedSlice S4x3x80x80x1 ![0, 0, 0, 0, 4] (Host.divf (broadcastInDim S4x3x80x80x85 ![] Gen.bcast_S_S4x3x80x80x85 (constant S_ .f32 0x3F800000#32)) (addf (broadcastInDim S4x3x80x80x85 ![] Gen.bcast_S_S4x3x80x80x85 (constant S_ .f32 0x3F800000#32)) (Host.exp (Host.negf x)))) Gen.slices_S4x3x80x80x85_S4x3x80x80x1_0_0_0_0_4) Gen.shapeCasts_S4x3x80x80x1_S4x3x80x80) (Host.reduce FloatOps.maximumf (extractStridedSlice S4x3x80x80x80 ![0, 0, 0, 0, 5] (Host.divf (broadcastInDim S4x3x80x80x85 ![] Gen.bcast_S_S4x3x80x80x85 (constant S_ .f32 0x3F800000#32)) (addf (broadcastInDim S4x3x80x80x85 ![] Gen.bcast_S_S4x3x80x80x85 (constant S_ .f32 0x3F800000#32)) (Host.exp (Host.negf x)))) Gen.slices_S4x3x80x80x85_S4x3x80x80x80_0_0_0_0_5) (constant S_ .f32 0xFF800000#32) Gen.reducesTo_S4x3x80x80x80_S4x3x80x80_d4 Gen.h_S_)) Gen.shapeCasts_S4x3x80x80_S4x19200

theorem scores_apply (j : Fin 4) (a : Fin 3) (y u : Fin 80) (h : (a.val * 80 + y.val) * 80 + u.val < 19200) :
    scoresOf x (ix2 j ⟨(a.val * 80 + y.val) * 80 + u.val, h⟩) = confidence fun k => x (ix5 j a y u k) := by
  unfold scoresOf confidence classMax
  rw [← max_logistic, ← bottom]
  pointwise []
  rfl

theorem scores : scoresOf x = allScores (Cert.Kernel2Ideal.Decode.rows x) :=
  scores_of 80 _ rfl _ fun j a y u h => by rw [scores_apply, row_place]

theorem boxes : res_main_v67 m c = allBoxes 80 (Cert.Kernel2Ideal.Decode.rows (m ((c.tc : Thread nD τ).loc main_arg0)))
    (Cert.Kernel2Ideal.Decode.table (m ((c.tc : Thread nD τ).loc main_arg1))) :=
  boxes_of 80 _ _ rfl _ fun j k a y u h => by rw [row_place, table_apply, table_apply]; exact corners_apply m c j k a y u h

/-- The reference's program ends with the scores and the boxes of all places, its arguments as launched. -/
theorem ends (ρ : Dev nD → PrngReg) : θ_run defs (onTc (τ := τ) (main (F := Ideal))) ⟨m, fun _ => 0, ρ⟩ (fun r => ∀ c : Dev nD,
    r.2.mem ((c.tc : Thread nD τ).loc main_v66) = allScores (Cert.Kernel2Ideal.Decode.rows (m ((c.tc : Thread nD τ).loc main_arg0)))
    ∧ r.2.mem ((c.tc : Thread nD τ).loc main_v67) = allBoxes 80 (Cert.Kernel2Ideal.Decode.rows (m ((c.tc : Thread nD τ).loc main_arg0)))
        (Cert.Kernel2Ideal.Decode.table (m ((c.tc : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c).1.trans (scores _), (h c).2.1.trans (boxes m c), (h c).2.2⟩) (run (F := Ideal) m ρ)

end Cert.Reference2Ideal.Decode

namespace Cert.Proof

open Idealize.ShloMosaic Idealize.SL.Sem

theorem frame2 : Cert.quiescent_Reference2Ideal (hReference2Ideal := Cert.Reference2Ideal.Gen.facts) := fun m g _ =>
  (θ_run _ _ _).mono (fun _ h => ⟨fun c => (h c).2.2, sem_eq_zero_of_no_sems (by decide) _⟩) (Cert.Reference2Ideal.Decode.ends m g)

/-- The first level's decoding call leaves the reference's scores and boxes. -/
theorem agree2 : Cert.algebraic_Kernel2Ideal_Reference2Ideal (hKernel2Ideal := Cert.Kernel2Ideal.Gen.facts)
    (hReference2Ideal := Cert.Reference2Ideal.Gen.facts) := fun m g m' g' _ hag =>
  ⟨_, _, Cert.Kernel2Ideal.Decode.ends m g, (θ_run _ _ _).mono (fun _ h c => by
    have := h c
    rw [(hag c).1, (hag c).2] at this
    rw [(hag c).1, (hag c).2]
    exact this) (Cert.Reference2Ideal.Decode.ends m' g')⟩

end Cert.Proof

end
-- ==== Proof.Decode.Level1.lean ====
/- The decoding call of the second level: what its two results are. -/
module

public import proofs.«01_k».proof.Proof.Gen.Kernel3Ideal.Frame
public import proofs.«01_k».proof.Proof.Decode.Result
public import Idealize.ShloMosaic.Lib.Pipeline.ValueKit.Geometry
public import Idealize.ShloMosaic.Lib.StableHlo.RunClose

@[expose] public section

set_option maxRecDepth 16384

noncomputable section

namespace Cert.Kernel3Ideal.Decode

open Idealize.ShloMosaic Idealize.ShloMosaic.TcCoe Idealize.ShloMosaic.Tactic
open Idealize.SL Idealize.SL.Sem
open Cert.Kernel3Ideal Cert.Kernel3Ideal.Gen Cert.Decode

/-! ## What the body leaves -/

section Body
variable (c : Dev nD) (i : grid0.Coords) (arg2 : Memref sig .tc .vmem S1x1200x85 .f32) (harg2 : arg2.IsWhole) (arg3 : Memref sig .tc .smem S3x2 .f32)
  (harg3 : arg3.IsWhole) (arg4 : Memref sig .tc .vmem S1x1x1x1200 .f32) (harg4 : arg4.IsWhole) (arg5 : Memref sig .tc .vmem S1x1x4x1200 .f32)
  (harg5 : arg5.IsWhole) (x0 : Vec Ideal S1x1200x85 .f32) (x1 : Vec Ideal S3x2 .f32)

theorem block_read : kernelRun0_A.sl.r c arg2 harg2 x0 = k0_pay2 x0 := by
  unfold kernelRun0_A.sl.r
  rw [View.readAt_full, harg2.read_unread]

theorem out_score : out0_A_2 c i arg2 harg2 arg3 harg3 arg4 harg4 arg5 harg5 x0 x1 = score x0 := by
  unfold out0_A_2
  dsimp only [kernelRun0_A]
  rw [View.read_writes_full, block_read]
  rfl

theorem words : (kernelRun0_A.sl.r_1 c arg3 harg3 x1 = x1 (ix2 0 0) ∧ kernelRun0_A.sl.r_2 c arg3 harg3 x1 = x1 (ix2 1 0)
      ∧ kernelRun0_A.sl.r_3 c arg3 harg3 x1 = x1 (ix2 2 0)) ∧ kernelRun0_A.sl.r_4 c arg3 harg3 x1 = x1 (ix2 0 1)
      ∧ kernelRun0_A.sl.r_10 c arg3 harg3 x1 = x1 (ix2 1 1) ∧ kernelRun0_A.sl.r_11 c arg3 harg3 x1 = x1 (ix2 2 1) := by
  have p (i : S3x2.Idx) (off : Fin 2 → ℕ) (h0 : off 0 = (i 0).val) (h1 : off 1 = (i 1).val) : ∀ a : Fin 2, off a = (i a).val :=
    Fin.forall_fin_two.mpr ⟨h0, h1⟩
  exact ⟨⟨word arg3 harg3 x1 _ _ _ _ (p _ _ rfl rfl), word arg3 harg3 x1 _ _ _ _ (p _ _ rfl rfl), word arg3 harg3 x1 _ _ _ _ (p _ _ rfl rfl)⟩,
    word arg3 harg3 x1 _ _ _ _ (p _ _ rfl rfl), word arg3 harg3 x1 _ _ _ _ (p _ _ rfl rfl), word arg3 harg3 x1 _ _ _ _ (p _ _ rfl rfl)⟩

theorem out_corners : out0_A_3 c i arg2 harg2 arg3 harg3 arg4 harg4 arg5 harg5 x0 x1
    = corners (BitVec.ofNat 32 (40 * 40)) (BitVec.ofNat 32 40) (BitVec.ofNat 32 (i 1).val) x0 (fun a => x1 (ix2 a 0)) (fun a => x1 (ix2 a 1)) := by
  obtain ⟨⟨w1, w2, w3⟩, w4, w5, w6⟩ := words c arg3 harg3 x1
  unfold out0_A_3
  dsimp only [kernelRun0_A]
  rw [View.read_writes_full]
  unfold kernelRun0_A.sl.r_12 kernelRun0_A.sl.r_13 kernelRun0_A.sl.r_14 kernelRun0_A.sl.r_15 kernelRun0_A.sl.r_7
  rw [block_read, w1, w2, w3, w4, w5, w6]
  rfl

end Body

/-! ## The arrays the call reads and leaves -/

/-- The predictions, one row for each place. -/
def rows (x : FVec Ideal S4x3x40x40x85 .f32) : FVec Ideal S4x4800x85 .f32 := shapeCast S4x4800x85 x shapeCasts_S4x3x40x40x85_S4x4800x85

/-- The level's anchors. -/
def table (a : FVec Ideal S3x3x2 .f32) : FVec Ideal S3x2 .f32 :=
  shapeCast S3x2 (extractStridedSlice S1x3x2 ![1, 0, 0] a slices_S3x3x2_S1x3x2_1_0_0) shapeCasts_S1x3x2_S3x2

variable (m : (ℓ : Loc nD τ sig) → Buf (Elt Ideal) ℓ) (c : Dev nD)

abbrev predictions := rows (m ((c : Thread nD τ).loc main_arg0))
abbrev anchors := table (m ((c : Thread nD τ).loc main_arg1))

theorem host_rows (W : Valuation τ sig (Elt Ideal)) : StableHlo.after hostOps0 W main_v2 = rows (W main_arg0) := by after_results_simp; rfl
theorem host_table (W : Valuation τ sig (Elt Ideal)) : StableHlo.after hostOps0 W main_v1 = table (W main_arg1) := by after_results_simp; rfl

theorem at_rows : V m c main_v2 = predictions m c := host_rows _
theorem at_table : V m c main_v1 = anchors m c := host_table _

theorem covers : (cfg0.win 2).Covers ∧ (cfg0.win 3).Covers := by decide +kernel

/-- Which block each window has at a point. -/
theorem blocks : ∀ t : Fin grid0.N, win0_0.index t = ![t.val / 4, t.val % 4, 0] ∧ win0_1.index t = ![0, 0]
    ∧ win0_2.index t = ![t.val / 4, t.val % 4, 0, 0] ∧ win0_3.index t = ![t.val / 4, t.val % 4, 0, 0]
    ∧ (grid0.coords t 1).val = t.val % 4 := by decide +kernel

theorem block_rows (t : Fin cfg0.N) (r : Fin 1200) (k : Fin 85) (j : Fin 4) (q : Fin 4800) (hj : j.val = t.val / 4) (hq : q.val = t.val % 4 * 1200 + r.val) :
    (iblk m c 0 t : Vec Ideal S1x1200x85 .f32) (ix3 (0 : Fin 1) r k) = predictions m c (ix3 j q k) := by
  rw [← at_rows]
  unfold iblk
  have e := (blocks t).1
  blk_simp
  refine congrArg (V m c main_v2) (funext fun a => Fin.ext ?_)
  match a with
  | ⟨0, _⟩ => blk_simp [e]; omega
  | ⟨1, _⟩ => blk_simp [e]; omega
  | ⟨2, _⟩ => blk_simp [e]

theorem block_table (t : Fin cfg0.N) : (iblk m c 1 t : Vec Ideal S3x2 .f32) = anchors m c := by
  rw [← at_table]
  unfold iblk
  have e := (blocks t).2.1
  funext x
  blk_simp
  refine congrArg (V m c main_v1) (funext fun a => Fin.ext ?_)
  match a with
  | ⟨0, _⟩ => blk_simp [e]
  | ⟨1, _⟩ => blk_simp [e]

/-- What the call leaves: the scores block by block, and the boxes. -/
abbrev leftScores : FVec Ideal S4x4x1x1200 .f32 := scoreBlocks (B := 4) (predictions m c) rfl
abbrev leftBoxes : FVec Ideal S4x4x4x1200 .f32 := boxBlocks (B := 4) 40 (predictions m c) (anchors m c) rfl

theorem final_scores : (dats m 0 c).arrAt 2 cfg0.N = leftScores m c := by
  refine (dats m 0 c).arrAt_eq_of_covers 2 _ covers.1 fun t hf y => ?_
  have e := (blocks t).2.2.1
  rw [after0_2]
  unfold outsAt0
  dsimp only
  rw [out_score]
  have y0 : (y 0).val < 1 := (y 0).isLt
  have y1 : (y 1).val < 1 := (y 1).isLt
  exact score_at (predictions m c) rfl _ _ _ (block_rows m c t) y _ (by blk_simp [e]) (by blk_simp [e]) (by blk_simp [e])

theorem final_boxes : (dats m 0 c).arrAt 3 cfg0.N = leftBoxes m c := by
  refine (dats m 0 c).arrAt_eq_of_covers 3 _ covers.2 fun t hf y => ?_
  have e := (blocks t).2.2.2.1
  rw [after0_3]
  unfold outsAt0
  dsimp only
  rw [out_corners, block_table, (blocks t).2.2.2.2]
  have y0 : (y 0).val < 1 := (y 0).isLt
  have y1 : (y 1).val < 1 := (y 1).isLt
  exact box_at 40 (predictions m c) (anchors m c) rfl _ _ _ (block_rows m c t) (by decide) rfl y _ (by blk_simp [e]) (by blk_simp [e]) (by blk_simp [e]) (by blk_simp [e])

/-! ## The results -/

theorem host_scores (W : Valuation τ sig (Elt Ideal)) : StableHlo.after hostOps1 W main_v4
    = shapeCast S4x4800 (W main_v3_0 : FVec Ideal S4x4x1x1200 .f32) shapeCasts_S4x4x1x1200_S4x4800 := by after_results_simp; rfl
theorem host_boxes (W : Valuation τ sig (Elt Ideal)) : StableHlo.after hostOps1 W main_v6
    = shapeCast S4x4x4800 (transpose S4x4x4x1200 [0, 2, 1, 3] (W main_v3_1 : FVec Ideal S4x4x4x1200 .f32) transposes_S4x4x4x1200_S4x4x4x1200_0_2_1_3)
      shapeCasts_S4x4x4x1200_S4x4x4800 := by after_results_simp; rfl

theorem lay_scores (s : FVec Ideal S4x4x1x1200 .f32) (j : Fin 4) (b : Fin 4) (r : Fin 1200) (h : b.val * 1200 + r.val < 4800) :
    shapeCast S4x4800 s shapeCasts_S4x4x1x1200_S4x4800 (ix2 j ⟨b.val * 1200 + r.val, h⟩) = s (ix4 j b 0 r) := by
  pointwise []

theorem lay_boxes (s : FVec Ideal S4x4x4x1200 .f32) (j k : Fin 4) (b : Fin 4) (r : Fin 1200) (h : b.val * 1200 + r.val < 4800) :
    shapeCast S4x4x4800 (transpose S4x4x4x1200 [0, 2, 1, 3] s transposes_S4x4x4x1200_S4x4x4x1200_0_2_1_3) shapeCasts_S4x4x4x1200_S4x4x4800
      (ix3 j k ⟨b.val * 1200 + r.val, h⟩) = s (ix4 j b k r) := by
  pointwise []

theorem scores_eq : shapeCast S4x4800 (leftScores m c) shapeCasts_S4x4x1x1200_S4x4800 = allScores (predictions m c) :=
  scores_laid _ rfl _ fun _ _ _ => lay_scores _ _ _ _ _

theorem boxes_eq : shapeCast S4x4x4800 (transpose S4x4x4x1200 [0, 2, 1, 3] (leftBoxes m c) transposes_S4x4x4x1200_S4x4x4x1200_0_2_1_3)
    shapeCasts_S4x4x4x1200_S4x4x4800 = allBoxes 40 (predictions m c) (anchors m c) :=
  boxes_laid 40 _ _ rfl _ fun _ _ _ _ => lay_boxes _ _ _ _ _ _

theorem tail_scores : Pipeline.afterTail₀ cfgs (dats m) 0 (V0 m) [hostOps1] c main_v4 = allScores (predictions m c) := by
  have h := Pipeline.withArrays_arr spec0 (by decide) c (V0 m c) (fun w => (dats m 0 c).arrAt w (cfgs 0).N) 2
  refine (host_scores _).trans ?_
  rw [← scores_eq, ← final_scores]
  exact congrArg (fun v => shapeCast S4x4800 v shapeCasts_S4x4x1x1200_S4x4800) h

theorem tail_boxes : Pipeline.afterTail₀ cfgs (dats m) 0 (V0 m) [hostOps1] c main_v6 = allBoxes 40 (predictions m c) (anchors m c) := by
  have h := Pipeline.withArrays_arr spec0 (by decide) c (V0 m c) (fun w => (dats m 0 c).arrAt w (cfgs 0).N) 3
  refine (host_boxes _).trans ?_
  rw [← boxes_eq, ← final_boxes]
  exact congrArg (fun v => shapeCast S4x4x4800 (transpose S4x4x4x1200 [0, 2, 1, 3] v transposes_S4x4x4x1200_S4x4x4x1200_0_2_1_3)
    shapeCasts_S4x4x4x1200_S4x4x4800) h

/-- The call's program ends with the scores and the boxes of all places, its arguments as launched. -/
theorem ends (ρ : Dev nD → PrngReg) : θ_run defs (onTc (τ := τ) (main (F := Ideal))) ⟨m, fun _ => 0, ρ⟩ (fun r => ∀ c : Dev nD,
    r.2.mem ((c.tc : Thread nD τ).loc main_v4) = allScores (predictions m c)
    ∧ r.2.mem ((c.tc : Thread nD τ).loc main_v6) = allBoxes 40 (predictions m c) (anchors m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).2 main_v4 (Pipeline.mem_restRefs_of main_v4 (by decide) (by decide))).trans (tail_scores m c),
      ((h c).2 main_v6 (Pipeline.mem_restRefs_of main_v6 (by decide) (by decide))).trans (tail_boxes m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.Kernel3Ideal.Decode

end
-- ==== Proof.Decode.Agree1.lean ====
/- The decoding of the second level: the reference's two results read place by place, and that call and reference agree. -/
module

public import proofs.«01_k».proof.Defs
public import proofs.«01_k».proof.Proof.Gen.Reference3Ideal.Run
public import proofs.«01_k».proof.Proof.Decode.Level1

@[expose] public section

set_option maxRecDepth 16384

noncomputable section

namespace Cert.Reference3Ideal.Decode

open Idealize.ShloMosaic Idealize.ShloMosaic.TcCoe Idealize.ShloMosaic.Tactic Idealize.SL.Sem
open Cert.Reference3Ideal Cert.Reference3Ideal.Value Cert.Decode

variable (x : FVec Ideal S4x3x40x40x85 .f32) (t : FVec Ideal S3x3x2 .f32)

/-- A row of the predictions: the numbers at anchor `a`, row `y`, column `u`. -/
theorem row_place (j : Fin 4) (a : Fin 3) (y u : Fin 40) (h : (a.val * 40 + y.val) * 40 + u.val < 4800) :
    row (Cert.Kernel3Ideal.Decode.rows x) j ⟨(a.val * 40 + y.val) * 40 + u.val, h⟩ = fun k => x (ix5 j a y u k) := by
  funext k
  unfold row Cert.Kernel3Ideal.Decode.rows
  pointwise []

theorem table_apply (a : Fin 3) (k : Fin 2) : Cert.Kernel3Ideal.Decode.table t (ix2 a k) = t (ix3 1 a k) := by
  unfold Cert.Kernel3Ideal.Decode.table
  pointwise []

variable (m : (ℓ : Loc nD τ sig) → Buf (Elt Ideal) ℓ) (c : Dev nD)

theorem corners_apply (j : Fin 4) (k : Fin 4) (a : Fin 3) (y u : Fin 40) (h : (a.val * 40 + y.val) * 40 + u.val < 4800) :
    (res_main_v67 m c : FVec Ideal S4x4x4800 .f32) (ix3 j k ⟨(a.val * 40 + y.val) * 40 + u.val, h⟩)
      = corner (fun i => (m ((c.tc : Thread nD τ).loc main_arg0) : FVec Ideal S4x3x40x40x85 .f32) (ix5 j a y u i))
        ((m ((c.tc : Thread nD τ).loc main_arg1) : FVec Ideal S3x3x2 .f32) (ix3 1 a 0))
        ((m ((c.tc : Thread nD τ).loc main_arg1) : FVec Ideal S3x3x2 .f32) (ix3 1 a 1)) y.val u.val k := by
  unfold res_main_v67
  fin_cases k
  · pointwise [fn_main_v14]
    rfl
  · pointwise [fn_main_v14]
    rfl
  · pointwise [fn_main_v14]
    rfl
  · pointwise [fn_main_v14]
    rfl

/-- The reference's scores, from its predictions. -/
def scoresOf : FVec Ideal S4x4800 .f32 := shapeCast S4x4800 (mulf (shapeCast S4x3x40x40 (extractStridedSlice S4x3x40x40x1 ![0, 0, 0, 0, 4] (Host.divf (broadcastInDim S4x3x40x40x85 ![] Gen.bcast_S_S4x3x40x40x85 (constant S_ .f32 0x3F800000#32)) (addf (broadcastInDim S4x3x40x40x85 ![] Gen.bcast_S_S4x3x40x40x85 (constant S_ .f32 0x3F800000#32)) (Host.exp (Host.negf x)))) Gen.slices_S4x3x40x40x85_S4x3x40x40x1_0_0_0_0_4) Gen.shapeCasts_S4x3x40x40x1_S4x3x40x40) (Host.reduce FloatOps.maximumf (extractStridedSlice S4x3x40x40x80 ![0, 0, 0, 0, 5] (Host.divf (broadcastInDim S4x3x40x40x85 ![] Gen.bcast_S_S4x3x40x40x85 (constant S_ .f32 0x3F800000#32)) (addf (broadcastInDim S4x3x40x40x85 ![] Gen.bcast_S_S4x3x40x40x85 (constant S_ .f32 0x3F800000#32)) (Host.exp (Host.negf x)))) Gen.slices_S4x3x40x40x85_S4x3x40x40x80_0_0_0_0_5) (constant S_ .f32 0xFF800000#32) Gen.reducesTo_S4x3x40x40x80_S4x3x40x40_d4 Gen.h_S_)) Gen.shapeCasts_S4x3x40x40_S4x4800

theorem scores_apply (j : Fin 4) (a : Fin 3) (y u : Fin 40) (h : (a.val * 40 + y.val) * 40 + u.val < 4800) :
    scoresOf x (ix2 j ⟨(a.val * 40 + y.val) * 40 + u.val, h⟩) = confidence fun k => x (ix5 j a y u k) := by
  unfold scoresOf confidence classMax
  rw [← max_logistic, ← bottom]
  pointwise []
  rfl

theorem scores : scoresOf x = allScores (Cert.Kernel3Ideal.Decode.rows x) :=
  scores_of 40 _ rfl _ fun j a y u h => by rw [scores_apply, row_place]

theorem boxes : res_main_v67 m c = allBoxes 40 (Cert.Kernel3Ideal.Decode.rows (m ((c.tc : Thread nD τ).loc main_arg0)))
    (Cert.Kernel3Ideal.Decode.table (m ((c.tc : Thread nD τ).loc main_arg1))) :=
  boxes_of 40 _ _ rfl _ fun j k a y u h => by rw [row_place, table_apply, table_apply]; exact corners_apply m c j k a y u h

/-- The reference's program ends with the scores and the boxes of all places, its arguments as launched. -/
theorem ends (ρ : Dev nD → PrngReg) : θ_run defs (onTc (τ := τ) (main (F := Ideal))) ⟨m, fun _ => 0, ρ⟩ (fun r => ∀ c : Dev nD,
    r.2.mem ((c.tc : Thread nD τ).loc main_v66) = allScores (Cert.Kernel3Ideal.Decode.rows (m ((c.tc : Thread nD τ).loc main_arg0)))
    ∧ r.2.mem ((c.tc : Thread nD τ).loc main_v67) = allBoxes 40 (Cert.Kernel3Ideal.Decode.rows (m ((c.tc : Thread nD τ).loc main_arg0)))
        (Cert.Kernel3Ideal.Decode.table (m ((c.tc : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c).1.trans (scores _), (h c).2.1.trans (boxes m c), (h c).2.2⟩) (run (F := Ideal) m ρ)

end Cert.Reference3Ideal.Decode

namespace Cert.Proof

open Idealize.ShloMosaic Idealize.SL.Sem

theorem frame3 : Cert.quiescent_Reference3Ideal (hReference3Ideal := Cert.Reference3Ideal.Gen.facts) := fun m g _ =>
  (θ_run _ _ _).mono (fun _ h => ⟨fun c => (h c).2.2, sem_eq_zero_of_no_sems (by decide) _⟩) (Cert.Reference3Ideal.Decode.ends m g)

/-- The second level's decoding call leaves the reference's scores and boxes. -/
theorem agree3 : Cert.algebraic_Kernel3Ideal_Reference3Ideal (hKernel3Ideal := Cert.Kernel3Ideal.Gen.facts)
    (hReference3Ideal := Cert.Reference3Ideal.Gen.facts) := fun m g m' g' _ hag =>
  ⟨_, _, Cert.Kernel3Ideal.Decode.ends m g, (θ_run _ _ _).mono (fun _ h c => by
    have := h c
    rw [(hag c).1, (hag c).2] at this
    rw [(hag c).1, (hag c).2]
    exact this) (Cert.Reference3Ideal.Decode.ends m' g')⟩

end Cert.Proof

end
-- ==== Proof.Decode.Level2.lean ====
/- The decoding call of the third level: what its two results are. -/
module

public import proofs.«01_k».proof.Proof.Gen.Kernel4Ideal.Frame
public import proofs.«01_k».proof.Proof.Decode.Result
public import Idealize.ShloMosaic.Lib.Pipeline.ValueKit.Geometry
public import Idealize.ShloMosaic.Lib.StableHlo.RunClose

@[expose] public section

set_option maxRecDepth 16384

noncomputable section

namespace Cert.Kernel4Ideal.Decode

open Idealize.ShloMosaic Idealize.ShloMosaic.TcCoe Idealize.ShloMosaic.Tactic
open Idealize.SL Idealize.SL.Sem
open Cert.Kernel4Ideal Cert.Kernel4Ideal.Gen Cert.Decode

/-! ## What the body leaves -/

section Body
variable (c : Dev nD) (i : grid0.Coords) (arg2 : Memref sig .tc .vmem S1x1200x85 .f32) (harg2 : arg2.IsWhole) (arg3 : Memref sig .tc .smem S3x2 .f32)
  (harg3 : arg3.IsWhole) (arg4 : Memref sig .tc .vmem S1x1x1x1200 .f32) (harg4 : arg4.IsWhole) (arg5 : Memref sig .tc .vmem S1x1x4x1200 .f32)
  (harg5 : arg5.IsWhole) (x0 : Vec Ideal S1x1200x85 .f32) (x1 : Vec Ideal S3x2 .f32)

theorem block_read : kernelRun0_A.sl.r c arg2 harg2 x0 = k0_pay2 x0 := by
  unfold kernelRun0_A.sl.r
  rw [View.readAt_full, harg2.read_unread]

theorem out_score : out0_A_2 c i arg2 harg2 arg3 harg3 arg4 harg4 arg5 harg5 x0 x1 = score x0 := by
  unfold out0_A_2
  dsimp only [kernelRun0_A]
  rw [View.read_writes_full, block_read]
  rfl

theorem words : (kernelRun0_A.sl.r_1 c arg3 harg3 x1 = x1 (ix2 0 0) ∧ kernelRun0_A.sl.r_2 c arg3 harg3 x1 = x1 (ix2 1 0)
      ∧ kernelRun0_A.sl.r_3 c arg3 harg3 x1 = x1 (ix2 2 0)) ∧ kernelRun0_A.sl.r_4 c arg3 harg3 x1 = x1 (ix2 0 1)
      ∧ kernelRun0_A.sl.r_10 c arg3 harg3 x1 = x1 (ix2 1 1) ∧ kernelRun0_A.sl.r_11 c arg3 harg3 x1 = x1 (ix2 2 1) := by
  have p (i : S3x2.Idx) (off : Fin 2 → ℕ) (h0 : off 0 = (i 0).val) (h1 : off 1 = (i 1).val) : ∀ a : Fin 2, off a = (i a).val :=
    Fin.forall_fin_two.mpr ⟨h0, h1⟩
  exact ⟨⟨word arg3 harg3 x1 _ _ _ _ (p _ _ rfl rfl), word arg3 harg3 x1 _ _ _ _ (p _ _ rfl rfl), word arg3 harg3 x1 _ _ _ _ (p _ _ rfl rfl)⟩,
    word arg3 harg3 x1 _ _ _ _ (p _ _ rfl rfl), word arg3 harg3 x1 _ _ _ _ (p _ _ rfl rfl), word arg3 harg3 x1 _ _ _ _ (p _ _ rfl rfl)⟩

theorem out_corners : out0_A_3 c i arg2 harg2 arg3 harg3 arg4 harg4 arg5 harg5 x0 x1
    = corners (BitVec.ofNat 32 (20 * 20)) (BitVec.ofNat 32 20) (BitVec.ofNat 32 (i 1).val) x0 (fun a => x1 (ix2 a 0)) (fun a => x1 (ix2 a 1)) := by
  obtain ⟨⟨w1, w2, w3⟩, w4, w5, w6⟩ := words c arg3 harg3 x1
  unfold out0_A_3
  dsimp only [kernelRun0_A]
  rw [View.read_writes_full]
  unfold kernelRun0_A.sl.r_12 kernelRun0_A.sl.r_13 kernelRun0_A.sl.r_14 kernelRun0_A.sl.r_15 kernelRun0_A.sl.r_7
  rw [block_read, w1, w2, w3, w4, w5, w6]
  rfl

end Body

/-! ## The arrays the call reads and leaves -/

/-- The predictions, one row for each place. -/
def rows (x : FVec Ideal S4x3x20x20x85 .f32) : FVec Ideal S4x1200x85 .f32 := shapeCast S4x1200x85 x shapeCasts_S4x3x20x20x85_S4x1200x85

/-- The level's anchors. -/
def table (a : FVec Ideal S3x3x2 .f32) : FVec Ideal S3x2 .f32 :=
  shapeCast S3x2 (extractStridedSlice S1x3x2 ![2, 0, 0] a slices_S3x3x2_S1x3x2_2_0_0) shapeCasts_S1x3x2_S3x2

variable (m : (ℓ : Loc nD τ sig) → Buf (Elt Ideal) ℓ) (c : Dev nD)

abbrev predictions := rows (m ((c : Thread nD τ).loc main_arg0))
abbrev anchors := table (m ((c : Thread nD τ).loc main_arg1))

theorem host_rows (W : Valuation τ sig (Elt Ideal)) : StableHlo.after hostOps0 W main_v2 = rows (W main_arg0) := by after_results_simp; rfl
theorem host_table (W : Valuation τ sig (Elt Ideal)) : StableHlo.after hostOps0 W main_v1 = table (W main_arg1) := by after_results_simp; rfl

theorem at_rows : V m c main_v2 = predictions m c := host_rows _
theorem at_table : V m c main_v1 = anchors m c := host_table _

theorem covers : (cfg0.win 2).Covers ∧ (cfg0.win 3).Covers := by decide +kernel

/-- Which block each window has at a point. -/
theorem blocks : ∀ t : Fin grid0.N, win0_0.index t = ![t.val, 0, 0] ∧ win0_1.index t = ![0, 0]
    ∧ win0_2.index t = ![t.val, 0, 0, 0] ∧ win0_3.index t = ![t.val, 0, 0, 0]
    ∧ (grid0.coords t 1).val = 0 := by decide +kernel

theorem block_rows (t : Fin cfg0.N) (r : Fin 1200) (k : Fin 85) (j : Fin 4) (q : Fin 1200) (hj : j.val = t.val) (hq : q.val = 0 * 1200 + r.val) :
    (iblk m c 0 t : Vec Ideal S1x1200x85 .f32) (ix3 (0 : Fin 1) r k) = predictions m c (ix3 j q k) := by
  rw [← at_rows]
  unfold iblk
  have e := (blocks t).1
  blk_simp
  refine congrArg (V m c main_v2) (funext fun a => Fin.ext ?_)
  match a with
  | ⟨0, _⟩ => blk_simp [e]; omega
  | ⟨1, _⟩ => blk_simp [e]; omega
  | ⟨2, _⟩ => blk_simp [e]

theorem block_table (t : Fin cfg0.N) : (iblk m c 1 t : Vec Ideal S3x2 .f32) = anchors m c := by
  rw [← at_table]
  unfold iblk
  have e := (blocks t).2.1
  funext x
  blk_simp
  refine congrArg (V m c main_v1) (funext fun a => Fin.ext ?_)
  match a with
  | ⟨0, _⟩ => blk_simp [e]
  | ⟨1, _⟩ => blk_simp [e]

/-- What the call leaves: the scores block by block, and the boxes. -/
abbrev leftScores : FVec Ideal S4x1x1x1200 .f32 := scoreBlocks (B := 1) (predictions m c) rfl
abbrev leftBoxes : FVec Ideal S4x1x4x1200 .f32 := boxBlocks (B := 1) 20 (predictions m c) (anchors m c) rfl

theorem final_scores : (dats m 0 c).arrAt 2 cfg0.N = leftScores m c := by
  refine (dats m 0 c).arrAt_eq_of_covers 2 _ covers.1 fun t hf y => ?_
  have e := (blocks t).2.2.1
  rw [after0_2]
  unfold outsAt0
  dsimp only
  rw [out_score]
  have y0 : (y 0).val < 1 := (y 0).isLt
  have y1 : (y 1).val < 1 := (y 1).isLt
  exact score_at (predictions m c) rfl _ _ _ (block_rows m c t) y _ (by blk_simp [e]) (by blk_simp [e]) (by blk_simp [e])

theorem final_boxes : (dats m 0 c).arrAt 3 cfg0.N = leftBoxes m c := by
  refine (dats m 0 c).arrAt_eq_of_covers 3 _ covers.2 fun t hf y => ?_
  have e := (blocks t).2.2.2.1
  rw [after0_3]
  unfold outsAt0
  dsimp only
  rw [out_corners, block_table, (blocks t).2.2.2.2]
  have y0 : (y 0).val < 1 := (y 0).isLt
  have y1 : (y 1).val < 1 := (y 1).isLt
  exact box_at 20 (predictions m c) (anchors m c) rfl _ _ _ (block_rows m c t) (by decide) rfl y _ (by blk_simp [e]) (by blk_simp [e]) (by blk_simp [e]) (by blk_simp [e])

/-! ## The results -/

theorem host_scores (W : Valuation τ sig (Elt Ideal)) : StableHlo.after hostOps1 W main_v4
    = shapeCast S4x1200 (W main_v3_0 : FVec Ideal S4x1x1x1200 .f32) shapeCasts_S4x1x1x1200_S4x1200 := by after_results_simp; rfl
theorem host_boxes (W : Valuation τ sig (Elt Ideal)) : StableHlo.after hostOps1 W main_v6
    = shapeCast S4x4x1200 (transpose S4x4x1x1200 [0, 2, 1, 3] (W main_v3_1 : FVec Ideal S4x1x4x1200 .f32) transposes_S4x1x4x1200_S4x4x1x1200_0_2_1_3)
      shapeCasts_S4x4x1x1200_S4x4x1200 := by after_results_simp; rfl

theorem lay_scores (s : FVec Ideal S4x1x1x1200 .f32) (j : Fin 4) (b : Fin 1) (r : Fin 1200) (h : b.val * 1200 + r.val < 1200) :
    shapeCast S4x1200 s shapeCasts_S4x1x1x1200_S4x1200 (ix2 j ⟨b.val * 1200 + r.val, h⟩) = s (ix4 j b 0 r) := by
  pointwise []
  rw [Subsingleton.elim b 0]

theorem lay_boxes (s : FVec Ideal S4x1x4x1200 .f32) (j k : Fin 4) (b : Fin 1) (r : Fin 1200) (h : b.val * 1200 + r.val < 1200) :
    shapeCast S4x4x1200 (transpose S4x4x1x1200 [0, 2, 1, 3] s transposes_S4x1x4x1200_S4x4x1x1200_0_2_1_3) shapeCasts_S4x4x1x1200_S4x4x1200
      (ix3 j k ⟨b.val * 1200 + r.val, h⟩) = s (ix4 j b k r) := by
  pointwise []
  rw [Subsingleton.elim b 0]

theorem scores_eq : shapeCast S4x1200 (leftScores m c) shapeCasts_S4x1x1x1200_S4x1200 = allScores (predictions m c) :=
  scores_laid _ rfl _ fun _ _ _ => lay_scores _ _ _ _ _

theorem boxes_eq : shapeCast S4x4x1200 (transpose S4x4x1x1200 [0, 2, 1, 3] (leftBoxes m c) transposes_S4x1x4x1200_S4x4x1x1200_0_2_1_3)
    shapeCasts_S4x4x1x1200_S4x4x1200 = allBoxes 20 (predictions m c) (anchors m c) :=
  boxes_laid 20 _ _ rfl _ fun _ _ _ _ => lay_boxes _ _ _ _ _ _

theorem tail_scores : Pipeline.afterTail₀ cfgs (dats m) 0 (V0 m) [hostOps1] c main_v4 = allScores (predictions m c) := by
  have h := Pipeline.withArrays_arr spec0 (by decide) c (V0 m c) (fun w => (dats m 0 c).arrAt w (cfgs 0).N) 2
  refine (host_scores _).trans ?_
  rw [← scores_eq, ← final_scores]
  exact congrArg (fun v => shapeCast S4x1200 v shapeCasts_S4x1x1x1200_S4x1200) h

theorem tail_boxes : Pipeline.afterTail₀ cfgs (dats m) 0 (V0 m) [hostOps1] c main_v6 = allBoxes 20 (predictions m c) (anchors m c) := by
  have h := Pipeline.withArrays_arr spec0 (by decide) c (V0 m c) (fun w => (dats m 0 c).arrAt w (cfgs 0).N) 3
  refine (host_boxes _).trans ?_
  rw [← boxes_eq, ← final_boxes]
  exact congrArg (fun v => shapeCast S4x4x1200 (transpose S4x4x1x1200 [0, 2, 1, 3] v transposes_S4x1x4x1200_S4x4x1x1200_0_2_1_3)
    shapeCasts_S4x4x1x1200_S4x4x1200) h

/-- The call's program ends with the scores and the boxes of all places, its arguments as launched. -/
theorem ends (ρ : Dev nD → PrngReg) : θ_run defs (onTc (τ := τ) (main (F := Ideal))) ⟨m, fun _ => 0, ρ⟩ (fun r => ∀ c : Dev nD,
    r.2.mem ((c.tc : Thread nD τ).loc main_v4) = allScores (predictions m c)
    ∧ r.2.mem ((c.tc : Thread nD τ).loc main_v6) = allBoxes 20 (predictions m c) (anchors m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).2 main_v4 (Pipeline.mem_restRefs_of main_v4 (by decide) (by decide))).trans (tail_scores m c),
      ((h c).2 main_v6 (Pipeline.mem_restRefs_of main_v6 (by decide) (by decide))).trans (tail_boxes m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m ρ)

end Cert.Kernel4Ideal.Decode

end
-- ==== Proof.Decode.Agree2.lean ====
/- The decoding of the third level: the reference's two results read place by place, and that call and reference agree. -/
module

public import proofs.«01_k».proof.Defs
public import proofs.«01_k».proof.Proof.Gen.Reference4Ideal.Run
public import proofs.«01_k».proof.Proof.Decode.Level2

@[expose] public section

set_option maxRecDepth 16384

noncomputable section

namespace Cert.Reference4Ideal.Decode

open Idealize.ShloMosaic Idealize.ShloMosaic.TcCoe Idealize.ShloMosaic.Tactic Idealize.SL.Sem
open Cert.Reference4Ideal Cert.Reference4Ideal.Value Cert.Decode

variable (x : FVec Ideal S4x3x20x20x85 .f32) (t : FVec Ideal S3x3x2 .f32)

/-- A row of the predictions: the numbers at anchor `a`, row `y`, column `u`. -/
theorem row_place (j : Fin 4) (a : Fin 3) (y u : Fin 20) (h : (a.val * 20 + y.val) * 20 + u.val < 1200) :
    row (Cert.Kernel4Ideal.Decode.rows x) j ⟨(a.val * 20 + y.val) * 20 + u.val, h⟩ = fun k => x (ix5 j a y u k) := by
  funext k
  unfold row Cert.Kernel4Ideal.Decode.rows
  pointwise []

theorem table_apply (a : Fin 3) (k : Fin 2) : Cert.Kernel4Ideal.Decode.table t (ix2 a k) = t (ix3 2 a k) := by
  unfold Cert.Kernel4Ideal.Decode.table
  pointwise []

variable (m : (ℓ : Loc nD τ sig) → Buf (Elt Ideal) ℓ) (c : Dev nD)

theorem corners_apply (j : Fin 4) (k : Fin 4) (a : Fin 3) (y u : Fin 20) (h : (a.val * 20 + y.val) * 20 + u.val < 1200) :
    (res_main_v67 m c : FVec Ideal S4x4x1200 .f32) (ix3 j k ⟨(a.val * 20 + y.val) * 20 + u.val, h⟩)
      = corner (fun i => (m ((c.tc : Thread nD τ).loc main_arg0) : FVec Ideal S4x3x20x20x85 .f32) (ix5 j a y u i))
        ((m ((c.tc : Thread nD τ).loc main_arg1) : FVec Ideal S3x3x2 .f32) (ix3 2 a 0))
        ((m ((c.tc : Thread nD τ).loc main_arg1) : FVec Ideal S3x3x2 .f32) (ix3 2 a 1)) y.val u.val k := by
  unfold res_main_v67
  fin_cases k
  · pointwise [fn_main_v14]
    rfl
  · pointwise [fn_main_v14]
    rfl
  · pointwise [fn_main_v14]
    rfl
  · pointwise [fn_main_v14]
    rfl

/-- The reference's scores, from its predictions. -/
def scoresOf : FVec Ideal S4x1200 .f32 := shapeCast S4x1200 (mulf (shapeCast S4x3x20x20 (extractStridedSlice S4x3x20x20x1 ![0, 0, 0, 0, 4] (Host.divf (broadcastInDim S4x3x20x20x85 ![] Gen.bcast_S_S4x3x20x20x85 (constant S_ .f32 0x3F800000#32)) (addf (broadcastInDim S4x3x20x20x85 ![] Gen.bcast_S_S4x3x20x20x85 (constant S_ .f32 0x3F800000#32)) (Host.exp (Host.negf x)))) Gen.slices_S4x3x20x20x85_S4x3x20x20x1_0_0_0_0_4) Gen.shapeCasts_S4x3x20x20x1_S4x3x20x20) (Host.reduce FloatOps.maximumf (extractStridedSlice S4x3x20x20x80 ![0, 0, 0, 0, 5] (Host.divf (broadcastInDim S4x3x20x20x85 ![] Gen.bcast_S_S4x3x20x20x85 (constant S_ .f32 0x3F800000#32)) (addf (broadcastInDim S4x3x20x20x85 ![] Gen.bcast_S_S4x3x20x20x85 (constant S_ .f32 0x3F800000#32)) (Host.exp (Host.negf x)))) Gen.slices_S4x3x20x20x85_S4x3x20x20x80_0_0_0_0_5) (constant S_ .f32 0xFF800000#32) Gen.reducesTo_S4x3x20x20x80_S4x3x20x20_d4 Gen.h_S_)) Gen.shapeCasts_S4x3x20x20_S4x1200

theorem scores_apply (j : Fin 4) (a : Fin 3) (y u : Fin 20) (h : (a.val * 20 + y.val) * 20 + u.val < 1200) :
    scoresOf x (ix2 j ⟨(a.val * 20 + y.val) * 20 + u.val, h⟩) = confidence fun k => x (ix5 j a y u k) := by
  unfold scoresOf confidence classMax
  rw [← max_logistic, ← bottom]
  pointwise []
  rfl

theorem scores : scoresOf x = allScores (Cert.Kernel4Ideal.Decode.rows x) :=
  scores_of 20 _ rfl _ fun j a y u h => by rw [scores_apply, row_place]

theorem boxes : res_main_v67 m c = allBoxes 20 (Cert.Kernel4Ideal.Decode.rows (m ((c.tc : Thread nD τ).loc main_arg0)))
    (Cert.Kernel4Ideal.Decode.table (m ((c.tc : Thread nD τ).loc main_arg1))) :=
  boxes_of 20 _ _ rfl _ fun j k a y u h => by rw [row_place, table_apply, table_apply]; exact corners_apply m c j k a y u h

/-- The reference's program ends with the scores and the boxes of all places, its arguments as launched. -/
theorem ends (ρ : Dev nD → PrngReg) : θ_run defs (onTc (τ := τ) (main (F := Ideal))) ⟨m, fun _ => 0, ρ⟩ (fun r => ∀ c : Dev nD,
    r.2.mem ((c.tc : Thread nD τ).loc main_v66) = allScores (Cert.Kernel4Ideal.Decode.rows (m ((c.tc : Thread nD τ).loc main_arg0)))
    ∧ r.2.mem ((c.tc : Thread nD τ).loc main_v67) = allBoxes 20 (Cert.Kernel4Ideal.Decode.rows (m ((c.tc : Thread nD τ).loc main_arg0)))
        (Cert.Kernel4Ideal.Decode.table (m ((c.tc : Thread nD τ).loc main_arg1)))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨(h c).1.trans (scores _), (h c).2.1.trans (boxes m c), (h c).2.2⟩) (run (F := Ideal) m ρ)

end Cert.Reference4Ideal.Decode

namespace Cert.Proof

open Idealize.ShloMosaic Idealize.SL.Sem

theorem frame4 : Cert.quiescent_Reference4Ideal (hReference4Ideal := Cert.Reference4Ideal.Gen.facts) := fun m g _ =>
  (θ_run _ _ _).mono (fun _ h => ⟨fun c => (h c).2.2, sem_eq_zero_of_no_sems (by decide) _⟩) (Cert.Reference4Ideal.Decode.ends m g)

/-- The third level's decoding call leaves the reference's scores and boxes. -/
theorem agree4 : Cert.algebraic_Kernel4Ideal_Reference4Ideal (hKernel4Ideal := Cert.Kernel4Ideal.Gen.facts)
    (hReference4Ideal := Cert.Reference4Ideal.Gen.facts) := fun m g m' g' _ hag =>
  ⟨_, _, Cert.Kernel4Ideal.Decode.ends m g, (θ_run _ _ _).mono (fun _ h c => by
    have := h c
    rw [(hag c).1, (hag c).2] at this
    rw [(hag c).1, (hag c).2]
    exact this) (Cert.Reference4Ideal.Decode.ends m' g')⟩

end Cert.Proof

end
-- ==== Proof.lean ====
/- The claims: for each program the frames, that the idealized kernel is the printed one, and that kernel and reference agree. -/
module

public import proofs.«01_k».proof.Defs
public import proofs.«01_k».proof.Proof.Run.Frames
public import proofs.«01_k».proof.Proof.Gen.ReferenceIdeal.Run
public import proofs.«01_k».proof.Proof.Value.Agree
public import proofs.«01_k».proof.Proof.Gen.Kernel2.Frame
public import proofs.«01_k».proof.Proof.Decode.Agree0
public import proofs.«01_k».proof.Proof.Gen.Kernel3.Frame
public import proofs.«01_k».proof.Proof.Decode.Agree1
public import proofs.«01_k».proof.Proof.Gen.Kernel4.Frame
public import proofs.«01_k».proof.Proof.Decode.Agree2

@[expose] public section

noncomputable section

namespace Cert.Proof

open Idealize.ShloMosaic Idealize.SL.Sem

/-- The reference's frame: its run ends with the arguments as launched, and it has no semaphore. -/
theorem reference_frame : Cert.quiescent_ReferenceIdeal (hReferenceIdeal := Cert.ReferenceIdeal.Gen.facts) := fun m g _ =>
  (θ_run _ _ _).mono (fun _ h => ⟨fun c => (h c).2, Idealize.ShloMosaic.sem_eq_zero_of_no_sems (by decide) _⟩) (Cert.ReferenceIdeal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m g _ => Cert.Kernel.Run.frame m g, fun m g _ => Cert.KernelIdeal.Run.frame m g, reference_frame,
  fun m g _ => Cert.Kernel2.Gen.frame m g, fun m g _ => Cert.Kernel2Ideal.Gen.frame m g, frame2,
  fun m g _ => Cert.Kernel3.Gen.frame m g, fun m g _ => Cert.Kernel3Ideal.Gen.frame m g, frame3,
  fun m g _ => Cert.Kernel4.Gen.frame m g, fun m g _ => Cert.Kernel4Ideal.Gen.frame m g, frame4,
  trivial, agree, trivial, agree2, trivial, agree3, trivial, agree4⟩

end Cert.Proof

end
